-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_ones_lane [hPre_finite_scores_ones_lane : Cert.Pre_finite_scores_ones_lane.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ones_lane [hPre_finite_scores_ones_lane : Cert.Pre_finite_scores_ones_lane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores [hPre_finite_scores : Cert.Pre_finite_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores [hPre_finite_scores : Cert.Pre_finite_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_ones_lane [hKernelIdeal : Cert.KernelIdeal.Facts] [hPre_finite_scores_ones_lane : Cert.Pre_finite_scores_ones_lane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_ones_lane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ones_lane [hReferenceIdeal : Cert.ReferenceIdeal.Facts] [hPre_finite_scores_ones_lane : Cert.Pre_finite_scores_ones_lane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ones_lane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_scores [hKernel7Ideal : Cert.Kernel7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_scores [hReference7Ideal : Cert.Reference7Ideal.Facts] [hPre_finite_scores : Cert.Pre_finite_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_on_latent_rows_pre_finite_scores_ones_lane [hKernelIdeal : Cert.KernelIdeal.Facts] [hReferenceIdeal : Cert.ReferenceIdeal.Facts] [hPre_finite_scores_ones_lane : Cert.Pre_finite_scores_ones_lane.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_ones_lane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8448, 512]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 8448, 512]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v25) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v103) = v0 c
          ∧ r.2.mem ((c.tc : Thread Cert.Reference3Ideal.nD Cert.Reference3Ideal.τ).loc Cert.Reference3Ideal.main_v104) = v1 c
          ∧ r.2.mem ((c.tc : Thread Cert.Reference3Ideal.nD Cert.Reference3Ideal.τ).loc Cert.Reference3Ideal.main_v105) = v2 c
          ∧ r.2.mem ((c.tc : Thread Cert.Reference3Ideal.nD Cert.Reference3Ideal.τ).loc Cert.Reference3Ideal.main_v106) = v3 c
          ∧ r.2.mem ((c.tc : Thread Cert.Reference3Ideal.nD Cert.Reference3Ideal.τ).loc Cert.Reference3Ideal.main_v36) = v4 c
          ∧ r.2.mem ((c.tc : Thread Cert.Reference3Ideal.nD Cert.Reference3Ideal.τ).loc Cert.Reference3Ideal.main_v107) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_scores [hKernel7Ideal : Cert.Kernel7Ideal.Facts] [hReference7Ideal : Cert.Reference7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores_ones_lane : Cert.Pre_finite_scores_ones_lane.Facts) (hPre_finite_scores : Cert.Pre_finite_scores.Facts) (hOn_latent_rows : Cert.On_latent_rows.Facts),
    quiescent_Kernel (hKernel := hKernel)
    ∧ quiescent_KernelIdeal (hKernelIdeal := hKernelIdeal)
    ∧ quiescent_KernelIdeal_pre_finite_scores_ones_lane (hKernelIdeal := hKernelIdeal) (hPre_finite_scores_ones_lane := hPre_finite_scores_ones_lane)
    ∧ quiescent_ReferenceIdeal (hReferenceIdeal := hReferenceIdeal)
    ∧ quiescent_ReferenceIdeal_pre_finite_scores_ones_lane (hReferenceIdeal := hReferenceIdeal) (hPre_finite_scores_ones_lane := hPre_finite_scores_ones_lane)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_scores (hKernel7Ideal := hKernel7Ideal) (hPre_finite_scores := hPre_finite_scores)
    ∧ quiescent_Reference7Ideal (hReference7Ideal := hReference7Ideal)
    ∧ quiescent_Reference7Ideal_pre_finite_scores (hReference7Ideal := hReference7Ideal) (hPre_finite_scores := hPre_finite_scores)
    ∧ preserves_Kernel_KernelIdeal
    ∧ algebraic_KernelIdeal_ReferenceIdeal_on_latent_rows_pre_finite_scores_ones_lane (hKernelIdeal := hKernelIdeal) (hReferenceIdeal := hReferenceIdeal) (hPre_finite_scores_ones_lane := hPre_finite_scores_ones_lane) (hOn_latent_rows := hOn_latent_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_scores (hKernel7Ideal := hKernel7Ideal) (hReference7Ideal := hReference7Ideal) (hPre_finite_scores := hPre_finite_scores)
-- ==== On_latent_rows.lean ====
abbrev S4x8448x1024 : Shape := ⟨3, ![4, 8448, 1024]⟩
abbrev S4x8448x512 : Shape := ⟨3, ![4, 8448, 512]⟩
abbrev S_ : Shape := ⟨0, ![]⟩

class Facts : Prop where
  bcast_S_S4x8448x512 : S_.BroadcastsInDim S4x8448x512 (![] : Fin 0 → Fin S4x8448x512.rank)

variable [Facts]

def fn {F : FTy → Type} [FloatOps F] (main_arg0 : FVec F S4x8448x1024 .bf16) (main_arg1 : FVec F S4x8448x1024 .bf16) (main_arg2 : FVec F S4x8448x1024 .bf16) : IVec S4x8448x512 1 :=
  let main_v0 : IVec S4x8448x512 32 := iotaInDim S4x8448x512 32 1
  let main_c : IVec S_ 32 := constantI S_ 32 8192#32
  let main_v1 : IVec S4x8448x512 32 := broadcastInDim S4x8448x512 ![] bcast_S_S4x8448x512 main_c
  let main_v2 : IVec S4x8448x512 1 := cmpi .slt main_v0 main_v1
  main_v2
-- ==== Pre_finite_scores.lean ====
abbrev S4x8448x1024 : Shape := ⟨3, ![4, 8448, 1024]⟩
abbrev S8x4x2x256x768 : Shape := ⟨5, ![8, 4, 2, 256, 768]⟩
abbrev S_ : Shape := ⟨0, ![]⟩

class Facts : Prop where
  bitsLt_bf16_f32 : FTy.bits .bf16 < FTy.bits .f32
  bcast_S_S4x8448x1024 : S_.BroadcastsInDim S4x8448x1024 (![] : Fin 0 → Fin S4x8448x1024.rank)
  bcast_S_S8x4x2x256x768 : S_.BroadcastsInDim S8x4x2x256x768 (![] : Fin 0 → Fin S8x4x2x256x768.rank)

variable [Facts]

def fn {F : FTy → Type} [FloatOps F] (main_arg0 : FVec F S4x8448x1024 .bf16) (main_arg1 : FVec F S4x8448x1024 .bf16) (main_arg2 : FVec F S4x8448x1024 .bf16) (main_arg3 : FVec F S8x4x2x256x768 .f32) : IVec S4x8448x1024 1 × IVec S4x8448x1024 1 × IVec S8x4x2x256x768 1 :=
  let main_v0 : FVec F S4x8448x1024 .f32 := (extf .f32 · bitsLt_bf16_f32) main_arg0
  let main_v1 : FVec F S4x8448x1024 .f32 := Host.absf main_v0
  let main_cst : FVec F S_ .f32 := constant S_ .f32 0x7F800000#32
  let main_v2 : FVec F S4x8448x1024 .f32 := broadcastInDim S4x8448x1024 ![] bcast_S_S4x8448x1024 main_cst
  let main_v3 : IVec S4x8448x1024 1 := cmpf .olt main_v1 main_v2
  let main_v4 : FVec F S4x8448x1024 .f32 := (extf .f32 · bitsLt_bf16_f32) main_arg1
  let main_v5 : FVec F S4x8448x1024 .f32 := Host.absf main_v4
  let main_cst_0 : FVec F S_ .f32 := constant S_ .f32 0x7F800000#32
  let main_v6 : FVec F S4x8448x1024 .f32 := broadcastInDim S4x8448x1024 ![] bcast_S_S4x8448x1024 main_cst_0
  let main_v7 : IVec S4x8448x1024 1 := cmpf .olt main_v5 main_v6
  let main_v8 : FVec F S8x4x2x256x768 .f32 := Host.absf main_arg3
  let main_cst_1 : FVec F S_ .f32 := constant S_ .f32 0x7F800000#32
  let main_v9 : FVec F S8x4x2x256x768 .f32 := broadcastInDim S8x4x2x256x768 ![] bcast_S_S8x4x2x256x768 main_cst_1
  let main_v10 : IVec S8x4x2x256x768 1 := cmpf .olt main_v8 main_v9
  (main_v3, main_v7, main_v10)
-- ==== Pre_finite_scores_ones_lane.lean ====
abbrev S4x8448x1024 : Shape := ⟨3, ![4, 8448, 1024]⟩
abbrev S_ : Shape := ⟨0, ![]⟩
abbrev S4x8448x4x256 : Shape := ⟨4, ![4, 8448, 4, 256]⟩
abbrev S4x8448x4x1 : Shape := ⟨4, ![4, 8448, 4, 1]⟩
abbrev S4x8448x4 : Shape := ⟨3, ![4, 8448, 4]⟩

class Facts : Prop where
  bitsLt_bf16_f32 : FTy.bits .bf16 < FTy.bits .f32
  bcast_S_S4x8448x1024 : S_.BroadcastsInDim S4x8448x1024 (![] : Fin 0 → Fin S4x8448x1024.rank)
  shapeCasts_S4x8448x1024_S4x8448x4x256 : S4x8448x1024.ShapeCasts S4x8448x4x256
  slices_S4x8448x4x256_S4x8448x4x1_0_0_0_128 : S4x8448x4x256.Slices ![0, 0, 0, 128] S4x8448x4x1
  shapeCasts_S4x8448x4x1_S4x8448x4 : S4x8448x4x1.ShapeCasts S4x8448x4
  bcast_S_S4x8448x4 : S_.BroadcastsInDim S4x8448x4 (![] : Fin 0 → Fin S4x8448x4.rank)

variable [Facts]

def fn {F : FTy → Type} [FloatOps F] (main_arg0 : FVec F S4x8448x1024 .bf16) (main_arg1 : FVec F S4x8448x1024 .bf16) (main_arg2 : FVec F S4x8448x1024 .bf16) : IVec S4x8448x1024 1 × IVec S4x8448x1024 1 × IVec S4x8448x4 1 :=
  let main_v0 : FVec F S4x8448x1024 .f32 := (extf .f32 · bitsLt_bf16_f32) main_arg0
  let main_v1 : FVec F S4x8448x1024 .f32 := Host.absf main_v0
  let main_cst : FVec F S_ .f32 := constant S_ .f32 0x7F800000#32
  let main_v2 : FVec F S4x8448x1024 .f32 := broadcastInDim S4x8448x1024 ![] bcast_S_S4x8448x1024 main_cst
  let main_v3 : IVec S4x8448x1024 1 := cmpf .olt main_v1 main_v2
  let main_v4 : FVec F S4x8448x1024 .f32 := (extf .f32 · bitsLt_bf16_f32) main_arg1
  let main_v5 : FVec F S4x8448x1024 .f32 := Host.absf main_v4
  let main_cst_0 : FVec F S_ .f32 := constant S_ .f32 0x7F800000#32
  let main_v6 : FVec F S4x8448x1024 .f32 := broadcastInDim S4x8448x1024 ![] bcast_S_S4x8448x1024 main_cst_0
  let main_v7 : IVec S4x8448x1024 1 := cmpf .olt main_v5 main_v6
  let main_v8 : FVec F S4x8448x4x256 .bf16 := shapeCast S4x8448x4x256 main_arg2 shapeCasts_S4x8448x1024_S4x8448x4x256
  let main_v9 : FVec F S4x8448x4x1 .bf16 := (extractStridedSlice S4x8448x4x1 ![0, 0, 0, 128] · slices_S4x8448x4x256_S4x8448x4x1_0_0_0_128) main_v8
  let main_v10 : FVec F S4x8448x4 .bf16 := shapeCast S4x8448x4 main_v9 shapeCasts_S4x8448x4x1_S4x8448x4
  let main_v11 : FVec F S4x8448x4 .f32 := (extf .f32 · bitsLt_bf16_f32) main_v10
  let main_cst_1 : FVec F S_ .f32 := constant S_ .f32 0x3F800000#32
  let main_v12 : FVec F S4x8448x4 .f32 := broadcastInDim S4x8448x4 ![] bcast_S_S4x8448x4 main_cst_1
  let main_v13 : IVec S4x8448x4 1 := cmpf .oeq main_v11 main_v12
  (main_v3, main_v7, main_v13)
-- ==== Kernel.lean ====
abbrev S4x8448x1024 : Shape := ⟨3, ![4, 8448, 1024]⟩
abbrev S4x8448x512 : Shape := ⟨3, ![4, 8448, 512]⟩
abbrev S1x512x256 : Shape := ⟨3, ![1, 512, 256]⟩
abbrev S1x8448x256 : Shape := ⟨3, ![1, 8448, 256]⟩
abbrev S1x512x128 : Shape := ⟨3, ![1, 512, 128]⟩
abbrev S512x128 : Shape := ⟨2, ![512, 128]⟩
abbrev S512x1 : Shape := ⟨2, ![512, 1]⟩
abbrev S512x256 : Shape := ⟨2, ![512, 256]⟩
abbrev S1x768x128 : Shape := ⟨3, ![1, 768, 128]⟩
abbrev S768x128 : Shape := ⟨2, ![768, 128]⟩
abbrev S512x768 : Shape := ⟨2, ![512, 768]⟩
abbrev S512 : Shape := ⟨1, ![512]⟩
abbrev S1x768x256 : Shape := ⟨3, ![1, 768, 256]⟩
abbrev S768x256 : Shape := ⟨2, ![768, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x8448x1024, .bf16⟩
  | .hbm, ⟨1, _⟩ => ⟨S4x8448x1024, .bf16⟩
  | .hbm, ⟨2, _⟩ => ⟨S4x8448x1024, .bf16⟩
  | .hbm, ⟨3, _⟩ => ⟨S4x8448x512, .f32⟩
  | .local _ .vmem, ⟨0, _⟩ => ⟨S1x512x256, .bf16⟩
  | .local _ .vmem, ⟨1, _⟩ => ⟨S1x512x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x512x128, .f32⟩
  | .local _ .vmem, ⟨7, _⟩ => ⟨S1x512x128, .f32⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

@[reducible] def k0_t1_loop : Scf.Loop 32 :=
  let c0_i32 : BitVec 32 := 0#32
  let c11_i32 : BitVec 32 := 11#32
  let v4 : BitVec 32 := Scalar.addi c0_i32 c11_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c768_i32 : BitVec 32 := 768#32
  let v27 : BitVec 32 := Scalar.muli arg7 c768_i32
  v27
def k0_off1 (k0_t1 : Fin k0_t1_loop.trips) : Fin 3 → Nat :=
  let c0_15 : Index := 0#32
  let c0_i32 : BitVec 32 := 0#32
  let c1_i32 : BitVec 32 := 1#32
  let arg7 : BitVec 32 := Scf.iv c0_i32 c1_i32 k0_t1
  let c768_i32 : BitVec 32 := 768#32
  let v27 : BitVec 32 := Scalar.muli arg7 c768_i32
  let v28 : BitVec 32 := v27
  let v29 : Index := Scalar.indexCast v28
  let c0_16 : Index := 0#32
  ![0, v29.toNat, 0]
def k0_off2 (k0_t1 : Fin k0_t1_loop.trips) : Fin 3 → Nat :=
  let c0_19 : Index := 0#32
  let c0_i32 : BitVec 32 := 0#32
  let c1_i32 : BitVec 32 := 1#32
  let arg7 : BitVec 32 := Scf.iv c0_i32 c1_i32 k0_t1
  let c768_i32 : BitVec 32 := 768#32
  let v27 : BitVec 32 := Scalar.muli arg7 c768_i32
  let v28 : BitVec 32 := v27
  let v42 : Index := Scalar.indexCast v28
  let c0_20 : Index := 0#32
  ![0, v42.toNat, 0]
@[reducible] def k0_t2_loop : Scf.Loop 32 :=
  let c0_i32_8 : BitVec 32 := 0#32
  let c11_i32_9 : BitVec 32 := 11#32
  let v10 : BitVec 32 := Scalar.addi c0_i32_8 c11_i32_9
  let c1_i32_10 : BitVec 32 := 1#32
  ⟨c0_i32_8, v10, c1_i32_10⟩
def k0_mult2 (k0_t2 : Fin k0_t2_loop.trips) : BitVec 32 :=
  let c0_i32_8 : BitVec 32 := 0#32
  let c1_i32_10 : BitVec 32 := 1#32
  let arg7 : BitVec 32 := Scf.iv c0_i32_8 c1_i32_10 k0_t2
  let c768_i32 : BitVec 32 := 768#32
  let v27 : BitVec 32 := Scalar.muli arg7 c768_i32
  v27
def k0_off3 (k0_t2 : Fin k0_t2_loop.trips) : Fin 3 → Nat :=
  let c0_15 : Index := 0#32
  let c0_i32_8 : BitVec 32 := 0#32
  let c1_i32_10 : BitVec 32 := 1#32
  let arg7 : BitVec 32 := Scf.iv c0_i32_8 c1_i32_10 k0_t2
  let c768_i32 : BitVec 32 := 768#32
  let v27 : BitVec 32 := Scalar.muli arg7 c768_i32
  let v28 : BitVec 32 := v27
  let v29 : Index := Scalar.indexCast v28
  let c128_16 : Index := 128#32
  ![0, v29.toNat, 128]
def k0_off4 (k0_t2 : Fin k0_t2_loop.trips) : Fin 3 → Nat :=
  let c0_19 : Index := 0#32
  let c0_i32_8 : BitVec 32 := 0#32
  let c1_i32_10 : BitVec 32 := 1#32
  let arg7 : BitVec 32 := Scf.iv c0_i32_8 c1_i32_10 k0_t2
  let c768_i32 : BitVec 32 := 768#32
  let v27 : BitVec 32 := Scalar.muli arg7 c768_i32
  let v28 : BitVec 32 := v27
  let v42 : Index := Scalar.indexCast v28
  let c0_20 : Index := 0#32
  ![0, v42.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8448x1024 : Shape := ⟨3, ![4, 8448, 1024]⟩
abbrev S4x8448x8x128 : Shape := ⟨4, ![4, 8448, 8, 128]⟩
abbrev S4x8448x4x256 : Shape := ⟨4, ![4, 8448, 4, 256]⟩
abbrev S4x8448x4x128 : Shape := ⟨4, ![4, 8448, 4, 128]⟩
abbrev S4x8448x8x64 : Shape := ⟨4, ![4, 8448, 8, 64]⟩
abbrev S4x8x8448x8448 : Shape := ⟨4, ![4, 8, 8448, 8448]⟩
abbrev S_ : Shape := ⟨0, ![]⟩
abbrev S4x8x8448 : Shape := ⟨3, ![4, 8, 8448]⟩
abbrev S4x8x8448x1 : Shape := ⟨4, ![4, 8, 8448, 1]⟩
abbrev S4x8x8448x64 : Shape := ⟨4, ![4, 8, 8448, 64]⟩
abbrev S4x8448x512 : Shape := ⟨3, ![4, 8448, 512]⟩

abbrev nBuf : Space → Nat
  | .hbm => 33
  | .vmem => 0
  | .smem => 0
  | _ => 0

abbrev bufTy : (tb : Table) → Fin (tcTables nBuf tb) → BufTy
  | .hbm, ⟨0, _⟩ => ⟨S4x8448x1024, .bf16⟩
  | .hbm, ⟨1, _⟩ => ⟨S4x8448x1024, .bf16⟩
  | .hbm, ⟨2, _⟩ => ⟨S4x8448x1024, .bf16⟩
  | .hbm, ⟨3, _⟩ => ⟨S4x8448x1024, .f32⟩
  | .hbm, ⟨4, _⟩ => ⟨S4x8448x8x128, .f32⟩
  | .hbm, ⟨5, _⟩ => ⟨S4x8448x1024, .f32⟩
  | .hbm, ⟨6, _⟩ => ⟨S4x8448x8x128, .f32⟩
  | .hbm, ⟨7, _⟩ => ⟨S4x8448x1024, .f32⟩
  | .hbm, ⟨8, _⟩ => ⟨S4x8448x4x256, .f32⟩
  | .hbm, ⟨9, _⟩ => ⟨S4x8448x4x128, .f32⟩
  | .hbm, ⟨10, _⟩ => ⟨S4x8448x8x64, .f32⟩
  | .hbm, ⟨11, _⟩ => ⟨S4x8x8448x8448, .f32⟩
  | .hbm, ⟨12, _⟩ => ⟨S_, .f32⟩
  | .hbm, ⟨13, _⟩ => ⟨S_, .f32⟩
  | .hbm, ⟨14, _⟩ => ⟨S4x8x8448x8448, .f32⟩
  | .hbm, ⟨15, _⟩ => ⟨S4x8x8448x8448, .f32⟩
  | .hbm, ⟨16, _⟩ => ⟨S_, .f32⟩
  | .hbm, ⟨17, _⟩ => ⟨S4x8x8448, .f32⟩
  | .hbm, ⟨18, _⟩ => ⟨S_, .f32⟩
  | .hbm, ⟨19, _⟩ => ⟨S4x8x8448, .f32⟩
  | .hbm, ⟨20, _⟩ => ⟨S4x8x8448, .f32⟩
  | .hbm, ⟨21, _⟩ => ⟨S4x8x8448x1, .f32⟩
  | .hbm, ⟨22, _⟩ => ⟨S4x8x8448x8448, .f32⟩
  | .hbm, ⟨23, _⟩ => ⟨S4x8x8448x8448, .f32⟩
  | .hbm, ⟨24, _⟩ => ⟨S4x8x8448x8448, .f32⟩
  | .hbm, ⟨25, _⟩ => ⟨S_, .f32⟩
  | .hbm, ⟨26, _⟩ => ⟨S4x8x8448, .f32⟩
  | .hbm, ⟨27, _⟩ => ⟨S4x8x8448x1, .f32⟩
  | .hbm, ⟨28, _⟩ => ⟨S4x8x8448x8448, .f32⟩
  | .hbm, ⟨29, _⟩ => ⟨S4x8x8448x8448, .f32⟩
  | .hbm, ⟨30, _⟩ => ⟨S4x8x8448x64, .f32⟩
  | .hbm, ⟨31, _⟩ => ⟨S4x8448x8x64, .f32⟩
  | .hbm, ⟨32, _⟩ => ⟨S4x8448x512, .f32⟩
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel2.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S1x1024 : Shape := ⟨2, ![1, 1024]⟩
abbrev S1024x4096 : Shape := ⟨2, ![1024, 4096]⟩
abbrev S1x768x1024 : Shape := ⟨3, ![1, 768, 1024]⟩
abbrev S768x1 : Shape := ⟨2, ![768, 1]⟩
abbrev S768x1024 : Shape := ⟨2, ![768, 1024]⟩
abbrev S768 : Shape := ⟨1, ![768]⟩
abbrev S1x1x1024 : Shape := ⟨3, ![1, 1, 1024]⟩
abbrev S1024x1024 : Shape := ⟨2, ![1024, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4x8448x1024, .f32⟩
  | .hbm, ⟨1, _⟩ => ⟨S4x1x3072, .f32⟩
  | .hbm, ⟨2, _⟩ => ⟨S1x1x3072, .f32⟩
  | .hbm, ⟨3, _⟩ => ⟨S1x1024, .f32⟩
  | .hbm, ⟨4, _⟩ => ⟨S1024x4096, .bf16⟩
  | .hbm, ⟨5, _⟩ => ⟨S4x8448x1024, .bf16⟩
  | .hbm, ⟨6, _⟩ => ⟨S4x8448x1024, .bf16⟩
  | .hbm, ⟨7, _⟩ => ⟨S4x8448x1024, .bf16⟩
  | .hbm, ⟨8, _⟩ => ⟨S4x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x1024, .f32⟩
  | .local _ .vmem, ⟨6, _⟩ => ⟨S1024x4096, .bf16⟩
  | .local _ .vmem, ⟨7, _⟩ => ⟨S1x768x1024, .bf16⟩
  | .local _ .vmem, ⟨8, _⟩ => ⟨S1x768x1024, .bf16⟩
  | .local _ .vmem, ⟨9, _⟩ => ⟨S1x768x1024, .bf16⟩
  | .local _ .vmem, ⟨10, _⟩ => ⟨S1x768x1024, .bf16⟩
  | .local _ .vmem, ⟨11, _⟩ => ⟨S1x768x1024, .bf16⟩
  | .local _ .vmem, ⟨12, _⟩ => ⟨S1x768x1024, .bf16⟩
  | .local _ .vmem, ⟨13, _⟩ => ⟨S1x768x1024, .f32⟩
  | .local _ .vmem, ⟨14, _⟩ => ⟨S1x768x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S1x1024 : Shape := ⟨2, ![1, 1024]⟩
abbrev S1024x4096 : Shape := ⟨2, ![1024, 4096]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x1x1024 : Shape := ⟨3, ![4, 1, 1024]⟩
abbrev S4x8448x4096 : Shape := ⟨3, ![4, 8448, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x1x3072, .f32⟩
  | .hbm, ⟨2, _⟩ => ⟨S1x1x3072, .f32⟩
  | .hbm, ⟨3, _⟩ => ⟨S1x1024, .f32⟩
  | .hbm, ⟨4, _⟩ => ⟨S1024x4096, .bf16⟩
  | .hbm, ⟨5, _⟩ => ⟨S4x8448x1024, .f32⟩
  | .hbm, ⟨6, _⟩ => ⟨S_, .f32⟩
  | .hbm, ⟨7, _⟩ => ⟨S4x8448, .f32⟩
  | .hbm, ⟨8, _⟩ => ⟨S4x8448x1, .f32⟩
  | .hbm, ⟨9, _⟩ => ⟨S_, .f32⟩
  | .hbm, ⟨10, _⟩ => ⟨S4x8448x1, .f32⟩
  | .hbm, ⟨11, _⟩ => ⟨S4x8448x1, .f32⟩
  | .hbm, ⟨12, _⟩ => ⟨S_, .f32⟩
  | .hbm, ⟨13, _⟩ => ⟨S4x8448x1, .f32⟩
  | .hbm, ⟨14, _⟩ => ⟨S4x8448x1, .f32⟩
  | .hbm, ⟨15, _⟩ => ⟨S4x8448x1, .f32⟩
  | .hbm, ⟨16, _⟩ => ⟨S4x8448x1024, .f32⟩
  | .hbm, ⟨17, _⟩ => ⟨S4x8448x1024, .f32⟩
  | .hbm, ⟨18, _⟩ => ⟨S1x1x1024, .f32⟩
  | .hbm, ⟨19, _⟩ => ⟨S4x8448x1024, .f32⟩
  | .hbm, ⟨20, _⟩ => ⟨S4x8448x1024, .f32⟩
  | .hbm, ⟨21, _⟩ => ⟨S4x8448x1024, .i32⟩
  | .hbm, ⟨22, _⟩ => ⟨S_, .i32⟩
  | .hbm, ⟨23, _⟩ => ⟨S4x8448x1024, .i32⟩
  | .hbm, ⟨24, _⟩ => ⟨S4x8448x1024, .i1⟩
  | .hbm, ⟨25, _⟩ => ⟨S1x1x1024, .f32⟩
  | .hbm, ⟨26, _⟩ => ⟨S4x1x1024, .f32⟩
  | .hbm, ⟨27, _⟩ => ⟨S4x8448x1024, .f32⟩
  | .hbm, ⟨28, _⟩ => ⟨S4x8448x1024, .f32⟩
  | .hbm, ⟨29, _⟩ => ⟨S4x8448x1024, .f32⟩
  | .hbm, ⟨30, _⟩ => ⟨S_, .f32⟩
  | .hbm, ⟨31, _⟩ => ⟨S4x8448x1024, .f32⟩
  | .hbm, ⟨32, _⟩ => ⟨S4x8448x1024, .f32⟩
  | .hbm, ⟨33, _⟩ => ⟨S4x8448x1024, .f32⟩
  | .hbm, ⟨34, _⟩ => ⟨S4x8448x1024, .i32⟩
  | .hbm, ⟨35, _⟩ => ⟨S_, .i32⟩
  | .hbm, ⟨36, _⟩ => ⟨S4x8448x1024, .i32⟩
  | .hbm, ⟨37, _⟩ => ⟨S4x8448x1024, .i1⟩
  | .hbm, ⟨38, _⟩ => ⟨S1x1x1024, .f32⟩
  | .hbm, ⟨39, _⟩ => ⟨S4x1x1024, .f32⟩
  | .hbm, ⟨40, _⟩ => ⟨S4x8448x1024, .f32⟩
  | .hbm, ⟨41, _⟩ => ⟨S4x8448x1024, .f32⟩
  | .hbm, ⟨42, _⟩ => ⟨S4x8448x1024, .f32⟩
  | .hbm, ⟨43, _⟩ => ⟨S4x8448x1024, .f32⟩
  | .hbm, ⟨44, _⟩ => ⟨S1024x4096, .f32⟩
  | .hbm, ⟨45, _⟩ => ⟨S4x8448x4096, .f32⟩
  | .hbm, ⟨46, _⟩ => ⟨S4x8448x1024, .f32⟩
  | .hbm, ⟨47, _⟩ => ⟨S4x8448x1024, .f32⟩
  | .hbm, ⟨48, _⟩ => ⟨S4x8448x1024, .f32⟩
  | .hbm, ⟨49, _⟩ => ⟨S4x8448x1024, .f32⟩
  | .hbm, ⟨50, _⟩ => ⟨S_, .f32⟩
  | .hbm, ⟨51, _⟩ => ⟨S4x8448x1024, .f32⟩
  | .hbm, ⟨52, _⟩ => ⟨S4x8448x1024, .f32⟩
  | .hbm, ⟨53, _⟩ => ⟨S4x8448x1024, .bf16⟩
  | .hbm, ⟨54, _⟩ => ⟨S4x8448x1024, .bf16⟩
  | .hbm, ⟨55, _⟩ => ⟨S4x8448x1024, .bf16⟩
  | .hbm, ⟨56, _⟩ => ⟨S4x8448x1024, .f32⟩
  | .hbm, ⟨57, _⟩ => ⟨S4x8448x1024, .f32⟩
  | .hbm, ⟨58, _⟩ => ⟨S_, .f32⟩
  | .hbm, ⟨59, _⟩ => ⟨S4x8448x1024, .f32⟩
  | .hbm, ⟨60, _⟩ => ⟨S4x8448x1024, .f32⟩
  | .hbm, ⟨61, _⟩ => ⟨S_, .f32⟩
  | .hbm, ⟨62, _⟩ => ⟨S4x8448x1024, .f32⟩
  | .hbm, ⟨63, _⟩ => ⟨S4x8448x1024, .f32⟩
  | .hbm, ⟨64, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_v1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Kernel3.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S1x1024 : Shape := ⟨2, ![1, 1024]⟩
abbrev S1024x2176 : Shape := ⟨2, ![1024, 2176]⟩
abbrev S1x256 : Shape := ⟨2, ![1, 256]⟩
abbrev S256x1024 : Shape := ⟨2, ![256, 1024]⟩
abbrev S1x128 : Shape := ⟨2, ![1, 128]⟩
abbrev S128x1024 : Shape := ⟨2, ![128, 1024]⟩
abbrev S128x512 : Shape := ⟨2, ![128, 512]⟩
abbrev S8448x128 : Shape := ⟨2, ![8448, 128]⟩
abbrev S4x8448x512 : Shape := ⟨3, ![4, 8448, 512]⟩
abbrev S1x768x1024 : Shape := ⟨3, ![1, 768, 1024]⟩
abbrev S768x128 : Shape := ⟨2, ![768, 128]⟩
abbrev S1x768x512 : Shape := ⟨3, ![1, 768, 512]⟩
abbrev S768x1 : Shape := ⟨2, ![768, 1]⟩
abbrev S768x1024 : Shape := ⟨2, ![768, 1024]⟩
abbrev S768 : Shape := ⟨1, ![768]⟩
abbrev S1x1x1024 : Shape := ⟨3, ![1, 1, 1024]⟩
abbrev S1024x256 : Shape := ⟨2, ![1024, 256]⟩
abbrev S768x256 : Shape := ⟨2, ![768, 256]⟩
abbrev S1024x128 : Shape := ⟨2, ![1024, 128]⟩
abbrev S768x512 : Shape := ⟨2, ![768, 512]⟩
abbrev S1x768x128 : Shape := ⟨3, ![1, 768, 128]⟩
abbrev S1024x512 : Shape := ⟨2, ![1024, 512]⟩

abbrev nBuf : Space → Nat
  | .hbm => 19
  | .vmem => 29
  | .smem => 0
  | _ => 0

abbrev bufTy : (tb : Table) → Fin (tcTables nBuf tb) → BufTy
  | .hbm, ⟨0, _⟩ => ⟨S4x8448x1024, .f32⟩
  | .hbm, ⟨1, _⟩ => ⟨S4x1x3072, .f32⟩
  | .hbm, ⟨2, _⟩ => ⟨S1x1x3072, .f32⟩
  | .hbm, ⟨3, _⟩ => ⟨S1x1024, .f32⟩
  | .hbm, ⟨4, _⟩ => ⟨S1024x2176, .bf16⟩
  | .hbm, ⟨5, _⟩ => ⟨S1x256, .f32⟩
  | .hbm, ⟨6, _⟩ => ⟨S256x1024, .bf16⟩
  | .hbm, ⟨7, _⟩ => ⟨S256x1024, .bf16⟩
  | .hbm, ⟨8, _⟩ => ⟨S1x128, .f32⟩
  | .hbm, ⟨9, _⟩ => ⟨S128x1024, .bf16⟩
  | .hbm, ⟨10, _⟩ => ⟨S128x512, .bf16⟩
  | .hbm, ⟨11, _⟩ => ⟨S8448x128, .f32⟩
  | .hbm, ⟨12, _⟩ => ⟨S8448x128, .f32⟩
  | .hbm, ⟨13, _⟩ => ⟨S4x8448x1024, .bf16⟩
  | .hbm, ⟨14, _⟩ => ⟨S4x8448x1024, .bf16⟩
  | .hbm, ⟨15, _⟩ => ⟨S4x8448x1024, .bf16⟩
  | .hbm, ⟨16, _⟩ => ⟨S4x8448x512, .f32⟩
  | .hbm, ⟨17, _⟩ => ⟨S4x8448x512, .f32⟩
  | .hbm, ⟨18, _⟩ => ⟨S4x8448x512, .f32⟩
  | .local _ .vmem, ⟨0, _⟩ => ⟨S1x768x1024, .f32⟩
  | .local _ .vmem, ⟨1, _⟩ => ⟨S1x768x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x1024, .f32⟩
  | .local _ .vmem, ⟨6, _⟩ => ⟨S1024x2176, .bf16⟩
  | .local _ .vmem, ⟨7, _⟩ => ⟨S1x256, .f32⟩
  | .local _ .vmem, ⟨8, _⟩ => ⟨S256x1024, .bf16⟩
  | .local _ .vmem, ⟨9, _⟩ => ⟨S256x1024, .bf16⟩
  | .local _ .vmem, ⟨10, _⟩ => ⟨S1x128, .f32⟩
  | .local _ .vmem, ⟨11, _⟩ => ⟨S128x1024, .bf16⟩
  | .local _ .vmem, ⟨12, _⟩ => ⟨S128x512, .bf16⟩
  | .local _ .vmem, ⟨13, _⟩ => ⟨S768x128, .f32⟩
  | .local _ .vmem, ⟨14, _⟩ => ⟨S768x128, .f32⟩
  | .local _ .vmem, ⟨15, _⟩ => ⟨S768x128, .f32⟩
  | .local _ .vmem, ⟨16, _⟩ => ⟨S768x128, .f32⟩
  | .local _ .vmem, ⟨17, _⟩ => ⟨S1x768x1024, .bf16⟩
  | .local _ .vmem, ⟨18, _⟩ => ⟨S1x768x1024, .bf16⟩
  | .local _ .vmem, ⟨19, _⟩ => ⟨S1x768x1024, .bf16⟩
  | .local _ .vmem, ⟨20, _⟩ => ⟨S1x768x1024, .bf16⟩
  | .local _ .vmem, ⟨21, _⟩ => ⟨S1x768x1024, .bf16⟩
  | .local _ .vmem, ⟨22, _⟩ => ⟨S1x768x1024, .bf16⟩
  | .local _ .vmem, ⟨23, _⟩ => ⟨S1x768x512, .f32⟩
  | .local _ .vmem, ⟨24, _⟩ => ⟨S1x768x512, .f32⟩
  | .local _ .vmem, ⟨25, _⟩ => ⟨S1x768x512, .f32⟩
  | .local _ .vmem, ⟨26, _⟩ => ⟨S1x768x512, .f32⟩
  | .local _ .vmem, ⟨27, _⟩ => ⟨S1x768x512, .f32⟩
  | .local _ .vmem, ⟨28, _⟩ => ⟨S1x768x512, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S768x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S768x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x768x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x768x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x768x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x768x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x768x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x768x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S1x1024 : Shape := ⟨2, ![1, 1024]⟩
abbrev S1024x2176 : Shape := ⟨2, ![1024, 2176]⟩
abbrev S1x256 : Shape := ⟨2, ![1, 256]⟩
abbrev S256x1024 : Shape := ⟨2, ![256, 1024]⟩
abbrev S1x128 : Shape := ⟨2, ![1, 128]⟩
abbrev S128x1024 : Shape := ⟨2, ![128, 1024]⟩
abbrev S128x512 : Shape := ⟨2, ![128, 512]⟩
abbrev S8448x128 : Shape := ⟨2, ![8448, 128]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x1x1024 : Shape := ⟨3, ![4, 1, 1024]⟩
abbrev S4x8448x2176 : Shape := ⟨3, ![4, 8448, 2176]⟩
abbrev S4x8448x256 : Shape := ⟨3, ![4, 8448, 256]⟩
abbrev S4x8448x128 : Shape := ⟨3, ![4, 8448, 128]⟩
abbrev S4x8448x512 : Shape := ⟨3, ![4, 8448, 512]⟩
abbrev S1x1x256 : Shape := ⟨3, ![1, 1, 256]⟩
abbrev S1x1x128 : Shape := ⟨3, ![1, 1, 128]⟩
abbrev S1x8448x1x128 : Shape := ⟨4, ![1, 8448, 1, 128]⟩
abbrev S4x8448x8x128 : Shape := ⟨4, ![4, 8448, 8, 128]⟩
abbrev S1x8448x128 : Shape := ⟨3, ![1, 8448, 128]⟩
abbrev S4x8448x1x128 : Shape := ⟨4, ![4, 8448, 1, 128]⟩
abbrev S4x8448x4x128 : Shape := ⟨4, ![4, 8448, 4, 128]⟩
abbrev S4x8448x4x256 : Shape := ⟨4, ![4, 8448, 4, 256]⟩

abbrev nBuf : Space → Nat
  | .hbm => 159
  | .vmem => 0
  | .smem => 0
  | _ => 0

abbrev hbmTy0_0 (i : Nat) : BufTy := match i % 128 with
  | 0 => ⟨S4x8448x1024, .f32⟩
  | 1 => ⟨S4x1x3072, .f32⟩
  | 2 => ⟨S1x1x3072, .f32⟩
  | 3 => ⟨S1x1024, .f32⟩
  | 4 => ⟨S1024x2176, .bf16⟩
  | 5 => ⟨S1x256, .f32⟩
  | 6 => ⟨S256x1024, .bf16⟩
  | 7 => ⟨S256x1024, .bf16⟩
  | 8 => ⟨S1x128, .f32⟩
  | 9 => ⟨S128x1024, .bf16⟩
  | 10 => ⟨S128x512, .bf16⟩
  | 11 => ⟨S8448x128, .f32⟩
  | 12 => ⟨S8448x128, .f32⟩
  | 13 => ⟨S4x8448x1024, .f32⟩
  | 14 => ⟨S_, .f32⟩
  | 15 => ⟨S4x8448, .f32⟩
  | 16 => ⟨S4x8448x1, .f32⟩
  | 17 => ⟨S_, .f32⟩
  | 18 => ⟨S4x8448x1, .f32⟩
  | 19 => ⟨S4x8448x1, .f32⟩
  | 20 => ⟨S_, .f32⟩
  | 21 => ⟨S4x8448x1, .f32⟩
  | 22 => ⟨S4x8448x1, .f32⟩
  | 23 => ⟨S4x8448x1, .f32⟩
  | 24 => ⟨S4x8448x1024, .f32⟩
  | 25 => ⟨S4x8448x1024, .f32⟩
  | 26 => ⟨S1x1x1024, .f32⟩
  | 27 => ⟨S4x8448x1024, .f32⟩
  | 28 => ⟨S4x8448x1024, .f32⟩
  | 29 => ⟨S4x8448x1024, .i32⟩
  | 30 => ⟨S_, .i32⟩
  | 31 => ⟨S4x8448x1024, .i32⟩
  | 32 => ⟨S4x8448x1024, .i1⟩
  | 33 => ⟨S1x1x1024, .f32⟩
  | 34 => ⟨S4x1x1024, .f32⟩
  | 35 => ⟨S4x8448x1024, .f32⟩
  | 36 => ⟨S4x8448x1024, .f32⟩
  | 37 => ⟨S4x8448x1024, .f32⟩
  | 38 => ⟨S_, .f32⟩
  | 39 => ⟨S4x8448x1024, .f32⟩
  | 40 => ⟨S4x8448x1024, .f32⟩
  | 41 => ⟨S4x8448x1024, .f32⟩
  | 42 => ⟨S4x8448x1024, .i32⟩
  | 43 => ⟨S_, .i32⟩
  | 44 => ⟨S4x8448x1024, .i32⟩
  | 45 => ⟨S4x8448x1024, .i1⟩
  | 46 => ⟨S1x1x1024, .f32⟩
  | 47 => ⟨S4x1x1024, .f32⟩
  | 48 => ⟨S4x8448x1024, .f32⟩
  | 49 => ⟨S4x8448x1024, .f32⟩
  | 50 => ⟨S4x8448x1024, .f32⟩
  | 51 => ⟨S4x8448x1024, .f32⟩
  | 52 => ⟨S1024x2176, .f32⟩
  | 53 => ⟨S4x8448x2176, .f32⟩
  | 54 => ⟨S4x8448x256, .f32⟩
  | 55 => ⟨S4x8448x128, .f32⟩
  | 56 => ⟨S4x8448x128, .f32⟩
  | 57 => ⟨S4x8448x128, .f32⟩
  | 58 => ⟨S4x8448x512, .f32⟩
  | 59 => ⟨S4x8448x512, .f32⟩
  | 60 => ⟨S4x8448x512, .f32⟩
  | 61 => ⟨S4x8448x256, .f32⟩
  | 62 => ⟨S_, .f32⟩
  | 63 => ⟨S4x8448, .f32⟩
  | 64 => ⟨S4x8448x1, .f32⟩
  | 65 => ⟨S_, .f32⟩
  | 66 => ⟨S4x8448x1, .f32⟩
  | 67 => ⟨S4x8448x1, .f32⟩
  | 68 => ⟨S_, .f32⟩
  | 69 => ⟨S4x8448x1, .f32⟩
  | 70 => ⟨S4x8448x1, .f32⟩
  | 71 => ⟨S4x8448x1, .f32⟩
  | 72 => ⟨S4x8448x256, .f32⟩
  | 73 => ⟨S4x8448x256, .f32⟩
  | 74 => ⟨S1x1x256, .f32⟩
  | 75 => ⟨S4x8448x256, .f32⟩
  | 76 => ⟨S4x8448x256, .f32⟩
  | 77 => ⟨S4x8448x128, .f32⟩
  | 78 => ⟨S_, .f32⟩
  | 79 => ⟨S4x8448, .f32⟩
  | 80 => ⟨S4x8448x1, .f32⟩
  | 81 => ⟨S_, .f32⟩
  | 82 => ⟨S4x8448x1, .f32⟩
  | 83 => ⟨S4x8448x1, .f32⟩
  | 84 => ⟨S_, .f32⟩
  | 85 => ⟨S4x8448x1, .f32⟩
  | 86 => ⟨S4x8448x1, .f32⟩
  | 87 => ⟨S4x8448x1, .f32⟩
  | 88 => ⟨S4x8448x128, .f32⟩
  | 89 => ⟨S4x8448x128, .f32⟩
  | 90 => ⟨S1x1x128, .f32⟩
  | 91 => ⟨S4x8448x128, .f32⟩
  | 92 => ⟨S4x8448x128, .f32⟩
  | 93 => ⟨S1x8448x1x128, .f32⟩
  | 94 => ⟨S1x8448x1x128, .f32⟩
  | 95 => ⟨S256x1024, .f32⟩
  | 96 => ⟨S4x8448x1024, .f32⟩
  | 97 => ⟨S4x8448x8x128, .f32⟩
  | 98 => ⟨S256x1024, .f32⟩
  | 99 => ⟨S4x8448x1024, .f32⟩
  | 100 => ⟨S4x8448x8x128, .f32⟩
  | 101 => ⟨S4x8448x8x128, .f32⟩
  | 102 => ⟨S4x8448x8x128, .f32⟩
  | 103 => ⟨S4x8448x8x128, .f32⟩
  | 104 => ⟨S4x8448x8x128, .f32⟩
  | 105 => ⟨S4x8448x8x128, .f32⟩
  | 106 => ⟨S_, .f32⟩
  | 107 => ⟨S4x8448x8x128, .f32⟩
  | 108 => ⟨S4x8448x8x128, .f32⟩
  | 109 => ⟨S4x8448x1024, .f32⟩
  | 110 => ⟨S1x8448x128, .f32⟩
  | 111 => ⟨S4x8448x128, .f32⟩
  | 112 => ⟨S4x8448x128, .f32⟩
  | 113 => ⟨S1x8448x128, .f32⟩
  | 114 => ⟨S4x8448x128, .f32⟩
  | 115 => ⟨S4x8448x128, .f32⟩
  | 116 => ⟨S4x8448x128, .f32⟩
  | 117 => ⟨S128x1024, .f32⟩
  | 118 => ⟨S4x8448x1024, .f32⟩
  | 119 => ⟨S4x8448x8x128, .f32⟩
  | 120 => ⟨S4x8448x1x128, .f32⟩
  | 121 => ⟨S4x8448x8x128, .f32⟩
  | 122 => ⟨S4x8448x8x128, .f32⟩
  | 123 => ⟨S4x8448x1024, .f32⟩
  | 124 => ⟨S128x512, .f32⟩
  | 125 => ⟨S4x8448x512, .f32⟩
  | 126 => ⟨S4x8448x4x128, .f32⟩
  | 127 => ⟨S4x8448x4x128, .i32⟩
  | _ => ⟨S4x8448x1024, .f32⟩

abbrev hbmTy0_1 (i : Nat) : BufTy := match i % 128 with
  | 0 => ⟨S_, .i32⟩
  | 1 => ⟨S4x8448x4x128, .i32⟩
  | 2 => ⟨S4x8448x4x128, .i1⟩
  | 3 => ⟨S_, .f32⟩
  | 4 => ⟨S_, .f32⟩
  | 5 => ⟨S4x8448x4x128, .f32⟩
  | 6 => ⟨S4x8448x4x128, .f32⟩
  | 7 => ⟨S4x8448x4x128, .f32⟩
  | 8 => ⟨S4x8448x4x256, .f32⟩
  | 9 => ⟨S4x8448x1024, .f32⟩
  | 10 => ⟨S4x8448x1024, .bf16⟩
  | 11 => ⟨S4x8448x1024, .bf16⟩
  | 12 => ⟨S4x8448x1024, .bf16⟩
  | 13 => ⟨S4x8448x512, .f32⟩
  | 14 => ⟨S4x8448x512, .f32⟩
  | 15 => ⟨S_, .f32⟩
  | 16 => ⟨S4x8448x512, .f32⟩
  | 17 => ⟨S4x8448x512, .f32⟩
  | 18 => ⟨S_, .f32⟩
  | 19 => ⟨S4x8448x512, .f32⟩
  | 20 => ⟨S4x8448x512, .f32⟩
  | 21 => ⟨S4x8448x512, .f32⟩
  | 22 => ⟨S4x8448x512, .f32⟩
  | 23 => ⟨S4x8448x512, .f32⟩
  | 24 => ⟨S_, .f32⟩
  | 25 => ⟨S4x8448x512, .f32⟩
  | 26 => ⟨S4x8448x512, .f32⟩
  | 27 => ⟨S_, .f32⟩
  | 28 => ⟨S4x8448x512, .f32⟩
  | 29 => ⟨S4x8448x512, .f32⟩
  | 30 => ⟨S4x8448x512, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_10 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_11 : Ref sig .tc := ⟨.hbm, 128, rfl⟩
abbrev main_v98 : Ref sig .tc := ⟨.hbm, 129, rfl⟩
abbrev main_v99 : Ref sig .tc := ⟨.hbm, 130, rfl⟩
abbrev main_cst_12 : Ref sig .tc := ⟨.hbm, 131, rfl⟩
abbrev main_cst_13 : Ref sig .tc := ⟨.hbm, 132, rfl⟩
abbrev main_call2_v0 : Ref sig .tc := ⟨.hbm, 133, rfl⟩
abbrev main_call2_v1 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_call3_v0 : Ref sig .tc := ⟨.hbm, 141, rfl⟩
abbrev main_call3_v1 : Ref sig .tc := ⟨.hbm, 142, rfl⟩
abbrev main_call3_cst : Ref sig .tc := ⟨.hbm, 143, rfl⟩
abbrev main_call3_v2 : Ref sig .tc := ⟨.hbm, 144, rfl⟩
abbrev main_call3_v3 : Ref sig .tc := ⟨.hbm, 145, rfl⟩
abbrev main_call3_cst_0 : Ref sig .tc := ⟨.hbm, 146, rfl⟩
abbrev main_call3_v4 : Ref sig .tc := ⟨.hbm, 147, rfl⟩
abbrev main_call3_v5 : Ref sig .tc := ⟨.hbm, 148, rfl⟩
abbrev main_v106 : Ref sig .tc := ⟨.hbm, 149, rfl⟩
abbrev main_call4_v0 : Ref sig .tc := ⟨.hbm, 150, rfl⟩
abbrev main_call4_v1 : Ref sig .tc := ⟨.hbm, 151, rfl⟩
abbrev main_call4_cst : Ref sig .tc := ⟨.hbm, 152, rfl⟩
abbrev main_call4_v2 : Ref sig .tc := ⟨.hbm, 153, rfl⟩
abbrev main_call4_v3 : Ref sig .tc := ⟨.hbm, 154, rfl⟩
abbrev main_call4_cst_0 : Ref sig .tc := ⟨.hbm, 155, rfl⟩
abbrev main_call4_v4 : Ref sig .tc := ⟨.hbm, 156, rfl⟩
abbrev main_call4_v5 : Ref sig .tc := ⟨.hbm, 157, rfl⟩
abbrev main_v107 : Ref sig .tc := ⟨.hbm, 158, rfl⟩

abbrev nD : Nat := 1
abbrev τ : Topo := Topo.v7x

variable {F : FTy → Type} [FloatOps F]
-- ==== Kernel4.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S4x8448x512 : Shape := ⟨3, ![4, 8448, 512]⟩
abbrev S1024x1024 : Shape := ⟨2, ![1024, 1024]⟩
abbrev S1x768x1024 : Shape := ⟨3, ![1, 768, 1024]⟩
abbrev S1x768x512 : Shape := ⟨3, ![1, 768, 512]⟩
abbrev S768x1 : Shape := ⟨2, ![768, 1]⟩
abbrev S768x512 : Shape := ⟨2, ![768, 512]⟩
abbrev S512x1024 : Shape := ⟨2, ![512, 1024]⟩
abbrev S768x1024 : Shape := ⟨2, ![768, 1024]⟩
abbrev S1x1x1024 : Shape := ⟨3, ![1, 1, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x8448x1024, .f32⟩
  | .hbm, ⟨1, _⟩ => ⟨S4x1x3072, .f32⟩
  | .hbm, ⟨2, _⟩ => ⟨S1x1x3072, .f32⟩
  | .hbm, ⟨3, _⟩ => ⟨S4x8448x512, .f32⟩
  | .hbm, ⟨4, _⟩ => ⟨S4x8448x512, .f32⟩
  | .hbm, ⟨5, _⟩ => ⟨S4x8448x512, .f32⟩
  | .hbm, ⟨6, _⟩ => ⟨S4x8448x512, .f32⟩
  | .hbm, ⟨7, _⟩ => ⟨S1024x1024, .bf16⟩
  | .hbm, ⟨8, _⟩ => ⟨S4x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x768x512, .f32⟩
  | .local _ .vmem, ⟨6, _⟩ => ⟨S1x768x512, .f32⟩
  | .local _ .vmem, ⟨7, _⟩ => ⟨S1x768x512, .f32⟩
  | .local _ .vmem, ⟨8, _⟩ => ⟨S1x768x512, .f32⟩
  | .local _ .vmem, ⟨9, _⟩ => ⟨S1x768x512, .f32⟩
  | .local _ .vmem, ⟨10, _⟩ => ⟨S1x768x512, .f32⟩
  | .local _ .vmem, ⟨11, _⟩ => ⟨S1x768x512, .f32⟩
  | .local _ .vmem, ⟨12, _⟩ => ⟨S1x768x512, .f32⟩
  | .local _ .vmem, ⟨13, _⟩ => ⟨S1024x1024, .bf16⟩
  | .local _ .vmem, ⟨14, _⟩ => ⟨S1x768x1024, .f32⟩
  | .local _ .vmem, ⟨15, _⟩ => ⟨S1x768x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S4x8448x512 : Shape := ⟨3, ![4, 8448, 512]⟩
abbrev S1024x1024 : Shape := ⟨2, ![1024, 1024]⟩
abbrev S_ : Shape := ⟨0, ![]⟩
abbrev S1x1x1024 : Shape := ⟨3, ![1, 1, 1024]⟩
abbrev S4x1x1024 : Shape := ⟨3, ![4, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x1x3072, .f32⟩
  | .hbm, ⟨2, _⟩ => ⟨S1x1x3072, .f32⟩
  | .hbm, ⟨3, _⟩ => ⟨S4x8448x512, .f32⟩
  | .hbm, ⟨4, _⟩ => ⟨S4x8448x512, .f32⟩
  | .hbm, ⟨5, _⟩ => ⟨S4x8448x512, .f32⟩
  | .hbm, ⟨6, _⟩ => ⟨S4x8448x512, .f32⟩
  | .hbm, ⟨7, _⟩ => ⟨S1024x1024, .bf16⟩
  | .hbm, ⟨8, _⟩ => ⟨S4x8448x512, .f32⟩
  | .hbm, ⟨9, _⟩ => ⟨S4x8448x512, .f32⟩
  | .hbm, ⟨10, _⟩ => ⟨S4x8448x1024, .f32⟩
  | .hbm, ⟨11, _⟩ => ⟨S1024x1024, .f32⟩
  | .hbm, ⟨12, _⟩ => ⟨S4x8448x1024, .f32⟩
  | .hbm, ⟨13, _⟩ => ⟨S4x8448x1024, .i32⟩
  | .hbm, ⟨14, _⟩ => ⟨S_, .i32⟩
  | .hbm, ⟨15, _⟩ => ⟨S4x8448x1024, .i32⟩
  | .hbm, ⟨16, _⟩ => ⟨S4x8448x1024, .i1⟩
  | .hbm, ⟨17, _⟩ => ⟨S1x1x1024, .f32⟩
  | .hbm, ⟨18, _⟩ => ⟨S4x1x1024, .f32⟩
  | .hbm, ⟨19, _⟩ => ⟨S4x8448x1024, .f32⟩
  | .hbm, ⟨20, _⟩ => ⟨S4x8448x1024, .f32⟩
  | .hbm, ⟨21, _⟩ => ⟨S4x8448x1024, .f32⟩
  | .hbm, ⟨22, _⟩ => ⟨S4x8448x1024, .f32⟩
  | .hbm, ⟨23, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel5.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S1024x1024 : Shape := ⟨2, ![1024, 1024]⟩
abbrev S1x1024 : Shape := ⟨2, ![1, 1024]⟩
abbrev S1x768x1024 : Shape := ⟨3, ![1, 768, 1024]⟩
abbrev S768x1 : Shape := ⟨2, ![768, 1]⟩
abbrev S768x1024 : Shape := ⟨2, ![768, 1024]⟩
abbrev S1x1x1024 : Shape := ⟨3, ![1, 1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4x8448x1024, .f32⟩
  | .hbm, ⟨1, _⟩ => ⟨S4x1x3072, .f32⟩
  | .hbm, ⟨2, _⟩ => ⟨S1x1x3072, .f32⟩
  | .hbm, ⟨3, _⟩ => ⟨S4x8448x1024, .f32⟩
  | .hbm, ⟨4, _⟩ => ⟨S4x8448x1024, .f32⟩
  | .hbm, ⟨5, _⟩ => ⟨S1024x1024, .bf16⟩
  | .hbm, ⟨6, _⟩ => ⟨S1x1024, .f32⟩
  | .hbm, ⟨7, _⟩ => ⟨S4x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x768x1024, .f32⟩
  | .local _ .vmem, ⟨6, _⟩ => ⟨S1x768x1024, .f32⟩
  | .local _ .vmem, ⟨7, _⟩ => ⟨S1x768x1024, .f32⟩
  | .local _ .vmem, ⟨8, _⟩ => ⟨S1x768x1024, .f32⟩
  | .local _ .vmem, ⟨9, _⟩ => ⟨S1024x1024, .bf16⟩
  | .local _ .vmem, ⟨10, _⟩ => ⟨S1x1024, .f32⟩
  | .local _ .vmem, ⟨11, _⟩ => ⟨S1x768x1024, .f32⟩
  | .local _ .vmem, ⟨12, _⟩ => ⟨S1x768x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S1024x1024 : Shape := ⟨2, ![1024, 1024]⟩
abbrev S1x1024 : Shape := ⟨2, ![1, 1024]⟩
abbrev S_ : Shape := ⟨0, ![]⟩
abbrev S1x1x1024 : Shape := ⟨3, ![1, 1, 1024]⟩
abbrev S4x1x1024 : Shape := ⟨3, ![4, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x1x3072, .f32⟩
  | .hbm, ⟨2, _⟩ => ⟨S1x1x3072, .f32⟩
  | .hbm, ⟨3, _⟩ => ⟨S4x8448x1024, .f32⟩
  | .hbm, ⟨4, _⟩ => ⟨S4x8448x1024, .f32⟩
  | .hbm, ⟨5, _⟩ => ⟨S1024x1024, .bf16⟩
  | .hbm, ⟨6, _⟩ => ⟨S1x1024, .f32⟩
  | .hbm, ⟨7, _⟩ => ⟨S4x8448x1024, .i32⟩
  | .hbm, ⟨8, _⟩ => ⟨S_, .i32⟩
  | .hbm, ⟨9, _⟩ => ⟨S4x8448x1024, .i32⟩
  | .hbm, ⟨10, _⟩ => ⟨S4x8448x1024, .i1⟩
  | .hbm, ⟨11, _⟩ => ⟨S1x1x1024, .f32⟩
  | .hbm, ⟨12, _⟩ => ⟨S4x1x1024, .f32⟩
  | .hbm, ⟨13, _⟩ => ⟨S4x8448x1024, .f32⟩
  | .hbm, ⟨14, _⟩ => ⟨S4x8448x1024, .f32⟩
  | .hbm, ⟨15, _⟩ => ⟨S4x8448x1024, .f32⟩
  | .hbm, ⟨16, _⟩ => ⟨S4x8448x1024, .f32⟩
  | .hbm, ⟨17, _⟩ => ⟨S1024x1024, .f32⟩
  | .hbm, ⟨18, _⟩ => ⟨S4x8448x1024, .f32⟩
  | .hbm, ⟨19, _⟩ => ⟨S4x8448x1024, .f32⟩
  | .hbm, ⟨20, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel6.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S4x8192x1024 : Shape := ⟨3, ![4, 8192, 1024]⟩
abbrev S1024x1024 : Shape := ⟨2, ![1024, 1024]⟩
abbrev S1x1024 : Shape := ⟨2, ![1, 1024]⟩
abbrev S1x512x1024 : Shape := ⟨3, ![1, 512, 1024]⟩
abbrev S512x1 : Shape := ⟨2, ![512, 1]⟩
abbrev S512x1024 : Shape := ⟨2, ![512, 1024]⟩
abbrev S1x1x1024 : Shape := ⟨3, ![1, 1, 1024]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S4x8448x1024, .f32⟩
  | .hbm, ⟨1, _⟩ => ⟨S4x1x3072, .f32⟩
  | .hbm, ⟨2, _⟩ => ⟨S1x1x3072, .f32⟩
  | .hbm, ⟨3, _⟩ => ⟨S4x8192x1024, .f32⟩
  | .hbm, ⟨4, _⟩ => ⟨S4x8448x1024, .f32⟩
  | .hbm, ⟨5, _⟩ => ⟨S1024x1024, .bf16⟩
  | .hbm, ⟨6, _⟩ => ⟨S1x1024, .f32⟩
  | .hbm, ⟨7, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S4x8448x1024 : Shape := ⟨3, ![4, 8448, 1024]⟩
abbrev S4x1x3072 : Shape := ⟨3, ![4, 1, 3072]⟩
abbrev S1x1x3072 : Shape := ⟨3, ![1, 1, 3072]⟩
abbrev S4x8192x1024 : Shape := ⟨3, ![4, 8192, 1024]⟩
abbrev S1024x1024 : Shape := ⟨2, ![1024, 1024]⟩
abbrev S1x1024 : Shape := ⟨2, ![1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x1x3072, .f32⟩
  | .hbm, ⟨2, _⟩ => ⟨S1x1x3072, .f32⟩
  | .hbm, ⟨3, _⟩ => ⟨S4x8192x1024, .f32⟩
  | .hbm, ⟨4, _⟩ => ⟨S4x8448x1024, .f32⟩
  | .hbm, ⟨5, _⟩ => ⟨S1024x1024, .bf16⟩
  | .hbm, ⟨6, _⟩ => ⟨S1x1024, .f32⟩
  | .hbm, ⟨7, _⟩ => ⟨S4x8192x1024, .f32⟩
  | .hbm, ⟨8, _⟩ => ⟨S4x1x1024, .f32⟩
  | .hbm, ⟨9, _⟩ => ⟨S4x8192x1024, .f32⟩
  | .hbm, ⟨10, _⟩ => ⟨S4x8192x1024, .f32⟩
  | .hbm, ⟨11, _⟩ => ⟨S1024x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel7.lean ====
abbrev S4x8448x1024 : Shape := ⟨3, ![4, 8448, 1024]⟩
abbrev S8x4x2x256x768 : Shape := ⟨5, ![8, 4, 2, 256, 768]⟩
abbrev S4x8192x1024 : Shape := ⟨3, ![4, 8192, 1024]⟩
abbrev S1x256x128 : Shape := ⟨3, ![1, 256, 128]⟩
abbrev S1x8448x128 : Shape := ⟨3, ![1, 8448, 128]⟩
abbrev S1x1x2x256x768 : Shape := ⟨5, ![1, 1, 2, 256, 768]⟩
abbrev S256x128 : Shape := ⟨2, ![256, 128]⟩
abbrev S1x768x128 : Shape := ⟨3, ![1, 768, 128]⟩
abbrev S768x128 : Shape := ⟨2, ![768, 128]⟩
abbrev S256x768 : Shape := ⟨2, ![256, 768]⟩
abbrev S1x1x1x256x768 : Shape := ⟨5, ![1, 1, 1, 256, 768]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x8448x1024, .bf16⟩
  | .hbm, ⟨1, _⟩ => ⟨S4x8448x1024, .bf16⟩
  | .hbm, ⟨2, _⟩ => ⟨S4x8448x1024, .bf16⟩
  | .hbm, ⟨3, _⟩ => ⟨S8x4x2x256x768, .f32⟩
  | .hbm, ⟨4, _⟩ => ⟨S4x8192x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x1x2x256x768, .f32⟩
  | .local _ .vmem, ⟨7, _⟩ => ⟨S1x1x2x256x768, .f32⟩
  | .local _ .vmem, ⟨8, _⟩ => ⟨S1x256x128, .f32⟩
  | .local _ .vmem, ⟨9, _⟩ => ⟨S1x256x128, .f32⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 32], ![false, false, false]⟩

def k0_mult1 (i : grid0.Coords) : BitVec 32 :=
  let c116_i32 : BitVec 32 := 116#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  v4
def k0_off1 (i : grid0.Coords) : Fin 3 → Nat :=
  let c0_3 : Index := 0#32
  let c116_i32 : BitVec 32 := 116#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v9 : Index := Scalar.indexCast v5
  let c0_4 : Index := 0#32
  ![0, v9.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c31_i32 : BitVec 32 := 31#32
  let v1 : BitVec 1 := Scalar.cmpi .eq arg2 c31_i32
  let c32_i32 : BitVec 32 := 32#32
  let v2 : BitVec 1 := Scalar.cmpi .sge arg2 c32_i32
  let c3_i32 : BitVec 32 := 3#32
  let c1_i32 : BitVec 32 := 1#32
  let v3 : BitVec 32 := Scalar.select v2 c3_i32 c1_i32
  let c2_i32 : BitVec 32 := 2#32
  let v4 : BitVec 32 := Scalar.select v1 c2_i32 v3
  let c0_i32_0 : BitVec 32 := 0#32
  let v5 : BitVec 32 := Scalar.select v0 c0_i32_0 v4
  let c0_i32_1 : BitVec 32 := 0#32
  let c0_i32_2 : BitVec 32 := 0#32
  let c0_i32_3 : BitVec 32 := 0#32
  let c0_i32_4 : BitVec 32 := 0#32
  ![arg0.toNat, v5.toNat, c0_i32_1.toNat, c0_i32_2.toNat, c0_i32_3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference7Ideal.lean ====
abbrev S4x8448x1024 : Shape := ⟨3, ![4, 8448, 1024]⟩
abbrev S8x4x2x256x768 : Shape := ⟨5, ![8, 4, 2, 256, 768]⟩
abbrev S4x8192x1024 : Shape := ⟨3, ![4, 8192, 1024]⟩
abbrev S4x32x256x16x64 : Shape := ⟨5, ![4, 32, 256, 16, 64]⟩
abbrev S4x30x256x16x64 : Shape := ⟨5, ![4, 30, 256, 16, 64]⟩
abbrev S4x30x768x16x64 : Shape := ⟨5, ![4, 30, 768, 16, 64]⟩
abbrev S4x1x768x16x64 : Shape := ⟨5, ![4, 1, 768, 16, 64]⟩
abbrev S4x32x768x16x64 : Shape := ⟨5, ![4, 32, 768, 16, 64]⟩
abbrev S4x256x1024 : Shape := ⟨3, ![4, 256, 1024]⟩
abbrev S4x256x16x64 : Shape := ⟨4, ![4, 256, 16, 64]⟩
abbrev S8x1x2x256x768 : Shape := ⟨5, ![8, 1, 2, 256, 768]⟩
abbrev S8x2x256x768 : Shape := ⟨4, ![8, 2, 256, 768]⟩
abbrev S1x16x256x768 : Shape := ⟨4, ![1, 16, 256, 768]⟩
abbrev S30x16x256x768 : Shape := ⟨4, ![30, 16, 256, 768]⟩
abbrev S32x16x256x768 : Shape := ⟨4, ![32, 16, 256, 768]⟩
abbrev S4x32x16x256x768 : Shape := ⟨5, ![4, 32, 16, 256, 768]⟩
abbrev S1x32x16x256x768 : Shape := ⟨5, ![1, 32, 16, 256, 768]⟩
abbrev S4x16x256x32x256 : Shape := ⟨5, ![4, 16, 256, 32, 256]⟩
abbrev S4x32x16x256x256 : Shape := ⟨5, ![4, 32, 16, 256, 256]⟩
abbrev S4x32x16x256x1024 : Shape := ⟨5, ![4, 32, 16, 256, 1024]⟩
abbrev S_ : Shape := ⟨0, ![]⟩
abbrev S4x32x16x256 : Shape := ⟨4, ![4, 32, 16, 256]⟩
abbrev S4x32x16x256x1 : Shape := ⟨5, ![4, 32, 16, 256, 1]⟩
abbrev S4x32x16x64x256 : Shape := ⟨5, ![4, 32, 16, 64, 256]⟩
abbrev S4x16x64x32x256 : Shape := ⟨5, ![4, 16, 64, 32, 256]⟩

abbrev nBuf : Space → Nat
  | .hbm => 75
  | .vmem => 0
  | .smem => 0
  | _ => 0

abbrev bufTy : (tb : Table) → Fin (tcTables nBuf tb) → BufTy
  | .hbm, ⟨0, _⟩ => ⟨S4x8448x1024, .bf16⟩
  | .hbm, ⟨1, _⟩ => ⟨S4x8448x1024, .bf16⟩
  | .hbm, ⟨2, _⟩ => ⟨S4x8448x1024, .bf16⟩
  | .hbm, ⟨3, _⟩ => ⟨S8x4x2x256x768, .f32⟩
  | .hbm, ⟨4, _⟩ => ⟨S4x8448x1024, .f32⟩
  | .hbm, ⟨5, _⟩ => ⟨S4x8192x1024, .f32⟩
  | .hbm, ⟨6, _⟩ => ⟨S4x32x256x16x64, .f32⟩
  | .hbm, ⟨7, _⟩ => ⟨S4x8448x1024, .f32⟩
  | .hbm, ⟨8, _⟩ => ⟨S4x8448x1024, .f32⟩
  | .hbm, ⟨9, _⟩ => ⟨S4x8192x1024, .f32⟩
  | .hbm, ⟨10, _⟩ => ⟨S4x32x256x16x64, .f32⟩
  | .hbm, ⟨11, _⟩ => ⟨S4x30x256x16x64, .f32⟩
  | .hbm, ⟨12, _⟩ => ⟨S4x30x256x16x64, .f32⟩
  | .hbm, ⟨13, _⟩ => ⟨S4x30x256x16x64, .f32⟩
  | .hbm, ⟨14, _⟩ => ⟨S4x30x768x16x64, .f32⟩
  | .hbm, ⟨15, _⟩ => ⟨S4x1x768x16x64, .f32⟩
  | .hbm, ⟨16, _⟩ => ⟨S4x1x768x16x64, .f32⟩
  | .hbm, ⟨17, _⟩ => ⟨S4x32x768x16x64, .f32⟩
  | .hbm, ⟨18, _⟩ => ⟨S4x8192x1024, .f32⟩
  | .hbm, ⟨19, _⟩ => ⟨S4x32x256x16x64, .f32⟩
  | .hbm, ⟨20, _⟩ => ⟨S4x30x256x16x64, .f32⟩
  | .hbm, ⟨21, _⟩ => ⟨S4x30x256x16x64, .f32⟩
  | .hbm, ⟨22, _⟩ => ⟨S4x30x256x16x64, .f32⟩
  | .hbm, ⟨23, _⟩ => ⟨S4x30x768x16x64, .f32⟩
  | .hbm, ⟨24, _⟩ => ⟨S4x1x768x16x64, .f32⟩
  | .hbm, ⟨25, _⟩ => ⟨S4x1x768x16x64, .f32⟩
  | .hbm, ⟨26, _⟩ => ⟨S4x32x768x16x64, .f32⟩
  | .hbm, ⟨27, _⟩ => ⟨S4x256x1024, .f32⟩
  | .hbm, ⟨28, _⟩ => ⟨S4x256x16x64, .f32⟩
  | .hbm, ⟨29, _⟩ => ⟨S4x256x1024, .f32⟩
  | .hbm, ⟨30, _⟩ => ⟨S4x256x16x64, .f32⟩
  | .hbm, ⟨31, _⟩ => ⟨S8x1x2x256x768, .f32⟩
  | .hbm, ⟨32, _⟩ => ⟨S8x2x256x768, .f32⟩
  | .hbm, ⟨33, _⟩ => ⟨S1x16x256x768, .f32⟩
  | .hbm, ⟨34, _⟩ => ⟨S8x1x2x256x768, .f32⟩
  | .hbm, ⟨35, _⟩ => ⟨S8x2x256x768, .f32⟩
  | .hbm, ⟨36, _⟩ => ⟨S1x16x256x768, .f32⟩
  | .hbm, ⟨37, _⟩ => ⟨S8x1x2x256x768, .f32⟩
  | .hbm, ⟨38, _⟩ => ⟨S8x2x256x768, .f32⟩
  | .hbm, ⟨39, _⟩ => ⟨S1x16x256x768, .f32⟩
  | .hbm, ⟨40, _⟩ => ⟨S30x16x256x768, .f32⟩
  | .hbm, ⟨41, _⟩ => ⟨S32x16x256x768, .f32⟩
  | .hbm, ⟨42, _⟩ => ⟨S4x32x16x256x768, .f32⟩
  | .hbm, ⟨43, _⟩ => ⟨S1x32x16x256x768, .f32⟩
  | .hbm, ⟨44, _⟩ => ⟨S4x32x16x256x768, .f32⟩
  | .hbm, ⟨45, _⟩ => ⟨S4x32x16x256x768, .f32⟩
  | .hbm, ⟨46, _⟩ => ⟨S4x16x256x32x256, .f32⟩
  | .hbm, ⟨47, _⟩ => ⟨S4x32x16x256x256, .f32⟩
  | .hbm, ⟨48, _⟩ => ⟨S4x32x16x256x1024, .f32⟩
  | .hbm, ⟨49, _⟩ => ⟨S_, .f32⟩
  | .hbm, ⟨50, _⟩ => ⟨S_, .f32⟩
  | .hbm, ⟨51, _⟩ => ⟨S4x32x16x256x1024, .f32⟩
  | .hbm, ⟨52, _⟩ => ⟨S4x32x16x256x1024, .f32⟩
  | .hbm, ⟨53, _⟩ => ⟨S_, .f32⟩
  | .hbm, ⟨54, _⟩ => ⟨S4x32x16x256, .f32⟩
  | .hbm, ⟨55, _⟩ => ⟨S_, .f32⟩
  | .hbm, ⟨56, _⟩ => ⟨S4x32x16x256, .f32⟩
  | .hbm, ⟨57, _⟩ => ⟨S4x32x16x256, .f32⟩
  | .hbm, ⟨58, _⟩ => ⟨S4x32x16x256x1, .f32⟩
  | .hbm, ⟨59, _⟩ => ⟨S4x32x16x256x1024, .f32⟩
  | .hbm, ⟨60, _⟩ => ⟨S4x32x16x256x1024, .f32⟩
  | .hbm, ⟨61, _⟩ => ⟨S4x32x16x256x1024, .f32⟩
  | .hbm, ⟨62, _⟩ => ⟨S_, .f32⟩
  | .hbm, ⟨63, _⟩ => ⟨S4x32x16x256, .f32⟩
  | .hbm, ⟨64, _⟩ => ⟨S4x32x16x256x1, .f32⟩
  | .hbm, ⟨65, _⟩ => ⟨S4x32x16x256x1024, .f32⟩
  | .hbm, ⟨66, _⟩ => ⟨S4x32x16x256x1024, .f32⟩
  | .hbm, ⟨67, _⟩ => ⟨S4x32x16x256x768, .f32⟩
  | .hbm, ⟨68, _⟩ => ⟨S4x32x16x64x256, .f32⟩
  | .hbm, ⟨69, _⟩ => ⟨S4x32x256x16x64, .f32⟩
  | .hbm, ⟨70, _⟩ => ⟨S4x32x16x256x256, .f32⟩
  | .hbm, ⟨71, _⟩ => ⟨S4x16x64x32x256, .f32⟩
  | .hbm, ⟨72, _⟩ => ⟨S4x32x256x16x64, .f32⟩
  | .hbm, ⟨73, _⟩ => ⟨S4x32x256x16x64, .f32⟩
  | .hbm, ⟨74, _⟩ => ⟨S4x8192x1024, .f32⟩
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_0 : Ref sig .tc := ⟨.hbm, 53, rfl⟩
abbrev main_v48 : Ref sig .tc := ⟨.hbm, 54, rfl⟩
abbrev main_cst_1 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_2 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩

abbrev nD : Nat := 1
abbrev τ : Topo := Topo.v7x

variable {F : FTy → Type} [FloatOps F]
-- ==== Proof.Softmax.lean ====
/- The mathematics of a softmax taken block by block over the extended reals: a running shift and a running weighted sum, rescaled at
   each block, end at the weighted mean that the softmax of all the scores gives. Nothing here names a program. -/
module

public import Idealize.ShloMosaic.PureOps.Ideal
public import Idealize.ShloMosaic.PureOps.Ideal.Laws

@[expose] public section

noncomputable section

namespace Cert.Softmax

open Idealize.ShloMosaic

/-- A finite sum of reals, read in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A nonnegative real factor distributes over a finite sum of extended reals. -/
theorem coe_mul_sum {ι : Type*} (S : Finset ι) (r : ℝ) (hr : 0 ≤ r) (f : ι → EReal) : (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

/-- `2 ^ r`, positive. -/
def pow2 (r : ℝ) : ℝ := Real.rpow 2 r

theorem pow2_pos (r : ℝ) : 0 < pow2 r := Real.rpow_pos_of_pos (by norm_num) r

theorem pow2_add (a b : ℝ) : pow2 a * pow2 b = pow2 (a + b) := (Real.rpow_add (by norm_num) a b).symm

theorem exp2_coe (r : ℝ) : Ideal.exp2 (r : EReal) = (pow2 r : EReal) := rfl

/-- `e ^ (x · log 2 - M)` is `2 ^ x` over a constant. -/
theorem exp_log2 (x M : ℝ) : Real.exp (x * Real.log 2 - M) = pow2 x * Real.exp (-M) := by
  have h : pow2 x = Real.exp (x * Real.log 2) := by
    show (2 : ℝ) ^ x = _
    rw [Real.rpow_def_of_pos (by norm_num), mul_comm]
  rw [h, ← Real.exp_add, sub_eq_add_neg]

/-- What the running pair (shift `m`, weighted sum `a`) is after the first `n` scores: nothing yet, or a real shift and the sum of the
    values weighted by `2 ^ (score - shift)`. -/
def Running (s : ℕ → ℝ) (v : ℕ → EReal) (n : ℕ) (m a : EReal) : Prop :=
  (n = 0 ∧ m = ⊥ ∧ a = 0) ∨ ∃ μ : ℝ, m = μ ∧ a = ∑ k ∈ Finset.range n, ((pow2 (s k - μ) : ℝ) : EReal) * v k

/-- One block of `w` scores: the old sum rescaled to the new shift, plus the block's own weighted sum. -/
theorem Running.step {s : ℕ → ℝ} {v : ℕ → EReal} {n w : ℕ} {m a m' : EReal} (h : Running s v n m a) (μ' : ℝ) (hm' : m' = μ')
    (sb : Fin w → EReal) (vb : Fin w → EReal) (hs : ∀ j, sb j = ((s (n + j.val) : ℝ) : EReal)) (hv : ∀ j, vb j = v (n + j.val)) :
    Running s v (n + w) m' (Ideal.exp2 (m - m') * a + ∑ j : Fin w, Ideal.exp2 (sb j - m') * vb j) := by
  subst hm'
  refine Or.inr ⟨μ', rfl, ?_⟩
  have hb : ∑ j : Fin w, Ideal.exp2 (sb j - (μ' : EReal)) * vb j = ∑ j ∈ Finset.range w, ((pow2 (s (n + j) - μ') : ℝ) : EReal) * v (n + j) := by
    rw [← Fin.sum_univ_eq_sum_range (fun j => ((pow2 (s (n + j) - μ') : ℝ) : EReal) * v (n + j))]
    refine Finset.sum_congr rfl fun j _ => ?_
    rw [hs, hv, ← EReal.coe_sub, exp2_coe]
  rw [hb, Finset.sum_range_add]
  congr 1
  rcases h with ⟨rfl, rfl, rfl⟩ | ⟨μ, rfl, rfl⟩
  · simp
  · rw [← EReal.coe_sub, exp2_coe, coe_mul_sum _ _ (pow2_pos _).le]
    refine Finset.sum_congr rfl fun k _ => ?_
    rw [← mul_assoc, ← EReal.coe_mul, pow2_add]
    congr 3; ring

/-- Before the first block. -/
theorem Running.zero (s : ℕ → ℝ) (v : ℕ → EReal) : Running s v 0 ⊥ 0 := Or.inl ⟨rfl, rfl, rfl⟩

/-- A quotient of extended reals by a positive real. -/
theorem div_coe_pos (x : EReal) (z : ℝ) (hz : 0 < z) : Ideal.div x (z : EReal) = x * ((z⁻¹ : ℝ) : EReal) := by
  unfold Ideal.div
  rw [if_neg (by exact_mod_cast hz.ne'), EReal.coe_inv]

/-- The end: the weighted sum over the sum of the weights (the values' column of ones) is the softmax's weighted mean. -/
theorem Running.mean {s : ℕ → ℝ} {v o : ℕ → EReal} {n : ℕ} (hn : n ≠ 0) {m m' a l : EReal} (ha : Running s v n m a) (hl : Running s o n m' l)
    (hm : m' = m) (ho : ∀ k < n, o k = 1) (M : ℝ) :
    Ideal.div a l = ∑ k : Fin n, Ideal.div ((Real.exp (s k.val * Real.log 2 - M) : ℝ) : EReal)
      ((∑ j : Fin n, Real.exp (s j.val * Real.log 2 - M) : ℝ) : EReal) * v k.val := by
  subst hm
  rcases ha with ⟨h, -, -⟩ | ⟨μ, rfl, rfl⟩
  · exact absurd h hn
  rcases hl with ⟨h, -, -⟩ | ⟨μ', hμ, rfl⟩
  · exact absurd h hn
  obtain rfl : μ = μ' := by exact_mod_cast hμ
  have hl : ∑ k ∈ Finset.range n, ((pow2 (s k - μ) : ℝ) : EReal) * o k = ((∑ k ∈ Finset.range n, pow2 (s k - μ) : ℝ) : EReal) := by
    rw [coe_sum]
    refine Finset.sum_congr rfl fun k hk => ?_
    rw [ho k (Finset.mem_range.mp hk), mul_one]
  have hne : (Finset.range n).Nonempty := by simpa using hn
  have hz : 0 < ∑ k ∈ Finset.range n, pow2 (s k - μ) := Finset.sum_pos (fun k _ => pow2_pos _) hne
  have hsum : ∑ j : Fin n, Real.exp (s j.val * Real.log 2 - M) = (pow2 μ * Real.exp (-M)) * ∑ k ∈ Finset.range n, pow2 (s k - μ) := by
    rw [Fin.sum_univ_eq_sum_range (fun j => Real.exp (s j * Real.log 2 - M)), Finset.mul_sum]
    refine Finset.sum_congr rfl fun k _ => ?_
    rw [exp_log2, mul_right_comm, pow2_add]; congr 2; ring
  have hz' : 0 < ∑ j : Fin n, Real.exp (s j.val * Real.log 2 - M) := by
    rw [hsum]; exact mul_pos (mul_pos (pow2_pos _) (Real.exp_pos _)) hz
  rw [hl, div_coe_pos _ _ hz, mul_comm, coe_mul_sum _ _ (inv_nonneg.mpr hz.le),
    ← Fin.sum_univ_eq_sum_range (fun k => (((∑ k ∈ Finset.range n, pow2 (s k - μ))⁻¹ : ℝ) : EReal) * (((pow2 (s k - μ) : ℝ) : EReal) * v k))]
  refine Finset.sum_congr rfl fun k _ => ?_
  rw [div_coe_pos _ _ hz', ← mul_assoc, ← EReal.coe_mul, ← EReal.coe_mul, hsum]
  congr 2
  have e : pow2 (s k.val) = pow2 (s k.val - μ) * pow2 μ := by rw [pow2_add]; congr 1; ring
  rw [exp_log2, e]
  have h1 := (pow2_pos μ).ne'
  have h2 := (Real.exp_pos (-M)).ne'
  field_simp

/-- The greatest of finitely many reals folded from `⊥` is `⊥` or a real; from a real it is a real. -/
theorem exists_max_coe (x : EReal) (hx : x = ⊥ ∨ ∃ r : ℝ, x = r) (r : ℝ) : ∃ r' : ℝ, max x (r : EReal) = r' := by
  rcases hx with rfl | ⟨q, rfl⟩
  · exact ⟨r, by simp⟩
  · exact ⟨max q r, (EReal.coe_strictMono.monotone.map_max).symm⟩

end Cert.Softmax

end
-- ==== Proof.Trip.lean ====
/-
  One trip of each key loop, and what its payloads are at an index over the extended reals: the scores are sums of
  products over the head's 128 lanes, the new running maximum is the old one against the row's greatest score, and the
  new accumulator is the old one rescaled plus the products of the new weights with the value lanes.
-/
module

public import proofs.«01_k».proof.Defs
public import proofs.«01_k».proof.Proof.Gen.KernelIdeal.Value
public import proofs.«01_k».proof.Proof.Softmax
public import Idealize.ShloMosaic.Lib.Pointwise
public import Idealize.ShloMosaic.Lib.WholeRead
public import Idealize.ShloMosaic.PureOps.Ideal.Laws

@[expose] public section

set_option maxRecDepth 16384

noncomputable section

open Idealize.ShloMosaic Idealize.ShloMosaic.TcCoe

namespace Cert.KernelIdeal.Trip

open Cert.KernelIdeal Cert.KernelIdeal.Gen

section Payloads

variable (v0 : Vec Ideal S1x512x128 .bf16) (L : Vec Ideal S1x768x128 .bf16) (W : Vec Ideal S1x768x256 .bf16)
  (a8 : FVec Ideal S512x1 .f32) (a9 : FVec Ideal S512x256 .f32)

theorem ofBits_negInf : Ideal.ofBits .f32 0xFF800000#32 = ⊥ := by
  simp [Ideal.ofBits, Ideal.ieee]

theorem pay1_apply (r : Fin 512) : k0_pay1 (F := Ideal) (ix2 r 0) = ⊥ := ofBits_negInf

theorem pay2_apply (r : Fin 512) (o : Fin 256) : k0_pay2 (F := Ideal) (ix2 r o) = 0 := Ideal.ofBits_zero_f32

/-- A score: the query row against a key row, over the head's 128 lanes. -/
theorem pay3_apply (r : Fin 512) (j : Fin 768) :
    k0_pay3 v0 L (ix2 r j) = ∑ d : Fin 128, v0 (ix3 0 r d) * L (ix3 0 j d) := by
  unfold k0_pay3
  pointwise

/-- The new running maximum: the old one against the greatest of the block's scores. -/
theorem pay4_apply (r : Fin 512) :
    k0_pay4 v0 a8 L (ix2 r 0) = max (a8 (ix2 r 0)) (Finset.univ.fold max ⊥ fun j : Fin 768 => k0_pay3 v0 L (ix2 r j)) := by
  unfold k0_pay4
  pointwise
  rw [ofBits_negInf]

/-- The new accumulator: the old one rescaled plus the block's weighted values. -/
theorem pay5_apply (r : Fin 512) (o : Fin 256) :
    k0_pay5 v0 a8 a9 L W (ix2 r o) = Ideal.exp2 (a8 (ix2 r 0) - k0_pay4 v0 a8 L (ix2 r 0)) * a9 (ix2 r o)
      + ∑ j : Fin 768, Ideal.exp2 (k0_pay3 v0 L (ix2 r j) - k0_pay4 v0 a8 L (ix2 r 0)) * W (ix3 0 j o) := by
  unfold k0_pay5
  pointwise
  rfl

/-- The second head's loop computes with the same payloads. -/
theorem pay6_eq : k0_pay6 (F := Ideal) = k0_pay1 := rfl
theorem pay7_eq : k0_pay7 (F := Ideal) = k0_pay2 := rfl
theorem pay9_eq : k0_pay9 v0 a8 L = k0_pay4 v0 a8 L := rfl
theorem pay10_eq : k0_pay10 v0 a8 a9 L W = k0_pay5 v0 a8 a9 L W := rfl

theorem lane_lt (l : Fin 128) : IntOp.cmpi .slt (BitVec.ofNat 32 l.val) 64#32 = if l.val < 64 then 1#1 else 0#1 := by
  revert l; decide

/-- The stored block: the quotient of the lane's accumulator by the accumulator of the ones lane, of the first head on the lower 64 lanes
    and of the second on the upper. -/
theorem pay11_apply (a b : FVec Ideal S512x256 .f32) (r : Fin 512) (l : Fin 128) :
    k0_pay11 a b (ix3 0 r l) = if l.val < 64 then Ideal.div (a (ix2 r ⟨l.val, by omega⟩)) (a (ix2 r 128))
      else Ideal.div (b (ix2 r ⟨l.val, by omega⟩)) (b (ix2 r 128)) := by
  unfold k0_pay11
  pointwise
  rw [lane_lt]
  split <;> rfl

end Payloads

section Loops

variable (c : Dev nD) (i : grid0.Coords) (arg3 : Memref sig .tc .vmem S1x512x256 .bf16) (harg3 : arg3.IsWhole)
  (arg4 : Memref sig .tc .vmem S1x8448x256 .bf16) (harg4 : arg4.IsWhole) (arg5 : Memref sig .tc .vmem S1x8448x256 .bf16)
  (harg5 : arg5.IsWhole) (arg6 : Memref sig .tc .vmem S1x512x128 .f32) (harg6 : arg6.IsWhole)
  (v0 : Vec Ideal S1x512x128 .bf16) (x1 x2 : Vec Ideal S1x8448x256 .bf16)

/-- Key row `768 n + j`. -/
abbrev key (n : ℕ) (hn : n < 11) (j : Fin 768) : Fin 8448 := ⟨768 * n + j.val, by omega⟩

/-- Key block `n`'s rows, on the 128 lanes from `e` on. -/
def rows (e : ℕ) (he : e + 128 ≤ 256) (n : ℕ) (hn : n < 11) : Vec Ideal S1x768x128 .bf16 :=
  fun x => x1 (ix3 0 (key n hn (x 1)) ⟨e + (x 2).val, by have h : (x 2).val < 128 := (x 2).isLt; omega⟩)

/-- Value block `n`'s rows. -/
def vals (n : ℕ) (hn : n < 11) : Vec Ideal S1x768x256 .bf16 := fun x => x2 (ix3 0 (key n hn (x 1)) (x 2))

theorem trips_t1 : k0_t1_loop.trips = 11 := by decide +kernel

/-- One trip of head 0's loop. -/
theorem trip1 (k : Fin k0_t1_loop.trips) (hk : k.val < 11) (acc : FVec Ideal S512x1 .f32 × FVec Ideal S512x256 .f32) :
    tripR_k0_t1 (F := Ideal) Variants.none c none i arg3 harg3 arg4 harg4 arg5 harg5 arg6 harg6 v0 (harg4.unread x1) (harg5.unread x2) k acc
      = (k0_pay4 v0 acc.1 (rows x1 0 (by omega) k.val hk), k0_pay5 v0 acc.1 acc.2 (rows x1 0 (by omega) k.val hk) (vals x2 k.val hk)) := by
  have e1 : View.readAt (Elt Ideal) arg4.view (Rect.unit (s := S1x8448x256) (k0_off1 k) S1x768x128.size (k0_off1_inb k)).toLoadRect (harg4.unread x1)
      = rows x1 0 (by omega) k.val hk := by
    funext x
    refine (harg4.readAt_unread x1 _ x).trans ?_
    unfold rows
    congr 1
    funext a
    apply Fin.ext
    have h0 : (x 0).val < 1 := (x 0).isLt
    match a with
    | ⟨0, _⟩ => have ho : k0_off1 k 0 = 0 := congrFun (k0_off1_eq k) 0; show (k0_off1 k) 0 + 1 * (x 0).val = 0; omega
    | ⟨1, _⟩ => have ho : k0_off1 k 1 = 768 * k.val := congrFun (k0_off1_eq k) 1; show (k0_off1 k) 1 + 1 * (x 1).val = 768 * k.val + (x 1).val; omega
    | ⟨2, _⟩ => have ho : k0_off1 k 2 = 0 := congrFun (k0_off1_eq k) 2; show (k0_off1 k) 2 + 1 * (x 2).val = 0 + (x 2).val; omega
  have e2 : View.readAt (Elt Ideal) arg5.view (Rect.unit (s := S1x8448x256) (k0_off2 k) S1x768x256.size (k0_off2_inb k)).toLoadRect (harg5.unread x2)
      = vals x2 k.val hk := by
    funext x
    refine (harg5.readAt_unread x2 _ x).trans ?_
    unfold vals
    congr 1
    funext a
    apply Fin.ext
    have h0 : (x 0).val < 1 := (x 0).isLt
    match a with
    | ⟨0, _⟩ => have ho : k0_off2 k 0 = 0 := congrFun (k0_off2_eq k) 0; show (k0_off2 k) 0 + 1 * (x 0).val = 0; omega
    | ⟨1, _⟩ => have ho : k0_off2 k 1 = 768 * k.val := congrFun (k0_off2_eq k) 1; show (k0_off2 k) 1 + 1 * (x 1).val = 768 * k.val + (x 1).val; omega
    | ⟨2, _⟩ => have ho : k0_off2 k 2 = 0 := congrFun (k0_off2_eq k) 2; show (k0_off2 k) 2 + 1 * (x 2).val = (x 2).val; omega
  rw [← e1, ← e2]
  unfold tripR_k0_t1 trip_k0_t1
  rfl

theorem trips_t2 : k0_t2_loop.trips = 11 := by decide +kernel

/-- One trip of head 1's loop. -/
theorem trip2 (k : Fin k0_t2_loop.trips) (hk : k.val < 11) (acc : FVec Ideal S512x1 .f32 × FVec Ideal S512x256 .f32) :
    tripR_k0_t2 (F := Ideal) Variants.none c none i arg3 harg3 arg4 harg4 arg5 harg5 arg6 harg6 v0 (harg4.unread x1) (harg5.unread x2) k acc
      = (k0_pay9 v0 acc.1 (rows x1 128 (by omega) k.val hk), k0_pay10 v0 acc.1 acc.2 (rows x1 128 (by omega) k.val hk) (vals x2 k.val hk)) := by
  have e1 : View.readAt (Elt Ideal) arg4.view (Rect.unit (s := S1x8448x256) (k0_off3 k) S1x768x128.size (k0_off3_inb k)).toLoadRect (harg4.unread x1)
      = rows x1 128 (by omega) k.val hk := by
    funext x
    refine (harg4.readAt_unread x1 _ x).trans ?_
    unfold rows
    congr 1
    funext a
    apply Fin.ext
    have h0 : (x 0).val < 1 := (x 0).isLt
    match a with
    | ⟨0, _⟩ => have ho : k0_off3 k 0 = 0 := congrFun (k0_off3_eq k) 0; show (k0_off3 k) 0 + 1 * (x 0).val = 0; omega
    | ⟨1, _⟩ => have ho : k0_off3 k 1 = 768 * k.val := congrFun (k0_off3_eq k) 1; show (k0_off3 k) 1 + 1 * (x 1).val = 768 * k.val + (x 1).val; omega
    | ⟨2, _⟩ => have ho : k0_off3 k 2 = 128 := congrFun (k0_off3_eq k) 2; show (k0_off3 k) 2 + 1 * (x 2).val = 128 + (x 2).val; omega
  have e2 : View.readAt (Elt Ideal) arg5.view (Rect.unit (s := S1x8448x256) (k0_off4 k) S1x768x256.size (k0_off4_inb k)).toLoadRect (harg5.unread x2)
      = vals x2 k.val hk := by
    funext x
    refine (harg5.readAt_unread x2 _ x).trans ?_
    unfold vals
    congr 1
    funext a
    apply Fin.ext
    have h0 : (x 0).val < 1 := (x 0).isLt
    match a with
    | ⟨0, _⟩ => have ho : k0_off4 k 0 = 0 := congrFun (k0_off4_eq k) 0; show (k0_off4 k) 0 + 1 * (x 0).val = 0; omega
    | ⟨1, _⟩ => have ho : k0_off4 k 1 = 768 * k.val := congrFun (k0_off4_eq k) 1; show (k0_off4 k) 1 + 1 * (x 1).val = 768 * k.val + (x 1).val; omega
    | ⟨2, _⟩ => have ho : k0_off4 k 2 = 0 := congrFun (k0_off4_eq k) 2; show (k0_off4 k) 2 + 1 * (x 2).val = (x 2).val; omega
  rw [← e1, ← e2]
  unfold tripR_k0_t2 trip_k0_t2
  rfl

end Loops

end Cert.KernelIdeal.Trip
-- ==== Proof.Fold.lean ====
/-
  The two key loops over their eleven blocks, and the block one grid point stores: row `r`, lane `l` is the softmax's
  weighted mean of the value lane over the 8448 key rows, for the head whose lanes `l` is on.
-/
module

public import proofs.«01_k».proof.Proof.Trip
public import Idealize.ShloMosaic.Lib.Pipeline.Value

@[expose] public section

set_option maxRecDepth 16384

noncomputable section

open Idealize.ShloMosaic Idealize.ShloMosaic.TcCoe Cert.Softmax

namespace Cert.KernelIdeal.Fold

open Cert.KernelIdeal Cert.KernelIdeal.Gen Cert.KernelIdeal.Trip

/-- The greatest of finitely many reals, from `⊥`, is `⊥` or a real; of at least one, a real. -/
theorem fold_max_coe {ι : Type*} (f : ι → EReal) (hf : ∀ i, ∃ r : ℝ, f i = r) (S : Finset ι) :
    S = ∅ ∨ ∃ r : ℝ, S.fold max ⊥ f = r := by
  classical
  induction S using Finset.induction_on with
  | empty => exact Or.inl rfl
  | insert a S ha ih =>
    refine Or.inr ?_
    rw [Finset.fold_insert ha, max_comm]
    obtain ⟨r, hr⟩ := hf a
    rw [hr]
    refine exists_max_coe _ ?_ r
    rcases ih with rfl | h
    · exact Or.inl rfl
    · exact Or.inr h

/-- One block of keys, at row `r` and accumulator lane `o`. -/
theorem step (v0 : Vec Ideal S1x512x128 .bf16) (L : Vec Ideal S1x768x128 .bf16) (W : Vec Ideal S1x768x256 .bf16)
    (a8 : FVec Ideal S512x1 .f32) (a9 : FVec Ideal S512x256 .f32) (r : Fin 512) (o : Fin 256) (s : ℕ → ℝ) (v : ℕ → EReal) (n : ℕ)
    (hs : ∀ j : Fin 768, k0_pay3 v0 L (ix2 r j) = ((s (n + j.val) : ℝ) : EReal)) (hv : ∀ j : Fin 768, W (ix3 0 j o) = v (n + j.val))
    (h : Running s v n (a8 (ix2 r 0)) (a9 (ix2 r o))) :
    Running s v (n + 768) (k0_pay4 v0 a8 L (ix2 r 0)) (k0_pay5 v0 a8 a9 L W (ix2 r o)) := by
  have hμ : ∃ μ : ℝ, k0_pay4 v0 a8 L (ix2 r 0) = μ := by
    rw [pay4_apply]
    obtain ⟨q, hq⟩ := (fold_max_coe (fun j : Fin 768 => k0_pay3 v0 L (ix2 r j)) (fun j => ⟨_, hs j⟩) Finset.univ).resolve_left
      (Finset.univ_nonempty.ne_empty)
    rw [hq]
    refine exists_max_coe _ ?_ q
    rcases h with ⟨-, h, -⟩ | ⟨μ, h, -⟩
    · exact Or.inl h
    · exact Or.inr ⟨μ, h⟩
  obtain ⟨μ, hμ⟩ := hμ
  rw [pay5_apply]
  exact Running.step h μ hμ _ _ hs hv

section Loops

variable (c : Dev nD) (i : grid0.Coords) (arg3 : Memref sig .tc .vmem S1x512x256 .bf16) (harg3 : arg3.IsWhole)
  (arg4 : Memref sig .tc .vmem S1x8448x256 .bf16) (harg4 : arg4.IsWhole) (arg5 : Memref sig .tc .vmem S1x8448x256 .bf16)
  (harg5 : arg5.IsWhole) (arg6 : Memref sig .tc .vmem S1x512x128 .f32) (harg6 : arg6.IsWhole)
  (v0 : Vec Ideal S1x512x128 .bf16) (x1 x2 : Vec Ideal S1x8448x256 .bf16)
  (Q : Fin 512 → Fin 128 → ℝ) (K : Fin 8448 → Fin 256 → ℝ)

/-- Row `r`'s score against key `n`, on the 128 lanes from `e` on. -/
def score (e : ℕ) (he : e + 128 ≤ 256) (r : Fin 512) (n : ℕ) : ℝ :=
  ∑ d : Fin 128, Q r d * K (Fin.ofNat 8448 n) ⟨e + d.val, by omega⟩

/-- Lane `o` of value row `n`. -/
def value (o : Fin 256) (n : ℕ) : EReal := x2 (ix3 0 (Fin.ofNat 8448 n) o)

theorem key_eq (n : ℕ) (hn : n < 11) (j : Fin 768) : Fin.ofNat 8448 (768 * n + j.val) = key n hn j :=
  Fin.ext (Nat.mod_eq_of_lt (by omega))

variable (hQ : ∀ r d, v0 (ix3 0 r d) = ((Q r d : ℝ) : EReal)) (hK : ∀ n d, x1 (ix3 0 n d) = ((K n d : ℝ) : EReal))

include hQ hK in
theorem score_eq (e : ℕ) (he : e + 128 ≤ 256) (n : ℕ) (hn : n < 11) (r : Fin 512) (j : Fin 768) :
    k0_pay3 v0 (rows x1 e he n hn) (ix2 r j) = ((score Q K e he r (768 * n + j.val) : ℝ) : EReal) := by
  rw [pay3_apply]
  unfold score
  rw [coe_sum]
  refine Finset.sum_congr rfl fun d _ => ?_
  rw [hQ, key_eq n hn j, EReal.coe_mul, ← hK]
  rfl

theorem value_eq (n : ℕ) (hn : n < 11) (o : Fin 256) (j : Fin 768) : vals x2 n hn (ix3 0 j o) = value x2 o (768 * n + j.val) := by
  unfold value
  rw [key_eq n hn j]
  rfl

include hQ hK in
/-- Head 0's loop before block `n`, at row `r` and lane `o`. -/
theorem loop1 (n : ℕ) (hn : n ≤ 11) (r : Fin 512) (o : Fin 256) :
    Running (score Q K 0 (by omega) r) (value x2 o) (768 * n)
      ((st_k0_t1 (F := Ideal) Variants.none c none i arg3 harg3 arg4 harg4 arg5 harg5 arg6 harg6 v0 (harg4.unread x1) (harg5.unread x2) (k0_pay1, k0_pay2) n).1 (ix2 r 0))
      ((st_k0_t1 (F := Ideal) Variants.none c none i arg3 harg3 arg4 harg4 arg5 harg5 arg6 harg6 v0 (harg4.unread x1) (harg5.unread x2) (k0_pay1, k0_pay2) n).2 (ix2 r o)) := by
  induction n with
  | zero =>
    rw [st_k0_t1_zero]
    show Running _ _ _ (k0_pay1 (F := Ideal) (ix2 r 0)) (k0_pay2 (F := Ideal) (ix2 r o))
    rw [pay1_apply, pay2_apply]
    exact Running.zero _ _
  | succ n ih =>
    have hk : n < k0_t1_loop.trips := by rw [trips_t1]; omega
    have h := st_k0_t1_succ (F := Ideal) Variants.none c none i arg3 harg3 arg4 harg4 arg5 harg5 arg6 harg6 v0 (harg4.unread x1) (harg5.unread x2) (k0_pay1, k0_pay2) ⟨n, hk⟩
    rw [trip1 c i arg3 harg3 arg4 harg4 arg5 harg5 arg6 harg6 v0 x1 x2 ⟨n, hk⟩ (by show n < 11; omega)] at h
    dsimp only at h
    rw [h]
    exact step v0 (rows x1 0 (by omega) n (by omega)) (vals x2 n (by omega)) _ _ r o _ _ (768 * n) (score_eq v0 x1 Q K hQ hK 0 (by omega) n (by omega) r)
      (value_eq x2 n (by omega) o) (ih (by omega))

include hQ hK in
/-- Head 0's quotient of a lane by the ones lane: the softmax's weighted mean of the value lane. -/
theorem mean1 (hone : ∀ n : Fin 8448, x2 (ix3 0 n 128) = 1) (M : ℝ) (r : Fin 512) (o : Fin 256) :
    Ideal.div
      ((st_k0_t1 (F := Ideal) Variants.none c none i arg3 harg3 arg4 harg4 arg5 harg5 arg6 harg6 v0 (harg4.unread x1) (harg5.unread x2) (k0_pay1, k0_pay2) 11).2 (ix2 r o))
      ((st_k0_t1 (F := Ideal) Variants.none c none i arg3 harg3 arg4 harg4 arg5 harg5 arg6 harg6 v0 (harg4.unread x1) (harg5.unread x2) (k0_pay1, k0_pay2) 11).2 (ix2 r 128))
      = ∑ k : Fin 8448, Ideal.div ((Real.exp (score Q K 0 (by omega) r k.val * Real.log 2 - M) : ℝ) : EReal)
          ((∑ j : Fin 8448, Real.exp (score Q K 0 (by omega) r j.val * Real.log 2 - M) : ℝ) : EReal) * value x2 o k.val :=
  Running.mean (n := 8448) (by omega)
    (loop1 c i arg3 harg3 arg4 harg4 arg5 harg5 arg6 harg6 v0 x1 x2 Q K hQ hK 11 le_rfl r o)
    (loop1 c i arg3 harg3 arg4 harg4 arg5 harg5 arg6 harg6 v0 x1 x2 Q K hQ hK 11 le_rfl r 128)
    rfl (fun k _ => hone _) M

include hQ hK in
/-- Head 1's loop before block `n`, at row `r` and lane `o`. -/
theorem loop2 (n : ℕ) (hn : n ≤ 11) (r : Fin 512) (o : Fin 256) :
    Running (score Q K 128 (by omega) r) (value x2 o) (768 * n)
      ((st_k0_t2 (F := Ideal) Variants.none c none i arg3 harg3 arg4 harg4 arg5 harg5 arg6 harg6 v0 (harg4.unread x1) (harg5.unread x2) (k0_pay1, k0_pay2) n).1 (ix2 r 0))
      ((st_k0_t2 (F := Ideal) Variants.none c none i arg3 harg3 arg4 harg4 arg5 harg5 arg6 harg6 v0 (harg4.unread x1) (harg5.unread x2) (k0_pay1, k0_pay2) n).2 (ix2 r o)) := by
  induction n with
  | zero =>
    rw [st_k0_t2_zero]
    show Running _ _ _ (k0_pay1 (F := Ideal) (ix2 r 0)) (k0_pay2 (F := Ideal) (ix2 r o))
    rw [pay1_apply, pay2_apply]
    exact Running.zero _ _
  | succ n ih =>
    have hk : n < k0_t2_loop.trips := by rw [trips_t2]; omega
    have h := st_k0_t2_succ (F := Ideal) Variants.none c none i arg3 harg3 arg4 harg4 arg5 harg5 arg6 harg6 v0 (harg4.unread x1) (harg5.unread x2) (k0_pay1, k0_pay2) ⟨n, hk⟩
    rw [trip2 c i arg3 harg3 arg4 harg4 arg5 harg5 arg6 harg6 v0 x1 x2 ⟨n, hk⟩ (by show n < 11; omega)] at h
    dsimp only at h
    rw [h]
    exact step v0 (rows x1 128 (by omega) n (by omega)) (vals x2 n (by omega)) _ _ r o _ _ (768 * n) (score_eq v0 x1 Q K hQ hK 128 (by omega) n (by omega) r)
      (value_eq x2 n (by omega) o) (ih (by omega))

include hQ hK in
/-- Head 1's quotient of a lane by the ones lane: the softmax's weighted mean of the value lane. -/
theorem mean2 (hone : ∀ n : Fin 8448, x2 (ix3 0 n 128) = 1) (M : ℝ) (r : Fin 512) (o : Fin 256) :
    Ideal.div
      ((st_k0_t2 (F := Ideal) Variants.none c none i arg3 harg3 arg4 harg4 arg5 harg5 arg6 harg6 v0 (harg4.unread x1) (harg5.unread x2) (k0_pay1, k0_pay2) 11).2 (ix2 r o))
      ((st_k0_t2 (F := Ideal) Variants.none c none i arg3 harg3 arg4 harg4 arg5 harg5 arg6 harg6 v0 (harg4.unread x1) (harg5.unread x2) (k0_pay1, k0_pay2) 11).2 (ix2 r 128))
      = ∑ k : Fin 8448, Ideal.div ((Real.exp (score Q K 128 (by omega) r k.val * Real.log 2 - M) : ℝ) : EReal)
          ((∑ j : Fin 8448, Real.exp (score Q K 128 (by omega) r j.val * Real.log 2 - M) : ℝ) : EReal) * value x2 o k.val :=
  Running.mean (n := 8448) (by omega)
    (loop2 c i arg3 harg3 arg4 harg4 arg5 harg5 arg6 harg6 v0 x1 x2 Q K hQ hK 11 le_rfl r o)
    (loop2 c i arg3 harg3 arg4 harg4 arg5 harg5 arg6 harg6 v0 x1 x2 Q K hQ hK 11 le_rfl r 128)
    rfl (fun k _ => hone _) M

end Loops

/-- Row `r`'s score against key `n` for head `h` of the pair: the query's and the key's 128 lanes of that head. -/
def headScore (Q : Fin 512 → Fin 256 → ℝ) (K : Fin 8448 → Fin 256 → ℝ) (h : ℕ) (hh : h < 2) (r : Fin 512) (n : Fin 8448) : ℝ :=
  ∑ d : Fin 128, Q r ⟨128 * h + d.val, by omega⟩ * K n ⟨128 * h + d.val, by omega⟩

/-- The block a point stores, at row `r` and lane `l`. -/
theorem out_apply (c : Dev nD) (i : grid0.Coords) (arg3 : Memref sig .tc .vmem S1x512x256 .bf16) (harg3 : arg3.IsWhole)
    (arg4 : Memref sig .tc .vmem S1x8448x256 .bf16) (harg4 : arg4.IsWhole) (arg5 : Memref sig .tc .vmem S1x8448x256 .bf16)
    (harg5 : arg5.IsWhole) (arg6 : Memref sig .tc .vmem S1x512x128 .f32) (harg6 : arg6.IsWhole)
    (x0 : Vec Ideal S1x512x256 .bf16) (x1 x2 : Vec Ideal S1x8448x256 .bf16) (Q : Fin 512 → Fin 256 → ℝ) (K : Fin 8448 → Fin 256 → ℝ)
    (hQ : ∀ r d, x0 (ix3 0 r d) = ((Q r d : ℝ) : EReal)) (hK : ∀ n d, x1 (ix3 0 n d) = ((K n d : ℝ) : EReal))
    (hone : ∀ n : Fin 8448, x2 (ix3 0 n 128) = 1) (M : ℝ) (r : Fin 512) (l : Fin 128) :
    out0_A_3 (F := Ideal) c i arg3 harg3 arg4 harg4 arg5 harg5 arg6 harg6 x0 x1 x2 (ix3 0 r l)
      = ∑ k : Fin 8448, Ideal.div ((Real.exp (headScore Q K (l.val / 64) (by omega) r k * Real.log 2 - M) : ℝ) : EReal)
          ((∑ j : Fin 8448, Real.exp (headScore Q K (l.val / 64) (by omega) r j * Real.log 2 - M) : ℝ) : EReal)
          * x2 (ix3 0 k ⟨l.val, by omega⟩) := by
  have hz : (![0, 0, 0] : Fin 3 → Nat) = fun _ => 0 := funext fun a => by fin_cases a <;> rfl
  have ek (k : Fin 8448) : Fin.ofNat 8448 k.val = k := Fin.ext (Nat.mod_eq_of_lt k.isLt)
  unfold out0_A_3
  rw [View.read_writes_eq_canon _ _ _ (cover0_A_3 c i arg3 harg3 arg4 harg4 arg5 harg5 arg6 harg6 x0 x1 x2)]
  unfold kernelRun0_A
  dsimp only
  rw [View.canon_unit_zero hz, pay11_apply]
  split
  · next h =>
    have e0 : l.val / 64 = 0 := by omega
    refine (mean1 c i arg3 harg3 arg4 harg4 arg5 harg5 arg6 harg6 _ x1 x2 (fun r d => Q r ⟨d.val, by omega⟩) K ?_ hK hone M r ⟨l.val, by omega⟩).trans ?_
    · intro r d
      refine (harg3.readAt_unread x0 _ _).trans ?_
      rw [← hQ]
      congr 1
      funext a
      apply Fin.ext
      match a with
      | ⟨0, _⟩ => rfl
      | ⟨1, _⟩ => show 0 + 1 * r.val = r.val; omega
      | ⟨2, _⟩ => show 0 + 1 * d.val = d.val; omega
    · simp only [score, headScore, value, ek, e0, Nat.mul_zero, Nat.zero_add]
  · next h =>
    have e0 : l.val / 64 = 1 := by omega
    refine (mean2 c i arg3 harg3 arg4 harg4 arg5 harg5 arg6 harg6 _ x1 x2 (fun r d => Q r ⟨128 + d.val, by omega⟩) K ?_ hK hone M r ⟨l.val, by omega⟩).trans ?_
    · intro r d
      refine (harg3.readAt_unread x0 _ _).trans ?_
      rw [← hQ]
      congr 1
      funext a
      apply Fin.ext
      match a with
      | ⟨0, _⟩ => rfl
      | ⟨1, _⟩ => show 0 + 1 * r.val = r.val; omega
      | ⟨2, _⟩ => show 128 + 1 * d.val = 128 + d.val; omega
    · simp only [score, headScore, value, ek, e0, Nat.mul_one]

end Cert.KernelIdeal.Fold
-- ==== Proof.Array.lean ====
/-
  The kernel's result array on the rows its grid writes: at (b, r, o) with r below 8192 it is the softmax's weighted mean
  of the value lane of `o` over the 8448 key rows, by the scores of head o / 64.
-/
module

public import proofs.«01_k».proof.Proof.Fold

@[expose] public section

set_option maxRecDepth 16384

noncomputable section

open Idealize.ShloMosaic Idealize.ShloMosaic.TcCoe Idealize.SL.Sem Cert.Softmax
open Idealize.ShloMosaic.Pipeline (Dat)

namespace Cert.Attention

abbrev A : Shape := ⟨3, ![4, 8448, 1024]⟩
abbrev O : Shape := ⟨3, ![4, 8448, 512]⟩

/-- Query row `r`'s score against key row `n`, on head `h`'s 128 lanes of batch `b`. -/
def score (q k : A.Idx → EReal) (b : Fin 4) (h : Fin 8) (r n : Fin 8448) : ℝ :=
  ∑ d : Fin 128, (q (ix3 b r ⟨128 * h.val + d.val, by omega⟩)).toReal * (k (ix3 b n ⟨128 * h.val + d.val, by omega⟩)).toReal

/-- The attention at one index, the exponents shifted by any real `M`. -/
def attn (q k v : A.Idx → EReal) (M : ℝ) (b : Fin 4) (r : Fin 8448) (o : Fin 512) : EReal :=
  ∑ n : Fin 8448, Ideal.div ((Real.exp (score q k b ⟨o.val / 64, by omega⟩ r n * Real.log 2 - M) : ℝ) : EReal)
    ((∑ j : Fin 8448, Real.exp (score q k b ⟨o.val / 64, by omega⟩ r j * Real.log 2 - M) : ℝ) : EReal)
    * v (ix3 b n ⟨256 * (o.val / 128) + o.val % 128, by omega⟩)

/-- Lane 128 of each pair's 256 value lanes is one. -/
def OnesLane (v : A.Idx → EReal) : Prop :=
  ∀ (b : Fin 4) (n : Fin 8448) (p : Fin 4), v (ix3 b n ⟨256 * p.val + 128, by omega⟩) = 1

end Cert.Attention

namespace Cert.KernelIdeal.Final

open Cert.KernelIdeal Cert.KernelIdeal.Gen Cert.Attention

variable (m : (ℓ : Loc nD τ sig) → Buf (Elt Ideal) ℓ) (ρ : Dev nD → PrngReg)

theorem coords_val : ∀ t : Fin cfg0.N, (grid0.coords t 0).val = t.val / 64 ∧ (grid0.coords t 1).val = t.val / 16 % 4 ∧ (grid0.coords t 2).val = t.val % 16 := by
  decide +kernel

theorem index3 : ∀ t : Fin cfg0.N, win0_3.index t = ![t.val / 64, t.val % 16, t.val / 16 % 4] := by decide +kernel
theorem index0 : ∀ t : Fin cfg0.N, win0_0.index t = ![t.val / 64, t.val % 16, t.val / 16 % 4] := by decide +kernel
theorem index1 : ∀ t : Fin cfg0.N, win0_1.index t = ![t.val / 64, 0, t.val / 16 % 4] := by decide +kernel
theorem index2 : ∀ t : Fin cfg0.N, win0_2.index t = ![t.val / 64, 0, t.val / 16 % 4] := by decide +kernel
theorem xsize3 : ∀ t : Fin cfg0.N, ∀ a, win0_3.xsize (grid0.coords t) a = S1x512x128.size a := by decide +kernel

theorem lt_N (t : Fin cfg0.N) : t.val < 256 := lt_of_lt_of_eq t.isLt N_0

abbrev q (c : Dev nD) : A.Idx → EReal := m ((c : Thread nD τ).loc main_arg0)
abbrev k (c : Dev nD) : A.Idx → EReal := m ((c : Thread nD τ).loc main_arg1)
abbrev v (c : Dev nD) : A.Idx → EReal := m ((c : Thread nD τ).loc main_arg2)

/-- Point `t`'s query block. -/
theorem x0_apply (c : Dev nD) (t : Fin cfg0.N) (r : Fin 512) (d : Fin 256) :
    (X0_0 m c t : S1x512x256.Idx → EReal) (ix3 0 r d)
      = q m c (ix3 ⟨t.val / 64, by have := lt_N t; omega⟩ ⟨512 * (t.val % 16) + r.val, by omega⟩ ⟨256 * (t.val / 16 % 4) + d.val, by omega⟩) := by
  unfold X0_0 Pipeline.Window.fill
  rw [dif_pos (moved0_0 t _)]
  unfold iblk
  rw [View.read_apply]
  show V m c main_arg0 _ = m (c.tc.loc main_arg0) _
  unfold V
  congr 1
  have i0 : win0_0.index t 0 = t.val / 64 := congrFun (index0 t) 0
  have i1 : win0_0.index t 1 = t.val % 16 := congrFun (index0 t) 1
  have i2 : win0_0.index t 2 = t.val / 16 % 4 := congrFun (index0 t) 2
  funext a
  apply Fin.ext
  match a with
  | ⟨0, _⟩ => show win0_0.index t 0 * 1 + 1 * 0 = t.val / 64; omega
  | ⟨1, _⟩ => show win0_0.index t 1 * 512 + 1 * r.val = 512 * (t.val % 16) + r.val; omega
  | ⟨2, _⟩ => show win0_0.index t 2 * 256 + 1 * d.val = 256 * (t.val / 16 % 4) + d.val; omega

/-- Point `t`'s keys. -/
theorem x1_apply (c : Dev nD) (t : Fin cfg0.N) (n : Fin 8448) (d : Fin 256) :
    (iblk m c 1 t : S1x8448x256.Idx → EReal) (ix3 0 n d)
      = k m c (ix3 ⟨t.val / 64, by have := lt_N t; omega⟩ n ⟨256 * (t.val / 16 % 4) + d.val, by omega⟩) := by
  unfold iblk
  rw [View.read_apply]
  show V m c main_arg1 _ = m (c.tc.loc main_arg1) _
  unfold V
  congr 1
  have i0 : win0_1.index t 0 = t.val / 64 := congrFun (index1 t) 0
  have i1 : win0_1.index t 1 = 0 := congrFun (index1 t) 1
  have i2 : win0_1.index t 2 = t.val / 16 % 4 := congrFun (index1 t) 2
  funext a
  apply Fin.ext
  match a with
  | ⟨0, _⟩ => show win0_1.index t 0 * 1 + 1 * 0 = t.val / 64; omega
  | ⟨1, _⟩ => show win0_1.index t 1 * 8448 + 1 * n.val = n.val; omega
  | ⟨2, _⟩ => show win0_1.index t 2 * 256 + 1 * d.val = 256 * (t.val / 16 % 4) + d.val; omega

/-- Point `t`'s values. -/
theorem x2_apply (c : Dev nD) (t : Fin cfg0.N) (n : Fin 8448) (d : Fin 256) :
    (iblk m c 2 t : S1x8448x256.Idx → EReal) (ix3 0 n d)
      = v m c (ix3 ⟨t.val / 64, by have := lt_N t; omega⟩ n ⟨256 * (t.val / 16 % 4) + d.val, by omega⟩) := by
  unfold iblk
  rw [View.read_apply]
  show V m c main_arg2 _ = m (c.tc.loc main_arg2) _
  unfold V
  congr 1
  have i0 : win0_2.index t 0 = t.val / 64 := congrFun (index2 t) 0
  have i1 : win0_2.index t 1 = 0 := congrFun (index2 t) 1
  have i2 : win0_2.index t 2 = t.val / 16 % 4 := congrFun (index2 t) 2
  funext a
  apply Fin.ext
  match a with
  | ⟨0, _⟩ => show win0_2.index t 0 * 1 + 1 * 0 = t.val / 64; omega
  | ⟨1, _⟩ => show win0_2.index t 1 * 8448 + 1 * n.val = n.val; omega
  | ⟨2, _⟩ => show win0_2.index t 2 * 256 + 1 * d.val = 256 * (t.val / 16 % 4) + d.val; omega

/-- The attention as a whole array. -/
abbrev G (M : O.Idx → ℝ) (c : Dev nD) : O.Idx → EReal := fun i => attn (q m c) (k m c) (v m c) (M i) (i 0) (i 1) (i 2)

variable (hq : ∀ c i, q m c i = (((q m c i).toReal : ℝ) : EReal)) (hk : ∀ c i, k m c i = (((k m c i).toReal : ℝ) : EReal))
  (hone : ∀ c, OnesLane (v m c))

include hq hk hone in
/-- What point `t` writes back is its block of the attention. -/
theorem flushed_eq (M : O.Idx → ℝ) (c : Dev nD) (t : Fin cfg0.N) :
    (dats m 0 c).flushed 3 t = ((cfg0.win 3).blk t).view.read (Elt Ideal) (G m M c) := by
  rw [Value.flushed3_A]
  funext y
  have h0 : (y 0).val < 1 := lt_of_lt_of_eq (y 0).isLt (xsize3 t 0)
  have h1 : (y 1).val < 512 := lt_of_lt_of_eq (y 1).isLt (xsize3 t 1)
  have h2 : (y 2).val < 128 := lt_of_lt_of_eq (y 2).isLt (xsize3 t 2)
  have i0 : win0_3.index t 0 = t.val / 64 := congrFun (index3 t) 0
  have i1 : win0_3.index t 1 = t.val % 16 := congrFun (index3 t) 1
  have i2 : win0_3.index t 2 = t.val / 16 % 4 := congrFun (index3 t) 2
  have ht := lt_N t
  have e : ((cfg0.win 3).blk t).view.emb y = (ix3 (⟨t.val / 64, by omega⟩ : Fin 4) (⟨512 * (t.val % 16) + (y 1).val, by omega⟩ : Fin 8448)
      (⟨128 * (t.val / 16 % 4) + (y 2).val, by omega⟩ : Fin 512) : O.Idx) := by
    funext a
    apply Fin.ext
    match a with
    | ⟨0, _⟩ => show win0_3.index t 0 * 1 + 1 * (y 0).val = t.val / 64; omega
    | ⟨1, _⟩ => show win0_3.index t 1 * 512 + 1 * (y 1).val = 512 * (t.val % 16) + (y 1).val; omega
    | ⟨2, _⟩ => show win0_3.index t 2 * 128 + 1 * (y 2).val = 128 * (t.val / 16 % 4) + (y 2).val; omega
  rw [View.read_apply]
  show _ = G m M c (((cfg0.win 3).blk t).view.emb y)
  rw [e]
  have ey : ∀ X : S1x512x128.Idx → EReal, (cfg0.win 3).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  rw [Fold.out_apply c (grid0.coords t) _ _ _ _ _ _ _ _ _ _ _
    (fun r d => (q m c (ix3 ⟨t.val / 64, by omega⟩ ⟨512 * (t.val % 16) + r.val, by omega⟩ ⟨256 * (t.val / 16 % 4) + d.val, by omega⟩)).toReal)
    (fun n d => (k m c (ix3 ⟨t.val / 64, by omega⟩ n ⟨256 * (t.val / 16 % 4) + d.val, by omega⟩)).toReal)
    (fun r d => (x0_apply m c t r d).trans (hq c _)) (fun n d => (x1_apply m c t n d).trans (hk c _))
    (fun n => (x2_apply m c t n 128).trans (hone c _ n ⟨t.val / 16 % 4, by omega⟩))
    (M (ix3 (⟨t.val / 64, by omega⟩ : Fin 4) (⟨512 * (t.val % 16) + (y 1).val, by omega⟩ : Fin 8448)
      (⟨128 * (t.val / 16 % 4) + (y 2).val, by omega⟩ : Fin 512)))]
  show _ = attn _ _ _ _ _ _ _
  unfold attn
  have es (n : Fin 8448) : Fold.headScore
      (fun r d => (q m c (ix3 ⟨t.val / 64, by omega⟩ ⟨512 * (t.val % 16) + r.val, by omega⟩ ⟨256 * (t.val / 16 % 4) + d.val, by omega⟩)).toReal)
      (fun n d => (k m c (ix3 ⟨t.val / 64, by omega⟩ n ⟨256 * (t.val / 16 % 4) + d.val, by omega⟩)).toReal)
      ((y 2).val / 64) (by omega) ⟨(y 1).val, h1⟩ n
      = score (q m c) (k m c) ⟨t.val / 64, by omega⟩ ⟨(128 * (t.val / 16 % 4) + (y 2).val) / 64, by omega⟩ ⟨512 * (t.val % 16) + (y 1).val, by omega⟩ n := by
    unfold Fold.headScore score
    refine Finset.sum_congr rfl fun d _ => ?_
    have ed : 256 * (t.val / 16 % 4) + (128 * ((y 2).val / 64) + d.val) = 128 * ((128 * (t.val / 16 % 4) + (y 2).val) / 64) + d.val := by omega
    simp only [ed]
  refine Finset.sum_congr rfl fun n _ => ?_
  congr 1
  · simp only [es]; rfl
  · refine (x2_apply m c t n _).trans ?_
    show v m c _ = v m c _
    have ed : 256 * (t.val / 16 % 4) + (y 2).val = 256 * ((128 * (t.val / 16 % 4) + (y 2).val) / 128) + (128 * (t.val / 16 % 4) + (y 2).val) % 128 := by omega
    simp only [ed]
    rfl

/-- Every row below 8192 is in the block of some point. -/
theorem cover (i : O.Idx) (hi : (i 1).val < 8192) :
    ∃ t : Fin cfg0.N, (cfg0.win 3).flush t = true ∧ i ∈ ((cfg0.win 3).blk t).view.set := by
  have b0 : (i 0).val < 4 := (i 0).isLt
  have b2 : (i 2).val < 512 := (i 2).isLt
  have hN : cfg0.N = 256 := N_0
  refine ⟨⟨64 * (i 0).val + 16 * ((i 2).val / 128) + (i 1).val / 512, by omega⟩, flush0_3 _, ?_⟩
  generalize ht : (⟨64 * (i 0).val + 16 * ((i 2).val / 128) + (i 1).val / 512, by omega⟩ : Fin cfg0.N) = t
  have htv : t.val = 64 * (i 0).val + 16 * ((i 2).val / 128) + (i 1).val / 512 := by rw [← ht]
  show i ∈ ((View.whole main_v0).slice (win0_3.rect t)).set
  rw [View.set_slice_whole, Rect.mem_set_unit]
  have i0 : win0_3.index t 0 = t.val / 64 := congrFun (index3 t) 0
  have i1 : win0_3.index t 1 = t.val % 16 := congrFun (index3 t) 1
  have i2 : win0_3.index t 2 = t.val / 16 % 4 := congrFun (index3 t) 2
  have s0 : win0_3.xsize (grid0.coords t) 0 = 1 := xsize3 t 0
  have s1 : win0_3.xsize (grid0.coords t) 1 = 512 := xsize3 t 1
  have s2 : win0_3.xsize (grid0.coords t) 2 = 128 := xsize3 t 2
  intro a
  match a with
  | ⟨0, _⟩ => show win0_3.index t 0 * 1 ≤ (i 0 : Nat) ∧ (i 0 : Nat) < win0_3.index t 0 * 1 + win0_3.xsize (grid0.coords t) 0; omega
  | ⟨1, _⟩ => show win0_3.index t 1 * 512 ≤ (i 1 : Nat) ∧ (i 1 : Nat) < win0_3.index t 1 * 512 + win0_3.xsize (grid0.coords t) 1; omega
  | ⟨2, _⟩ => show win0_3.index t 2 * 128 ≤ (i 2 : Nat) ∧ (i 2 : Nat) < win0_3.index t 2 * 128 + win0_3.xsize (grid0.coords t) 2; omega

include hq hk hone in
/-- The result array at a row below 8192. -/
theorem final_apply (M : O.Idx → ℝ) (c : Dev nD) (i : O.Idx) (hi : (i 1).val < 8192) : (dats m 0 c).arrAt 3 cfg0.N i = G m M c i :=
  ((dats m 0 c).arrAt_eq_piecewise 3 (G m M c) (fun t _ => flushed_eq m hq hk hone M c t) i).trans (if_pos (cover i hi))

end Cert.KernelIdeal.Final
-- ==== Proof.Ref.lean ====
/-
  The reference's result at an index: the softmax's weighted mean of the value lane, the exponents shifted by the row's
  greatest score (a real, the queries and keys being finite).
-/
module

public import proofs.«01_k».proof.Proof.Array
public import proofs.«01_k».proof.Proof.Gen.ReferenceIdeal.Read

@[expose] public section

set_option maxRecDepth 16384

noncomputable section

open Idealize.ShloMosaic Idealize.ShloMosaic.TcCoe Cert.Softmax Cert.Attention

namespace Cert.ReferenceIdeal.Final

open Cert.ReferenceIdeal Cert.ReferenceIdeal.Gen Cert.ReferenceIdeal.Read

theorem ofBits_two : Ideal.ofBits .f32 0x40000000#32 = ((2 : ℝ) : EReal) := by
  simp [Ideal.ofBits, Ideal.ieee, -EReal.coe_mul]; norm_num

variable (x0 x1 x2 : (⟨S4x8448x1024, .bf16⟩ : BufTy).Contents (Elt Ideal))

theorem v8_at (b : Fin 4) (h : Fin 8) (r n : Fin 8448) :
    val_main_v8 (F := Ideal) x0 x1 (ix4 b h r n) = ∑ d : Fin 128, x0 (ix3 b r ⟨128 * h.val + d.val, by omega⟩) * x1 (ix3 b n ⟨128 * h.val + d.val, by omega⟩) := by
  unfold val_main_v8 val_main_v1 val_main_v3 val_main_v0 val_main_v2
  pointwise
  simp only [Nat.mul_comm h.val 128]

theorem v7_at (b : Fin 4) (n : Fin 8448) (h : Fin 8) (e : Fin 64) :
    val_main_v7 (F := Ideal) x2 (ix4 b n h e) = x2 (ix3 b n ⟨256 * (h.val / 2) + (64 * (h.val % 2) + e.val), by omega⟩) := by
  unfold val_main_v7 val_main_v6 val_main_v5 val_main_v4
  pointwise
  simp only [Nat.mul_comm 256, Nat.mul_comm 64]

theorem log_two : val_main_v9 (F := Ideal) ix0 = ((Real.log 2 : ℝ) : EReal) := by
  show Ideal.log (Ideal.ofBits .f32 0x40000000#32) = _
  rw [ofBits_two, Ideal.log_coe, if_neg (by norm_num)]

variable (hq : ∀ i, x0 i = (((x0 i).toReal : ℝ) : EReal)) (hk : ∀ i, x1 i = (((x1 i).toReal : ℝ) : EReal))

include hq hk in
theorem v11_at (b : Fin 4) (h : Fin 8) (r n : Fin 8448) :
    val_main_v11 (F := Ideal) x0 x1 (ix4 b h r n) = ((score x0 x1 b h r n * Real.log 2 : ℝ) : EReal) := by
  have e : val_main_v10 (F := Ideal) (ix4 b h r n) = ((Real.log 2 : ℝ) : EReal) := by
    rw [val_main_v10_apply, ← log_two]
    rfl
  rw [val_main_v11_apply, v8_at, e, EReal.coe_mul]
  show _ * _ = _
  congr 1
  unfold score
  rw [coe_sum]
  refine Finset.sum_congr rfl fun d _ => ?_
  rw [EReal.coe_mul, ← hq, ← hk]

include hq hk in
/-- The row's greatest score is a real. -/
theorem v14_at (b : Fin 4) (h : Fin 8) (r : Fin 8448) : ∃ M : ℝ, val_main_v14 (F := Ideal) x0 x1 (ix3 b h r) = (M : EReal) := by
  have hinit : val_main_cst_0 (F := Ideal) (Shape.Idx.first h_S_) = (⊥ : EReal) := KernelIdeal.Trip.ofBits_negInf
  have h13 : val_main_v13 (F := Ideal) (ix3 b h r) = (⊥ : EReal) := by
    rw [val_main_v13_apply]; exact KernelIdeal.Trip.ofBits_negInf
  have hne : (Finset.univ.filter fun i => reducesTo_S4x8x8448x8448_S4x8x8448_d3.drop i = ix3 b h r).Nonempty :=
    ⟨ix4 b h r 0, Finset.mem_filter.mpr ⟨Finset.mem_univ _, funext fun a => match a with | ⟨0, _⟩ => rfl | ⟨1, _⟩ => rfl | ⟨2, _⟩ => rfl⟩⟩
  have hreal : ∀ i, ∃ M : ℝ, val_main_v11 (F := Ideal) x0 x1 i = (M : EReal) := fun i => by
    rw [eq_ix4 i]
    exact ⟨_, v11_at x0 x1 hq hk (i 0) (i 1) (i 2) (i 3)⟩
  obtain ⟨M, hM⟩ := (KernelIdeal.Fold.fold_max_coe (val_main_v11 (F := Ideal) x0 x1) hreal _).resolve_left hne.ne_empty
  refine ⟨M, ?_⟩
  rw [val_main_v14_apply, h13]
  unfold val_main_v12
  generalize val_main_v11 (F := Ideal) x0 x1 = y at hM ⊢
  rw [Host.reduce_eq_fold, hinit]
  exact (bot_sup_eq _).trans hM

theorem v16_at (b : Fin 4) (h : Fin 8) (r n : Fin 8448) :
    val_main_v16 (F := Ideal) x0 x1 (ix4 b h r n) = val_main_v14 (F := Ideal) x0 x1 (ix3 b h r) := by
  unfold val_main_v16 val_main_v15
  pointwise

include hq hk in
theorem v18_at (b : Fin 4) (h : Fin 8) (r n : Fin 8448) (M : ℝ) (hM : val_main_v14 (F := Ideal) x0 x1 (ix3 b h r) = (M : EReal)) :
    val_main_v18 (F := Ideal) x0 x1 (ix4 b h r n) = ((Real.exp (score x0 x1 b h r n * Real.log 2 - M) : ℝ) : EReal) := by
  rw [val_main_v18_apply, val_main_v17_apply, v16_at, hM, v11_at x0 x1 hq hk]
  show Ideal.exp (((score x0 x1 b h r n * Real.log 2 : ℝ) : EReal) - (M : EReal)) = _
  rw [← EReal.coe_sub]
  rfl

include hq hk in
theorem v21_at (b : Fin 4) (h : Fin 8) (r n : Fin 8448) (M : ℝ) (hM : val_main_v14 (F := Ideal) x0 x1 (ix3 b h r) = (M : EReal)) :
    val_main_v21 (F := Ideal) x0 x1 (ix4 b h r n) = ((∑ j : Fin 8448, Real.exp (score x0 x1 b h r j * Real.log 2 - M) : ℝ) : EReal) := by
  have e : val_main_v21 (F := Ideal) x0 x1 (ix4 b h r n) = ∑ j : Fin 8448, val_main_v18 (F := Ideal) x0 x1 (ix4 b h r j) := by
    unfold val_main_v21 val_main_v20 val_main_v19 val_main_cst_2
    generalize val_main_v18 (F := Ideal) x0 x1 = y
    pointwise
  rw [e, coe_sum]
  exact Finset.sum_congr rfl fun j _ => v18_at x0 x1 hq hk b h r j M hM

include hq hk in
/-- The reference's result at (b, r, o). -/
theorem result_at (b : Fin 4) (r : Fin 8448) (o : Fin 512) :
    ∃ M : ℝ, val_main_v25 (F := Ideal) x0 x1 x2 (ix3 b r o) = attn x0 x1 x2 M b r o := by
  obtain ⟨M, hM⟩ := v14_at x0 x1 hq hk b ⟨o.val / 64, by omega⟩ r
  refine ⟨M, ?_⟩
  have e : val_main_v25 (F := Ideal) x0 x1 x2 (ix3 b r o) = ∑ n : Fin 8448, val_main_v22 (F := Ideal) x0 x1 (ix4 b ⟨o.val / 64, by omega⟩ r n)
      * val_main_v7 (F := Ideal) x2 (ix4 b n ⟨o.val / 64, by omega⟩ ⟨o.val % 64, by omega⟩) := by
    unfold val_main_v25 val_main_v24 val_main_v23
    generalize val_main_v22 (F := Ideal) x0 x1 = y
    generalize val_main_v7 (F := Ideal) x2 = z
    pointwise
  rw [e]
  unfold attn
  refine Finset.sum_congr rfl fun n _ => ?_
  rw [val_main_v22_apply, v18_at x0 x1 hq hk _ _ _ _ M hM, v21_at x0 x1 hq hk _ _ _ _ M hM, v7_at]
  have ed : 256 * (o.val / 64 / 2) + (64 * (o.val / 64 % 2) + o.val % 64) = 256 * (o.val / 128) + o.val % 128 := by omega
  simp only [ed]
  rfl

end Cert.ReferenceIdeal.Final
-- ==== Proof.Claims.lean ====
/-
  The precondition and the mask read at an index, and the attention's claims.
-/
module

public import proofs.«01_k».proof.Defs
public import proofs.«01_k».proof.Proof.Ref
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite_scores_ones_lane
public import proofs.«01_k».proof.Proof.Gen.On_latent_rows
public import Idealize.ShloMosaic.Lib.Pointwise
public import Idealize.ShloMosaic.Lib.WordCmp
public import Idealize.ShloMosaic.Lib.Quiescent

@[expose] public section

set_option maxRecDepth 16384

noncomputable section

open Idealize.ShloMosaic Idealize.ShloMosaic.TcCoe Idealize.SL.Sem Cert.Attention

namespace Cert.Pre_finite_scores_ones_lane

theorem ofBits_posInf : Ideal.ofBits .f32 0x7F800000#32 = (⊤ : EReal) := by
  simp [Ideal.ofBits, Ideal.ieee, -EReal.coe_mul]

theorem ofBits_one : Ideal.ofBits .f32 0x3F800000#32 = (1 : EReal) := by
  simp [Ideal.ofBits, Ideal.ieee, -EReal.coe_mul]; norm_num

/-- An entry whose magnitude is below infinity is a real. -/
theorem real_of_lt (x : EReal) (h : Ideal.cmp .olt (max x (-x)) (Ideal.ofBits .f32 0x7F800000#32) = 1#1) : x = (x.toReal : EReal) := by
  rw [ofBits_posInf] at h
  induction x using EReal.rec with
  | bot => exact absurd h (by simp [Ideal.cmp])
  | top => exact absurd h (by simp [Ideal.cmp])
  | coe r => rfl

variable (x0 x1 x2 : FVec Ideal S4x8448x1024 .bf16)

theorem fn_fst (h : (fn (F := Ideal) x0 x1 x2).1 = fun _ => 1#1) (i : S4x8448x1024.Idx) : x0 i = ((x0 i).toReal : EReal) :=
  real_of_lt _ (congrFun h i)

theorem fn_snd (h : (fn (F := Ideal) x0 x1 x2).2.1 = fun _ => 1#1) (i : S4x8448x1024.Idx) : x1 i = ((x1 i).toReal : EReal) :=
  real_of_lt _ (congrFun h i)

theorem fn_thd (h : (fn (F := Ideal) x0 x1 x2).2.2 = fun _ => 1#1) : OnesLane x2 := by
  intro b n p
  have e : shapeCast S4x8448x4 (extractStridedSlice S4x8448x4x1 ![0, 0, 0, 128] (shapeCast S4x8448x4x256 x2 Gen.shapeCasts_S4x8448x1024_S4x8448x4x256)
      Gen.slices_S4x8448x4x256_S4x8448x4x1_0_0_0_128) Gen.shapeCasts_S4x8448x4x1_S4x8448x4 (ix3 b n p) = x2 (ix3 b n ⟨256 * p.val + 128, by omega⟩) := by
    pointwise
    simp only [Nat.mul_comm 256]
  have hc : Ideal.cmp .oeq (shapeCast S4x8448x4 (extractStridedSlice S4x8448x4x1 ![0, 0, 0, 128] (shapeCast S4x8448x4x256 x2 Gen.shapeCasts_S4x8448x1024_S4x8448x4x256)
      Gen.slices_S4x8448x4x256_S4x8448x4x1_0_0_0_128) Gen.shapeCasts_S4x8448x4x1_S4x8448x4 (ix3 b n p)) (Ideal.ofBits .f32 0x3F800000#32) = 1#1 :=
    congrFun h (ix3 b n p)
  rw [e, ofBits_one] at hc
  by_contra hne
  exact absurd hc (by simp [Ideal.cmp, hne])

end Cert.Pre_finite_scores_ones_lane

namespace Cert.On_latent_rows

theorem fn_apply_iff (x y z : FVec Ideal S4x8448x1024 .bf16) (i : S4x8448x512.Idx) : fn (F := Ideal) x y z i = 1#1 → (i 1).val < 8192 := by
  intro h
  replace h : IntOp.cmpi .slt (BitVec.ofNat 32 (i 1).val) 8192#32 = 1#1 := h
  have hi : (i 1).val < 8448 := (i 1).isLt
  generalize (i 1).val = r at *
  have hr : (BitVec.ofNat 32 r).toInt = (r : Int) := by
    rw [BitVec.toInt_eq_toNat_of_lt] <;> rw [BitVec.toNat_ofNat] <;> omega
  by_contra hn
  rw [WordCmp.cmpi_slt_eq, hr, decide_eq_false (by rw [show (8192#32 : BitVec 32).toInt = 8192 from rfl]; omega)] at h
  exact absurd h (by decide)

end Cert.On_latent_rows

namespace Cert.Proof

theorem quiescent_kernel : Cert.quiescent_Kernel := fun m ρ _ => Cert.Kernel.Gen.frame m ρ

theorem quiescent_kernelIdeal : Cert.quiescent_KernelIdeal := fun m ρ _ => Cert.KernelIdeal.Gen.frame m ρ

theorem quiescent_kernelIdeal_pre : Cert.quiescent_KernelIdeal_pre_finite_scores_ones_lane := fun m ρ _ => Cert.KernelIdeal.Gen.frame m ρ

theorem quiescent_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem quiescent_referenceIdeal_pre : Cert.quiescent_ReferenceIdeal_pre_finite_scores_ones_lane := fun m ρ _ => quiescent_referenceIdeal m ρ trivial

theorem algebraic : Cert.algebraic_KernelIdeal_ReferenceIdeal_on_latent_rows_pre_finite_scores_ones_lane := by
  intro m ρ m' ρ' hpre hm
  have hq : ∀ c i, KernelIdeal.Final.q m c i = ((KernelIdeal.Final.q m c i).toReal : EReal) := fun c i =>
    Cert.Pre_finite_scores_ones_lane.fn_fst _ _ _ (hpre c).1 i
  have hk : ∀ c i, KernelIdeal.Final.k m c i = ((KernelIdeal.Final.k m c i).toReal : EReal) := fun c i =>
    Cert.Pre_finite_scores_ones_lane.fn_snd _ _ _ (hpre c).2.1 i
  have hone : ∀ c, OnesLane (KernelIdeal.Final.v m c) := fun c =>
    Cert.Pre_finite_scores_ones_lane.fn_thd _ _ _ (hpre c).2.2
  have href := fun c (i : O.Idx) => Cert.ReferenceIdeal.Final.result_at (KernelIdeal.Final.q m c) (KernelIdeal.Final.k m c) (KernelIdeal.Final.v m c)
    (hq c) (hk c) (i 0) (i 1) (i 2)
  choose M hM using href
  refine ⟨fun c => KernelIdeal.Final.G m (M c) c, ?_, ?_⟩
  · exact (θ_run Cert.KernelIdeal.defs _ _).mono (fun r h c => ⟨fun i hi => (congrFun (h c).1 i).trans
        (KernelIdeal.Final.final_apply m hq hk hone (M c) c i (Cert.On_latent_rows.fn_apply_iff _ _ _ i hi)), (h c).2⟩)
      (Cert.KernelIdeal.Value.run_blocks m ρ)
  · refine (θ_run Cert.ReferenceIdeal.defs _ _).mono (fun r h c => ⟨fun i _ => ?_, (h c).2⟩) (Cert.ReferenceIdeal.Value.run (F := Ideal) m' ρ')
    obtain ⟨e0, e1, e2⟩ := hm c
    refine (congrFun ((h c).1.trans (Cert.ReferenceIdeal.Read.val_main_v25_eq _ _ _)) i).trans ?_
    rw [e0, e1, e2]
    refine Eq.trans ?_ (hM c i)
    exact congrArg _ (eq_ix3 i)

end Cert.Proof

end
-- ==== Proof.Rows.lean ====
/-
  The row functions of the layers' projections: the normalised and modulated row, and the residual's gate.
-/
module

public import Idealize.ShloMosaic.Lib.Pointwise
public import Idealize.ShloMosaic.Lib.WordCmp

@[expose] public section

noncomputable section

open Idealize.ShloMosaic

namespace Cert.Rows

abbrev X2 (a b : Nat) : Type := (⟨2, ![a, b]⟩ : Shape).Idx → EReal
abbrev X3 (a b c : Nat) : Type := (⟨3, ![a, b, c]⟩ : Shape).Idx → EReal

/-- A row over the root of its mean square (the length is the word `w`), times the gain `g`. -/
def rnorm (w : BitVec 32) {n : Nat} (x g : Fin n → EReal) (d : Fin n) : EReal :=
  x d * Ideal.rsqrt (Ideal.div (∑ j, x j * x j) (Ideal.ofBits .f32 w) + Ideal.ofBits .f32 897988541#32) * g d

/-- `c` on a context row, `l` on a latent row. -/
def sel (r : Nat) (c l : EReal) : EReal := Scalar.select (IntOp.cmpi .sge (BitVec.ofNat 32 r) 8192#32) c l

theorem sel_lt {r : Nat} (hr : r < 8192) (c l : EReal) : sel r c l = l := by
  have e : (BitVec.ofNat 32 r).toInt = (r : Int) := by
    rw [BitVec.toInt_eq_toNat_of_lt] <;> rw [BitVec.toNat_ofNat] <;> omega
  unfold sel
  rw [WordCmp.cmpi_sge_eq, e, decide_eq_false (by rw [show (8192#32 : BitVec 32).toInt = 8192 from rfl]; omega)]
  rfl

/-- The modulation at lane `o + d` of row `r` of sample `b`. -/
def md (mb : X3 4 1 3072) (mc : X3 1 1 3072) (o : Nat) (ho : o + 1024 ≤ 3072) (b : Fin 4) (r : Fin 8448) (d : Fin 1024) : EReal :=
  sel r.val (mc (ix3 0 0 ⟨o + d.val, by omega⟩)) (mb (ix3 b 0 ⟨o + d.val, by omega⟩))

/-- The normalised and modulated row. -/
def hid (x : X3 4 8448 1024) (mb : X3 4 1 3072) (mc : X3 1 1 3072) (g : X2 1 1024) (b : Fin 4) (r : Fin 8448) (d : Fin 1024) : EReal :=
  rnorm 1149239296#32 (fun j => x (ix3 b r j)) (fun j => g (ix2 0 j)) d * (1 + md mb mc 1024 (by omega) b r d) + md mb mc 0 (by omega) b r d

/-- A row times the column `o` of the weights. -/
def dotc {n k : Nat} (h : Fin n → EReal) (w : X2 n k) (o : Fin k) : EReal := ∑ d, h d * w (ix2 d o)

/-- A row times its gate, times the column `d` of the weights. -/
def gated {n : Nat} (w : Fin n → Fin 1024 → EReal) (o g : Fin n → EReal) (d : Fin 1024) : EReal := ∑ j, o j * g j * w j d

def silu (z : EReal) : EReal := z * Ideal.logistic z

/-- The row's word of the tile's offset and the row within it. -/
theorem word_row (n T r : Nat) : BitVec.ofNat 32 T * BitVec.ofNat 32 n + BitVec.ofNat 32 r = BitVec.ofNat 32 (n * T + r) := by
  rw [BitVec.ofNat_add, BitVec.ofNat_mul, BitVec.mul_comm]

end Cert.Rows
-- ==== Proof.K2.lean ====
/-
  The odd layers' projection: what each tile's body leaves, in terms of the whole arrays.
-/
module

public import proofs.«01_k».proof.Proof.Gen.Kernel2Ideal.Value
public import proofs.«01_k».proof.Proof.Rows
public import Idealize.ShloMosaic.Lib.Pointwise

@[expose] public section

set_option maxRecDepth 16384

noncomputable section

open Idealize.ShloMosaic Idealize.ShloMosaic.TcCoe Idealize.SL.Sem Cert.Rows

namespace Cert.Kernel2Ideal.Final

open Cert.Kernel2Ideal Cert.Kernel2Ideal.Gen
open Idealize.ShloMosaic.Pipeline (Dat)

/-- The queries, scaled. -/
def specQ (x : X3 4 8448 1024) (mb : X3 4 1 3072) (mc : X3 1 1 3072) (g : X2 1 1024) (w : X2 1024 4096) (b : Fin 4) (r : Fin 8448) (o : Fin 1024) : EReal :=
  dotc (hid x mb mc g b r) w ⟨o.val, by omega⟩ * Ideal.ofBits .f32 1043900987#32
def specK (x : X3 4 8448 1024) (mb : X3 4 1 3072) (mc : X3 1 1 3072) (g : X2 1 1024) (w : X2 1024 4096) (b : Fin 4) (r : Fin 8448) (o : Fin 1024) : EReal :=
  dotc (hid x mb mc g b r) w ⟨1024 + o.val, by omega⟩
def specV (x : X3 4 8448 1024) (mb : X3 4 1 3072) (mc : X3 1 1 3072) (g : X2 1 1024) (w : X2 1024 4096) (b : Fin 4) (r : Fin 8448) (o : Fin 1024) : EReal :=
  dotc (hid x mb mc g b r) w ⟨2048 + o.val, by omega⟩
def specG (x : X3 4 8448 1024) (mb : X3 4 1 3072) (mc : X3 1 1 3072) (g : X2 1 1024) (w : X2 1024 4096) (b : Fin 4) (r : Fin 8448) (o : Fin 1024) : EReal :=
  silu (dotc (hid x mb mc g b r) w ⟨3072 + o.val, by omega⟩)

theorem hz : (![0, 0, 0] : Fin 3 → Nat) = fun _ => 0 := by decide

theorem pay2_at (i : grid0.Coords) (r : Fin 768) :
    k0_pay2 i (ix2 r 0) = IntOp.cmpi .sge (BitVec.ofNat 32 (768 * (i 1).val + r.val)) 8192#32 := by
  rw [← word_row 768 (i 1).val r.val]
  unfold k0_pay2
  pointwise
  rfl

theorem pay3_at (v6 : Vec Ideal S1x768x1024 .f32) (v8 : Vec Ideal S1x1024 .f32) (r : Fin 768) (d : Fin 1024) :
    k0_pay3 (F := Ideal) v6 v8 (ix2 r d) = rnorm 1149239296#32 (fun j => v6 (ix3 0 r j)) (fun j => v8 (ix2 0 j)) d := by
  unfold k0_pay3 rnorm
  pointwise

theorem pay4_at (i : grid0.Coords) (v21 : Vec Ideal S1x1x1024 .f32) (v23 : Vec Ideal S1x1x1024 .f32) (r : Fin 768) (d : Fin 1024) :
    k0_pay4 (F := Ideal) i v21 v23 (ix2 r d) = Scalar.select (k0_pay2 i (ix2 r 0)) (v21 (ix3 0 0 d)) (v23 (ix3 0 0 d)) := by
  unfold k0_pay4
  generalize k0_pay2 i = y
  pointwise

theorem pay5_at (v : Vec Ideal S1x1x1024 .f32) (d : Fin 1024) : k0_pay5 (F := Ideal) v (ix2 0 d) = v (ix3 0 0 d) := by
  unfold k0_pay5
  pointwise

theorem pay6_at (v : Vec Ideal S1x1x1024 .f32) (d : Fin 1024) : k0_pay6 (F := Ideal) v (ix2 0 d) = v (ix3 0 0 d) := by
  unfold k0_pay6
  pointwise

theorem pay7_at (v5 : IVec S768x1 1) (v20 v31 : FVec Ideal S768x1024 .f32) (v33 v35 : FVec Ideal S1x1024 .f32) (r : Fin 768) (d : Fin 1024) :
    k0_pay7 (F := Ideal) v5 v20 v31 v33 v35 (ix2 r d)
      = v20 (ix2 r d) * (1 + Scalar.select (v5 (ix2 r 0)) (v33 (ix2 0 d)) (v35 (ix2 0 d))) + v31 (ix2 r d) := by
  unfold k0_pay7
  pointwise

section
variable (v5 : IVec S768x1 1) (v20 v31 : FVec Ideal S768x1024 .f32) (v33 v35 : FVec Ideal S1x1024 .f32) (w : Vec Ideal S1024x1024 .bf16) (r : Fin 768) (o : Fin 1024)

theorem pay8_at : k0_pay8 (F := Ideal) v5 v20 v31 v33 v35 w (ix3 0 r o)
    = (∑ d, k0_pay7 (F := Ideal) v5 v20 v31 v33 v35 (ix2 r d) * w (ix2 d o)) * Ideal.ofBits .f32 1043900987#32 := by
  unfold k0_pay8
  generalize k0_pay7 (F := Ideal) v5 v20 v31 v33 v35 = y
  pointwise

theorem pay9_at : k0_pay9 (F := Ideal) v5 v20 v31 v33 v35 w (ix3 0 r o)
    = ∑ d, k0_pay7 (F := Ideal) v5 v20 v31 v33 v35 (ix2 r d) * w (ix2 d o) := by
  unfold k0_pay9
  generalize k0_pay7 (F := Ideal) v5 v20 v31 v33 v35 = y
  pointwise

theorem pay10_at : k0_pay10 (F := Ideal) v5 v20 v31 v33 v35 w (ix3 0 r o)
    = ∑ d, k0_pay7 (F := Ideal) v5 v20 v31 v33 v35 (ix2 r d) * w (ix2 d o) := by
  unfold k0_pay10
  generalize k0_pay7 (F := Ideal) v5 v20 v31 v33 v35 = y
  pointwise

theorem pay11_at : k0_pay11 (F := Ideal) v5 v20 v31 v33 v35 w (ix2 r o)
    = ∑ d, k0_pay7 (F := Ideal) v5 v20 v31 v33 v35 (ix2 r d) * w (ix2 d o) := by
  unfold k0_pay11
  generalize k0_pay7 (F := Ideal) v5 v20 v31 v33 v35 = y
  pointwise

end

theorem pay1_at (z : FVec Ideal S768x1024 .f32) (r : Fin 768) (o : Fin 1024) : k0_pay1 (F := Ideal) z (ix3 0 r o) = silu (z (ix2 r o)) := by
  unfold k0_pay1 silu
  pointwise

theorem ld1 (x1 : Vec Ideal S1x1x3072 .f32) (d : Fin 1024) : View.ld x1 r0_2 (ix3 0 0 d) = x1 (ix3 0 0 ⟨0 + d.val, by omega⟩) := by
  rw [View.ld_unit]
  pointwise
theorem ld2 (x1 : Vec Ideal S1x1x3072 .f32) (d : Fin 1024) : View.ld x1 r0_3 (ix3 0 0 d) = x1 (ix3 0 0 ⟨1024 + d.val, by omega⟩) := by
  rw [View.ld_unit]
  pointwise

theorem ldw5 (x4 : Vec Ideal S1024x4096 .bf16) (d : Fin 1024) (o : Fin 1024) : View.ld x4 r0_4 (ix2 d o) = x4 (ix2 d ⟨o.val, by omega⟩) := by
  rw [View.ld_unit]
  pointwise
theorem ldw6 (x4 : Vec Ideal S1024x4096 .bf16) (d : Fin 1024) (o : Fin 1024) : View.ld x4 r0_5 (ix2 d o) = x4 (ix2 d ⟨1024 + o.val, by omega⟩) := by
  rw [View.ld_unit]
  pointwise
theorem ldw7 (x4 : Vec Ideal S1024x4096 .bf16) (d : Fin 1024) (o : Fin 1024) : View.ld x4 r0_6 (ix2 d o) = x4 (ix2 d ⟨2048 + o.val, by omega⟩) := by
  rw [View.ld_unit]
  pointwise
theorem ldw8 (x4 : Vec Ideal S1024x4096 .bf16) (d : Fin 1024) (o : Fin 1024) : View.ld x4 r0_7 (ix2 d o) = x4 (ix2 d ⟨3072 + o.val, by omega⟩) := by
  rw [View.ld_unit]
  pointwise

section
variable (i : grid0.Coords) (x0 : Vec Ideal S1x768x1024 .f32) (x1 : Vec Ideal S1x1x3072 .f32) (x2 : Vec Ideal S1x1x3072 .f32) (x3 : Vec Ideal S1x1024 .f32) (x4 : Vec Ideal S1024x4096 .bf16)
  (x : X3 4 8448 1024) (mb : X3 4 1 3072) (mc : X3 1 1 3072) (g : X2 1 1024) (w : X2 1024 4096) (b : Fin 4) (T : Nat) (hT : T < 11) (hi : (i 1).val = T)
  (hx0 : ∀ (r : Fin 768) (d : Fin 1024), x0 (ix3 0 r d) = x (ix3 b ⟨768 * T + r.val, by omega⟩ d))
  (hx1 : ∀ d : Fin 3072, x1 (ix3 0 0 d) = mb (ix3 b 0 d))
  (hx2 : ∀ (u : Fin 1) (v : Fin 1) (d : Fin 3072), x2 (ix3 u v d) = mc (ix3 u v d))
  (hx3 : ∀ (u : Fin 1) (d : Fin 1024), x3 (ix2 u d) = g (ix2 u d))
  (hx4 : ∀ (d : Fin 1024) (o : Fin 4096), x4 (ix2 d o) = w (ix2 d o))

include hi hx0 hx1 hx2 hx3 in
theorem hid_at (r : Fin 768) (d : Fin 1024) :
    k0_pay7 (F := Ideal) (k0_pay2 i) (k0_pay3 (View.ld x0 r0_0) (View.ld x3 r0_1)) (k0_pay4 i (View.ld x2 r0_2) (View.ld x1 r0_2))
      (k0_pay5 (View.ld x2 r0_3)) (k0_pay6 (View.ld x1 r0_3)) (ix2 r d) = hid x mb mc g b ⟨768 * T + r.val, by omega⟩ d := by
  have e0 : View.ld x0 r0_0 = x0 := View.ld_unit_zero hz _ x0
  have e3 : View.ld x3 r0_1 = x3 := View.ld_unit_zero (by decide) _ x3
  rw [pay7_at, pay3_at, pay4_at, pay5_at, pay6_at, pay2_at, ld1, ld1, ld2, ld2, e0, e3, hx1, hx1, hx2, hx2, hi]
  simp only [hx0, hx3]
  rfl

include hi hx0 hx1 hx2 hx3 hx4 in
theorem out5_at (r : Fin 768) (o : Fin 1024) :
    out0_5 (F := Ideal) i x0 x1 x2 x3 x4 (ix3 0 r o) = specQ x mb mc g w b ⟨768 * T + r.val, by omega⟩ o := by
  unfold_out out0_5
  rw [View.canon_unit_zero hz, pay8_at]
  unfold specQ dotc
  simp only [hid_at i x0 x1 x2 x3 x mb mc g b T hT hi hx0 hx1 hx2 hx3]
  exact congrArg (fun s => s * _) (Finset.sum_congr rfl fun d _ => congrArg _ ((ldw5 x4 d o).trans (hx4 d _)))

include hi hx0 hx1 hx2 hx3 hx4 in
theorem out6_at (r : Fin 768) (o : Fin 1024) :
    out0_6 (F := Ideal) i x0 x1 x2 x3 x4 (ix3 0 r o) = specK x mb mc g w b ⟨768 * T + r.val, by omega⟩ o := by
  unfold_out out0_6
  rw [View.canon_unit_zero hz, pay9_at]
  unfold specK dotc
  simp only [hid_at i x0 x1 x2 x3 x mb mc g b T hT hi hx0 hx1 hx2 hx3]
  exact (Finset.sum_congr rfl fun d _ => congrArg _ ((ldw6 x4 d o).trans (hx4 d _)))

include hi hx0 hx1 hx2 hx3 hx4 in
theorem out7_at (r : Fin 768) (o : Fin 1024) :
    out0_7 (F := Ideal) i x0 x1 x2 x3 x4 (ix3 0 r o) = specV x mb mc g w b ⟨768 * T + r.val, by omega⟩ o := by
  unfold_out out0_7
  rw [View.canon_unit_zero hz, pay10_at]
  unfold specV dotc
  simp only [hid_at i x0 x1 x2 x3 x mb mc g b T hT hi hx0 hx1 hx2 hx3]
  exact (Finset.sum_congr rfl fun d _ => congrArg _ ((ldw7 x4 d o).trans (hx4 d _)))

include hi hx0 hx1 hx2 hx3 hx4 in
theorem out8_at (r : Fin 768) (o : Fin 1024) :
    out0_8 (F := Ideal) i x0 x1 x2 x3 x4 (ix3 0 r o) = specG x mb mc g w b ⟨768 * T + r.val, by omega⟩ o := by
  unfold_out out0_8
  rw [View.canon_unit_zero hz, pay1_at, pay11_at]
  unfold specG dotc
  simp only [hid_at i x0 x1 x2 x3 x mb mc g b T hT hi hx0 hx1 hx2 hx3]
  exact congrArg silu (Finset.sum_congr rfl fun d _ => congrArg _ ((ldw8 x4 d o).trans (hx4 d _)))

end

variable (m : (ℓ : Loc nD τ sig) → Buf (Elt Ideal) ℓ)

theorem coords1 : ∀ t : Fin cfg0.N, (grid0.coords t 1).val = t.val % 11 := by decide +kernel

theorem lt_N (t : Fin cfg0.N) : t.val < 44 := lt_of_lt_of_eq t.isLt N_0

/-- The sample and the row of row `r` of point `t`'s tile. -/
abbrev bOf (t : Fin cfg0.N) : Fin 4 := ⟨t.val / 11, by have := lt_N t; omega⟩
abbrev rOf (t : Fin cfg0.N) (r : Fin 768) : Fin 8448 := ⟨768 * (t.val % 11) + r.val, by omega⟩

abbrev a0 (c : Dev nD) : X3 4 8448 1024 := m ((c : Thread nD τ).loc main_arg0)
abbrev a1 (c : Dev nD) : X3 4 1 3072 := m ((c : Thread nD τ).loc main_arg1)
abbrev a2 (c : Dev nD) : X3 1 1 3072 := m ((c : Thread nD τ).loc main_arg2)
abbrev a3 (c : Dev nD) : X2 1 1024 := m ((c : Thread nD τ).loc main_arg3)
abbrev a4 (c : Dev nD) : X2 1024 4096 := m ((c : Thread nD τ).loc main_arg4)

theorem index0 : ∀ t : Fin cfg0.N, win0_0.index t = ![t.val / 11, t.val % 11, 0] := by decide +kernel

theorem x0_apply (c : Dev nD) (t : Fin cfg0.N) (r : Fin 768) (d : Fin 1024) : (iblk m c 0 t : S1x768x1024.Idx → EReal) (ix3 0 r d) = a0 m c (ix3 (bOf t) (rOf t r) d) := by
  unfold iblk
  rw [View.read_apply]
  show V m c main_arg0 _ = m (c.tc.loc main_arg0) _
  unfold V
  congr 1
  have i0 : win0_0.index t 0 = t.val / 11 := congrFun (index0 t) 0
  have i1 : win0_0.index t 1 = t.val % 11 := congrFun (index0 t) 1
  have i2 : win0_0.index t 2 = 0 := congrFun (index0 t) 2
  funext a
  apply Fin.ext
  match a with
  | ⟨0, _⟩ => show win0_0.index t 0 * 1 + 1 * 0 = t.val / 11; omega
  | ⟨1, _⟩ => show win0_0.index t 1 * 768 + 1 * r.val = 768 * (t.val % 11) + r.val; omega
  | ⟨2, _⟩ => show win0_0.index t 2 * 1024 + 1 * d.val = d.val; omega

theorem index1 : ∀ t : Fin cfg0.N, win0_1.index t = ![t.val / 11, 0, 0] := by decide +kernel

theorem x1_apply (c : Dev nD) (t : Fin cfg0.N) (d : Fin 3072) : (iblk m c 1 t : S1x1x3072.Idx → EReal) (ix3 0 0 d) = a1 m c (ix3 (bOf t) 0 d) := by
  unfold iblk
  rw [View.read_apply]
  show V m c main_arg1 _ = m (c.tc.loc main_arg1) _
  unfold V
  congr 1
  have i0 : win0_1.index t 0 = t.val / 11 := congrFun (index1 t) 0
  have i1 : win0_1.index t 1 = 0 := congrFun (index1 t) 1
  have i2 : win0_1.index t 2 = 0 := congrFun (index1 t) 2
  funext a
  apply Fin.ext
  match a with
  | ⟨0, _⟩ => show win0_1.index t 0 * 1 + 1 * 0 = t.val / 11; omega
  | ⟨1, _⟩ => show win0_1.index t 1 * 1 + 1 * 0 = 0; omega
  | ⟨2, _⟩ => show win0_1.index t 2 * 3072 + 1 * d.val = d.val; omega

theorem index2 : ∀ t : Fin cfg0.N, win0_2.index t = ![0, 0, 0] := by decide +kernel

theorem x2_apply (c : Dev nD) (t : Fin cfg0.N) (x : Fin 1) (y : Fin 1) (z : Fin 3072) : (iblk m c 2 t : S1x1x3072.Idx → EReal) (ix3 x y z) = a2 m c (ix3 x y z) := by
  unfold iblk
  rw [View.read_apply]
  show V m c main_arg2 _ = m (c.tc.loc main_arg2) _
  unfold V
  congr 1
  have i0 : win0_2.index t 0 = 0 := congrFun (index2 t) 0
  have i1 : win0_2.index t 1 = 0 := congrFun (index2 t) 1
  have i2 : win0_2.index t 2 = 0 := congrFun (index2 t) 2
  funext a
  apply Fin.ext
  match a with
  | ⟨0, _⟩ => show win0_2.index t 0 * 1 + 1 * x.val = x.val; omega
  | ⟨1, _⟩ => show win0_2.index t 1 * 1 + 1 * y.val = y.val; omega
  | ⟨2, _⟩ => show win0_2.index t 2 * 3072 + 1 * z.val = z.val; omega

theorem index3 : ∀ t : Fin cfg0.N, win0_3.index t = ![0, 0] := by decide +kernel

theorem x3_apply (c : Dev nD) (t : Fin cfg0.N) (x : Fin 1) (y : Fin 1024) : (iblk m c 3 t : S1x1024.Idx → EReal) (ix2 x y) = a3 m c (ix2 x y) := by
  unfold iblk
  rw [View.read_apply]
  show V m c main_arg3 _ = m (c.tc.loc main_arg3) _
  unfold V
  congr 1
  have i0 : win0_3.index t 0 = 0 := congrFun (index3 t) 0
  have i1 : win0_3.index t 1 = 0 := congrFun (index3 t) 1
  funext a
  apply Fin.ext
  match a with
  | ⟨0, _⟩ => show win0_3.index t 0 * 1 + 1 * x.val = x.val; omega
  | ⟨1, _⟩ => show win0_3.index t 1 * 1024 + 1 * y.val = y.val; omega

theorem index4 : ∀ t : Fin cfg0.N, win0_4.index t = ![0, 0] := by decide +kernel

theorem x4_apply (c : Dev nD) (t : Fin cfg0.N) (x : Fin 1024) (y : Fin 4096) : (iblk m c 4 t : S1024x4096.Idx → EReal) (ix2 x y) = a4 m c (ix2 x y) := by
  unfold iblk
  rw [View.read_apply]
  show V m c main_arg4 _ = m (c.tc.loc main_arg4) _
  unfold V
  congr 1
  have i0 : win0_4.index t 0 = 0 := congrFun (index4 t) 0
  have i1 : win0_4.index t 1 = 0 := congrFun (index4 t) 1
  funext a
  apply Fin.ext
  match a with
  | ⟨0, _⟩ => show win0_4.index t 0 * 1024 + 1 * x.val = x.val; omega
  | ⟨1, _⟩ => show win0_4.index t 1 * 4096 + 1 * y.val = y.val; omega

theorem index5 : ∀ t : Fin cfg0.N, win0_5.index t = ![t.val / 11, t.val % 11, 0] := by decide +kernel
theorem xsize5 : ∀ t : Fin cfg0.N, ∀ a, win0_5.xsize (grid0.coords t) a = S1x768x1024.size a := by decide +kernel

/-- Result 0 as a whole array. -/
abbrev G5 (c : Dev nD) : X3 4 8448 1024 := fun i => specQ (a0 m c) (a1 m c) (a2 m c) (a3 m c) (a4 m c) (i 0) (i 1) (i 2)

/-- What point `t` writes back is its block of it. -/
theorem flushed_eq5 (c : Dev nD) (t : Fin cfg0.N) :
    (dats m 0 c).flushed 5 t = ((cfg0.win 5).blk t).view.read (Elt Ideal) (G5 m c) := by
  rw [Value.flushed5]
  funext y
  have h0 : (y 0).val < 1 := lt_of_lt_of_eq (y 0).isLt (xsize5 t 0)
  have h1 : (y 1).val < 768 := lt_of_lt_of_eq (y 1).isLt (xsize5 t 1)
  have h2 : (y 2).val < 1024 := lt_of_lt_of_eq (y 2).isLt (xsize5 t 2)
  have i0 : win0_5.index t 0 = t.val / 11 := congrFun (index5 t) 0
  have i1 : win0_5.index t 1 = t.val % 11 := congrFun (index5 t) 1
  have i2 : win0_5.index t 2 = 0 := congrFun (index5 t) 2
  have e : ((cfg0.win 5).blk t).view.emb y = (ix3 (bOf t) (rOf t ⟨(y 1).val, h1⟩) (⟨(y 2).val, h2⟩ : Fin 1024) : (⟨3, ![4, 8448, 1024]⟩ : Shape).Idx) := by
    funext a
    apply Fin.ext
    match a with
    | ⟨0, _⟩ => show win0_5.index t 0 * 1 + 1 * (y 0).val = t.val / 11; omega
    | ⟨1, _⟩ => show win0_5.index t 1 * 768 + 1 * (y 1).val = 768 * (t.val % 11) + (y 1).val; omega
    | ⟨2, _⟩ => show win0_5.index t 2 * 1024 + 1 * (y 2).val = (y 2).val; omega
  rw [View.read_apply]
  show _ = G5 m c (((cfg0.win 5).blk t).view.emb y)
  rw [e]
  have ey : ∀ X : S1x768x1024.Idx → EReal, (cfg0.win 5).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out5_at (grid0.coords t) _ _ _ _ _ (a0 m c) (a1 m c) (a2 m c) (a3 m c) (a4 m c) (bOf t) (t.val % 11) (by omega) (coords1 t)
    (fun r d => x0_apply m c t r d) (fun d => x1_apply m c t d) (fun x y z => x2_apply m c t x y z) (fun x y => x3_apply m c t x y) (fun x y => x4_apply m c t x y) ⟨(y 1).val, h1⟩ ⟨(y 2).val, h2⟩

theorem final_eq5 (c : Dev nD) : (dats m 0 c).arrAt 5 cfg0.N = G5 m c := by
  refine funext fun (i : (⟨3, ![4, 8448, 1024]⟩ : Shape).Idx) => ((dats m 0 c).arrAt_eq_piecewise 5 (G5 m c) (fun t _ => flushed_eq5 m c t) i).trans (if_pos ?_)
  have b0 : (i 0).val < 4 := (i 0).isLt
  have b1 : (i 1).val < 8448 := (i 1).isLt
  have b2 : (i 2).val < 1024 := (i 2).isLt
  have hN : cfg0.N = 44 := N_0
  refine ⟨⟨11 * (i 0).val + (i 1).val / 768, by omega⟩, flush0_5 _, ?_⟩
  generalize ht : (⟨11 * (i 0).val + (i 1).val / 768, by omega⟩ : Fin cfg0.N) = t
  have htv : t.val = 11 * (i 0).val + (i 1).val / 768 := by rw [← ht]
  show i ∈ ((View.whole main_v0_0).slice (win0_5.rect t)).set
  rw [View.set_slice_whole, Rect.mem_set_unit]
  have i0 : win0_5.index t 0 = t.val / 11 := congrFun (index5 t) 0
  have i1 : win0_5.index t 1 = t.val % 11 := congrFun (index5 t) 1
  have i2 : win0_5.index t 2 = 0 := congrFun (index5 t) 2
  have s0 : win0_5.xsize (grid0.coords t) 0 = 1 := xsize5 t 0
  have s1 : win0_5.xsize (grid0.coords t) 1 = 768 := xsize5 t 1
  have s2 : win0_5.xsize (grid0.coords t) 2 = 1024 := xsize5 t 2
  intro a
  match a with
  | ⟨0, _⟩ => show win0_5.index t 0 * 1 ≤ (i 0 : Nat) ∧ (i 0 : Nat) < win0_5.index t 0 * 1 + win0_5.xsize (grid0.coords t) 0; omega
  | ⟨1, _⟩ => show win0_5.index t 1 * 768 ≤ (i 1 : Nat) ∧ (i 1 : Nat) < win0_5.index t 1 * 768 + win0_5.xsize (grid0.coords t) 1; omega
  | ⟨2, _⟩ => show win0_5.index t 2 * 1024 ≤ (i 2 : Nat) ∧ (i 2 : Nat) < win0_5.index t 2 * 1024 + win0_5.xsize (grid0.coords t) 2; omega

theorem index6 : ∀ t : Fin cfg0.N, win0_6.index t = ![t.val / 11, t.val % 11, 0] := by decide +kernel
theorem xsize6 : ∀ t : Fin cfg0.N, ∀ a, win0_6.xsize (grid0.coords t) a = S1x768x1024.size a := by decide +kernel

/-- Result 1 as a whole array. -/
abbrev G6 (c : Dev nD) : X3 4 8448 1024 := fun i => specK (a0 m c) (a1 m c) (a2 m c) (a3 m c) (a4 m c) (i 0) (i 1) (i 2)

/-- What point `t` writes back is its block of it. -/
theorem flushed_eq6 (c : Dev nD) (t : Fin cfg0.N) :
    (dats m 0 c).flushed 6 t = ((cfg0.win 6).blk t).view.read (Elt Ideal) (G6 m c) := by
  rw [Value.flushed6]
  funext y
  have h0 : (y 0).val < 1 := lt_of_lt_of_eq (y 0).isLt (xsize6 t 0)
  have h1 : (y 1).val < 768 := lt_of_lt_of_eq (y 1).isLt (xsize6 t 1)
  have h2 : (y 2).val < 1024 := lt_of_lt_of_eq (y 2).isLt (xsize6 t 2)
  have i0 : win0_6.index t 0 = t.val / 11 := congrFun (index6 t) 0
  have i1 : win0_6.index t 1 = t.val % 11 := congrFun (index6 t) 1
  have i2 : win0_6.index t 2 = 0 := congrFun (index6 t) 2
  have e : ((cfg0.win 6).blk t).view.emb y = (ix3 (bOf t) (rOf t ⟨(y 1).val, h1⟩) (⟨(y 2).val, h2⟩ : Fin 1024) : (⟨3, ![4, 8448, 1024]⟩ : Shape).Idx) := by
    funext a
    apply Fin.ext
    match a with
    | ⟨0, _⟩ => show win0_6.index t 0 * 1 + 1 * (y 0).val = t.val / 11; omega
    | ⟨1, _⟩ => show win0_6.index t 1 * 768 + 1 * (y 1).val = 768 * (t.val % 11) + (y 1).val; omega
    | ⟨2, _⟩ => show win0_6.index t 2 * 1024 + 1 * (y 2).val = (y 2).val; omega
  rw [View.read_apply]
  show _ = G6 m c (((cfg0.win 6).blk t).view.emb y)
  rw [e]
  have ey : ∀ X : S1x768x1024.Idx → EReal, (cfg0.win 6).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out6_at (grid0.coords t) _ _ _ _ _ (a0 m c) (a1 m c) (a2 m c) (a3 m c) (a4 m c) (bOf t) (t.val % 11) (by omega) (coords1 t)
    (fun r d => x0_apply m c t r d) (fun d => x1_apply m c t d) (fun x y z => x2_apply m c t x y z) (fun x y => x3_apply m c t x y) (fun x y => x4_apply m c t x y) ⟨(y 1).val, h1⟩ ⟨(y 2).val, h2⟩

theorem final_eq6 (c : Dev nD) : (dats m 0 c).arrAt 6 cfg0.N = G6 m c := by
  refine funext fun (i : (⟨3, ![4, 8448, 1024]⟩ : Shape).Idx) => ((dats m 0 c).arrAt_eq_piecewise 6 (G6 m c) (fun t _ => flushed_eq6 m c t) i).trans (if_pos ?_)
  have b0 : (i 0).val < 4 := (i 0).isLt
  have b1 : (i 1).val < 8448 := (i 1).isLt
  have b2 : (i 2).val < 1024 := (i 2).isLt
  have hN : cfg0.N = 44 := N_0
  refine ⟨⟨11 * (i 0).val + (i 1).val / 768, by omega⟩, flush0_6 _, ?_⟩
  generalize ht : (⟨11 * (i 0).val + (i 1).val / 768, by omega⟩ : Fin cfg0.N) = t
  have htv : t.val = 11 * (i 0).val + (i 1).val / 768 := by rw [← ht]
  show i ∈ ((View.whole main_v0_1).slice (win0_6.rect t)).set
  rw [View.set_slice_whole, Rect.mem_set_unit]
  have i0 : win0_6.index t 0 = t.val / 11 := congrFun (index6 t) 0
  have i1 : win0_6.index t 1 = t.val % 11 := congrFun (index6 t) 1
  have i2 : win0_6.index t 2 = 0 := congrFun (index6 t) 2
  have s0 : win0_6.xsize (grid0.coords t) 0 = 1 := xsize6 t 0
  have s1 : win0_6.xsize (grid0.coords t) 1 = 768 := xsize6 t 1
  have s2 : win0_6.xsize (grid0.coords t) 2 = 1024 := xsize6 t 2
  intro a
  match a with
  | ⟨0, _⟩ => show win0_6.index t 0 * 1 ≤ (i 0 : Nat) ∧ (i 0 : Nat) < win0_6.index t 0 * 1 + win0_6.xsize (grid0.coords t) 0; omega
  | ⟨1, _⟩ => show win0_6.index t 1 * 768 ≤ (i 1 : Nat) ∧ (i 1 : Nat) < win0_6.index t 1 * 768 + win0_6.xsize (grid0.coords t) 1; omega
  | ⟨2, _⟩ => show win0_6.index t 2 * 1024 ≤ (i 2 : Nat) ∧ (i 2 : Nat) < win0_6.index t 2 * 1024 + win0_6.xsize (grid0.coords t) 2; omega

theorem index7 : ∀ t : Fin cfg0.N, win0_7.index t = ![t.val / 11, t.val % 11, 0] := by decide +kernel
theorem xsize7 : ∀ t : Fin cfg0.N, ∀ a, win0_7.xsize (grid0.coords t) a = S1x768x1024.size a := by decide +kernel

/-- Result 2 as a whole array. -/
abbrev G7 (c : Dev nD) : X3 4 8448 1024 := fun i => specV (a0 m c) (a1 m c) (a2 m c) (a3 m c) (a4 m c) (i 0) (i 1) (i 2)

/-- What point `t` writes back is its block of it. -/
theorem flushed_eq7 (c : Dev nD) (t : Fin cfg0.N) :
    (dats m 0 c).flushed 7 t = ((cfg0.win 7).blk t).view.read (Elt Ideal) (G7 m c) := by
  rw [Value.flushed7]
  funext y
  have h0 : (y 0).val < 1 := lt_of_lt_of_eq (y 0).isLt (xsize7 t 0)
  have h1 : (y 1).val < 768 := lt_of_lt_of_eq (y 1).isLt (xsize7 t 1)
  have h2 : (y 2).val < 1024 := lt_of_lt_of_eq (y 2).isLt (xsize7 t 2)
  have i0 : win0_7.index t 0 = t.val / 11 := congrFun (index7 t) 0
  have i1 : win0_7.index t 1 = t.val % 11 := congrFun (index7 t) 1
  have i2 : win0_7.index t 2 = 0 := congrFun (index7 t) 2
  have e : ((cfg0.win 7).blk t).view.emb y = (ix3 (bOf t) (rOf t ⟨(y 1).val, h1⟩) (⟨(y 2).val, h2⟩ : Fin 1024) : (⟨3, ![4, 8448, 1024]⟩ : Shape).Idx) := by
    funext a
    apply Fin.ext
    match a with
    | ⟨0, _⟩ => show win0_7.index t 0 * 1 + 1 * (y 0).val = t.val / 11; omega
    | ⟨1, _⟩ => show win0_7.index t 1 * 768 + 1 * (y 1).val = 768 * (t.val % 11) + (y 1).val; omega
    | ⟨2, _⟩ => show win0_7.index t 2 * 1024 + 1 * (y 2).val = (y 2).val; omega
  rw [View.read_apply]
  show _ = G7 m c (((cfg0.win 7).blk t).view.emb y)
  rw [e]
  have ey : ∀ X : S1x768x1024.Idx → EReal, (cfg0.win 7).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out7_at (grid0.coords t) _ _ _ _ _ (a0 m c) (a1 m c) (a2 m c) (a3 m c) (a4 m c) (bOf t) (t.val % 11) (by omega) (coords1 t)
    (fun r d => x0_apply m c t r d) (fun d => x1_apply m c t d) (fun x y z => x2_apply m c t x y z) (fun x y => x3_apply m c t x y) (fun x y => x4_apply m c t x y) ⟨(y 1).val, h1⟩ ⟨(y 2).val, h2⟩

theorem final_eq7 (c : Dev nD) : (dats m 0 c).arrAt 7 cfg0.N = G7 m c := by
  refine funext fun (i : (⟨3, ![4, 8448, 1024]⟩ : Shape).Idx) => ((dats m 0 c).arrAt_eq_piecewise 7 (G7 m c) (fun t _ => flushed_eq7 m c t) i).trans (if_pos ?_)
  have b0 : (i 0).val < 4 := (i 0).isLt
  have b1 : (i 1).val < 8448 := (i 1).isLt
  have b2 : (i 2).val < 1024 := (i 2).isLt
  have hN : cfg0.N = 44 := N_0
  refine ⟨⟨11 * (i 0).val + (i 1).val / 768, by omega⟩, flush0_7 _, ?_⟩
  generalize ht : (⟨11 * (i 0).val + (i 1).val / 768, by omega⟩ : Fin cfg0.N) = t
  have htv : t.val = 11 * (i 0).val + (i 1).val / 768 := by rw [← ht]
  show i ∈ ((View.whole main_v0_2).slice (win0_7.rect t)).set
  rw [View.set_slice_whole, Rect.mem_set_unit]
  have i0 : win0_7.index t 0 = t.val / 11 := congrFun (index7 t) 0
  have i1 : win0_7.index t 1 = t.val % 11 := congrFun (index7 t) 1
  have i2 : win0_7.index t 2 = 0 := congrFun (index7 t) 2
  have s0 : win0_7.xsize (grid0.coords t) 0 = 1 := xsize7 t 0
  have s1 : win0_7.xsize (grid0.coords t) 1 = 768 := xsize7 t 1
  have s2 : win0_7.xsize (grid0.coords t) 2 = 1024 := xsize7 t 2
  intro a
  match a with
  | ⟨0, _⟩ => show win0_7.index t 0 * 1 ≤ (i 0 : Nat) ∧ (i 0 : Nat) < win0_7.index t 0 * 1 + win0_7.xsize (grid0.coords t) 0; omega
  | ⟨1, _⟩ => show win0_7.index t 1 * 768 ≤ (i 1 : Nat) ∧ (i 1 : Nat) < win0_7.index t 1 * 768 + win0_7.xsize (grid0.coords t) 1; omega
  | ⟨2, _⟩ => show win0_7.index t 2 * 1024 ≤ (i 2 : Nat) ∧ (i 2 : Nat) < win0_7.index t 2 * 1024 + win0_7.xsize (grid0.coords t) 2; omega

theorem index8 : ∀ t : Fin cfg0.N, win0_8.index t = ![t.val / 11, t.val % 11, 0] := by decide +kernel
theorem xsize8 : ∀ t : Fin cfg0.N, ∀ a, win0_8.xsize (grid0.coords t) a = S1x768x1024.size a := by decide +kernel

/-- Result 3 as a whole array. -/
abbrev G8 (c : Dev nD) : X3 4 8448 1024 := fun i => specG (a0 m c) (a1 m c) (a2 m c) (a3 m c) (a4 m c) (i 0) (i 1) (i 2)

/-- What point `t` writes back is its block of it. -/
theorem flushed_eq8 (c : Dev nD) (t : Fin cfg0.N) :
    (dats m 0 c).flushed 8 t = ((cfg0.win 8).blk t).view.read (Elt Ideal) (G8 m c) := by
  rw [Value.flushed8]
  funext y
  have h0 : (y 0).val < 1 := lt_of_lt_of_eq (y 0).isLt (xsize8 t 0)
  have h1 : (y 1).val < 768 := lt_of_lt_of_eq (y 1).isLt (xsize8 t 1)
  have h2 : (y 2).val < 1024 := lt_of_lt_of_eq (y 2).isLt (xsize8 t 2)
  have i0 : win0_8.index t 0 = t.val / 11 := congrFun (index8 t) 0
  have i1 : win0_8.index t 1 = t.val % 11 := congrFun (index8 t) 1
  have i2 : win0_8.index t 2 = 0 := congrFun (index8 t) 2
  have e : ((cfg0.win 8).blk t).view.emb y = (ix3 (bOf t) (rOf t ⟨(y 1).val, h1⟩) (⟨(y 2).val, h2⟩ : Fin 1024) : (⟨3, ![4, 8448, 1024]⟩ : Shape).Idx) := by
    funext a
    apply Fin.ext
    match a with
    | ⟨0, _⟩ => show win0_8.index t 0 * 1 + 1 * (y 0).val = t.val / 11; omega
    | ⟨1, _⟩ => show win0_8.index t 1 * 768 + 1 * (y 1).val = 768 * (t.val % 11) + (y 1).val; omega
    | ⟨2, _⟩ => show win0_8.index t 2 * 1024 + 1 * (y 2).val = (y 2).val; omega
  rw [View.read_apply]
  show _ = G8 m c (((cfg0.win 8).blk t).view.emb y)
  rw [e]
  have ey : ∀ X : S1x768x1024.Idx → EReal, (cfg0.win 8).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out8_at (grid0.coords t) _ _ _ _ _ (a0 m c) (a1 m c) (a2 m c) (a3 m c) (a4 m c) (bOf t) (t.val % 11) (by omega) (coords1 t)
    (fun r d => x0_apply m c t r d) (fun d => x1_apply m c t d) (fun x y z => x2_apply m c t x y z) (fun x y => x3_apply m c t x y) (fun x y => x4_apply m c t x y) ⟨(y 1).val, h1⟩ ⟨(y 2).val, h2⟩

theorem final_eq8 (c : Dev nD) : (dats m 0 c).arrAt 8 cfg0.N = G8 m c := by
  refine funext fun (i : (⟨3, ![4, 8448, 1024]⟩ : Shape).Idx) => ((dats m 0 c).arrAt_eq_piecewise 8 (G8 m c) (fun t _ => flushed_eq8 m c t) i).trans (if_pos ?_)
  have b0 : (i 0).val < 4 := (i 0).isLt
  have b1 : (i 1).val < 8448 := (i 1).isLt
  have b2 : (i 2).val < 1024 := (i 2).isLt
  have hN : cfg0.N = 44 := N_0
  refine ⟨⟨11 * (i 0).val + (i 1).val / 768, by omega⟩, flush0_8 _, ?_⟩
  generalize ht : (⟨11 * (i 0).val + (i 1).val / 768, by omega⟩ : Fin cfg0.N) = t
  have htv : t.val = 11 * (i 0).val + (i 1).val / 768 := by rw [← ht]
  show i ∈ ((View.whole main_v0_3).slice (win0_8.rect t)).set
  rw [View.set_slice_whole, Rect.mem_set_unit]
  have i0 : win0_8.index t 0 = t.val / 11 := congrFun (index8 t) 0
  have i1 : win0_8.index t 1 = t.val % 11 := congrFun (index8 t) 1
  have i2 : win0_8.index t 2 = 0 := congrFun (index8 t) 2
  have s0 : win0_8.xsize (grid0.coords t) 0 = 1 := xsize8 t 0
  have s1 : win0_8.xsize (grid0.coords t) 1 = 768 := xsize8 t 1
  have s2 : win0_8.xsize (grid0.coords t) 2 = 1024 := xsize8 t 2
  intro a
  match a with
  | ⟨0, _⟩ => show win0_8.index t 0 * 1 ≤ (i 0 : Nat) ∧ (i 0 : Nat) < win0_8.index t 0 * 1 + win0_8.xsize (grid0.coords t) 0; omega
  | ⟨1, _⟩ => show win0_8.index t 1 * 768 ≤ (i 1 : Nat) ∧ (i 1 : Nat) < win0_8.index t 1 * 768 + win0_8.xsize (grid0.coords t) 1; omega
  | ⟨2, _⟩ => show win0_8.index t 2 * 1024 ≤ (i 2 : Nat) ∧ (i 2 : Nat) < win0_8.index t 2 * 1024 + win0_8.xsize (grid0.coords t) 2; omega

end Cert.Kernel2Ideal.Final
-- ==== Proof.R2.lean ====
/-
  The odd layers' projection: the reference's values, row by row.
-/
module

public import proofs.«01_k».proof.Proof.Gen.Reference2Ideal.Read
public import proofs.«01_k».proof.Proof.K2

@[expose] public section

set_option maxRecDepth 16384

noncomputable section

open Idealize.ShloMosaic Idealize.ShloMosaic.TcCoe Idealize.SL.Sem Cert.Rows

namespace Cert.Reference2Ideal.Rows

open Cert.Reference2Ideal Cert.Reference2Ideal.Gen Cert.Reference2Ideal.Read Cert.Kernel2Ideal.Final

section
variable (x0 : X3 4 8448 1024) (x1 : X3 4 1 3072) (x2 : X3 1 1 3072) (x3 : X2 1 1024) (x4 : X2 1024 4096) (b : Fin 4) (r : Fin 8448)

theorem norm_at (d : Fin 1024) : val_main_v12 (F := Ideal) x0 x3 (ix3 b r d) = rnorm 1149239296#32 (fun j => x0 (ix3 b r j)) (fun j => x3 (ix2 0 j)) d := by
  unfold val_main_v12 val_main_v9 val_main_v8 val_main_v7 val_main_v6 val_main_v4 val_main_v2 val_main_v1 val_main_v0 val_main_cst val_main_v3 val_main_cst_0 val_main_v5 val_main_cst_1 val_main_v11 val_main_v10
  unfold rnorm
  pointwise

theorem scale_at (d : Fin 1024) : val_main_v18 (F := Ideal) x1 x2 (ix3 b r d) = md x1 x2 1024 (by omega) b r d := by
  unfold val_main_v18 val_main_v15 val_main_v13 val_main_v14 val_main_c val_main_call0_v0 val_main_v16 val_main_call0_v1 val_main_v17
  unfold md sel
  pointwise

theorem shift_at (d : Fin 1024) : val_main_v27 (F := Ideal) x1 x2 (ix3 b r d) = md x1 x2 0 (by omega) b r d := by
  unfold val_main_v27 val_main_v24 val_main_v22 val_main_v23 val_main_c_3 val_main_call1_v0 val_main_v25 val_main_call1_v1 val_main_v26
  unfold md sel
  simp only [Nat.zero_add]
  pointwise

theorem hid_at (d : Fin 1024) : val_main_v28 (F := Ideal) x0 x1 x2 x3 (ix3 b r d) = hid x0 x1 x2 x3 b r d := by
  unfold hid
  rw [← norm_at x0 x3 b r d, ← scale_at x1 x2 b r d, ← shift_at x1 x2 b r d]
  unfold val_main_v28 val_main_v21 val_main_v20 val_main_v19 val_main_cst_2
  generalize val_main_v12 (F := Ideal) x0 x3 = y1
  generalize val_main_v18 (F := Ideal) x1 x2 = y2
  generalize val_main_v27 (F := Ideal) x1 x2 = y3
  pointwise

theorem dot_at (o : Fin 4096) : val_main_v30 (F := Ideal) x0 x1 x2 x3 x4 (ix3 b r o) = dotc (hid x0 x1 x2 x3 b r) x4 o := by
  unfold dotc
  simp only [← hid_at]
  unfold val_main_v30 val_main_v29
  generalize val_main_v28 (F := Ideal) x0 x1 x2 x3 = y
  pointwise

theorem q_at (o : Fin 1024) : val_main_v37 (F := Ideal) x0 x1 x2 x3 x4 (ix3 b r o) = specQ x0 x1 x2 x3 x4 b r o := by
  unfold specQ
  rw [← dot_at]
  unfold val_main_v37 val_main_v36 val_main_v31 val_main_v35 val_main_cst_4
  generalize val_main_v30 (F := Ideal) x0 x1 x2 x3 x4 = y
  pointwise

theorem k_at (o : Fin 1024) : val_main_v38 (F := Ideal) x0 x1 x2 x3 x4 (ix3 b r o) = specK x0 x1 x2 x3 x4 b r o := by
  unfold specK
  rw [← dot_at]
  unfold val_main_v38 val_main_v32
  generalize val_main_v30 (F := Ideal) x0 x1 x2 x3 x4 = y
  pointwise

theorem v_at (o : Fin 1024) : val_main_v39 (F := Ideal) x0 x1 x2 x3 x4 (ix3 b r o) = specV x0 x1 x2 x3 x4 b r o := by
  unfold specV
  rw [← dot_at]
  unfold val_main_v39 val_main_v33
  generalize val_main_v30 (F := Ideal) x0 x1 x2 x3 x4 = y
  pointwise

theorem g_at (o : Fin 1024) : val_main_v40 (F := Ideal) x0 x1 x2 x3 x4 (ix3 b r o) = specG x0 x1 x2 x3 x4 b r o := by
  unfold specG silu
  rw [← dot_at]
  unfold val_main_v40 val_main_call2_v5 val_main_call2_v4 val_main_call2_cst_0 val_main_call2_v3 val_main_call2_v2 val_main_call2_cst val_main_call2_v1 val_main_call2_v0 val_main_v34
  generalize val_main_v30 (F := Ideal) x0 x1 x2 x3 x4 = y
  pointwise
  rfl

end
end Cert.Reference2Ideal.Rows
-- ==== Proof.C2.lean ====
/-
  The claims of the odd layers' projection.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.R2

@[expose] public section

set_option maxRecDepth 16384

noncomputable section

open Idealize.ShloMosaic Idealize.ShloMosaic.TcCoe Idealize.SL.Sem Cert.Rows

namespace Cert.Proof

/-- A finished device, its semaphores at zero and its arguments kept: the translated program and the idealized one. -/
theorem quiescent_kernel2 : Cert.quiescent_Kernel2 := fun m ρ _ => Cert.Kernel2.Gen.frame m ρ
theorem quiescent_kernel2Ideal : Cert.quiescent_Kernel2Ideal := fun m ρ _ => Cert.Kernel2Ideal.Gen.frame m ρ
theorem quiescent_reference2Ideal : Cert.quiescent_Reference2Ideal := fun m ρ _ =>
  (θ_run Cert.Reference2Ideal.defs _ _).mono
    (fun r h => ⟨fun c => (h c).2.2.2.2, Idealize.ShloMosaic.sem_eq_zero_of_no_sems (by decide) r.2⟩) (Cert.Reference2Ideal.Value.run (F := Ideal) m ρ)

theorem algebraic2 : Cert.algebraic_Kernel2Ideal_Reference2Ideal := by
  intro m g m' g' _ hm
  refine ⟨fun c => Cert.Kernel2Ideal.Final.G5 m c, fun c => Cert.Kernel2Ideal.Final.G6 m c, fun c => Cert.Kernel2Ideal.Final.G7 m c, fun c => Cert.Kernel2Ideal.Final.G8 m c, ?_, ?_⟩
  · exact (θ_run Cert.Kernel2Ideal.defs _ _).mono
      (fun r h c => ⟨(h c).1.trans (Cert.Kernel2Ideal.Final.final_eq5 m c), (h c).2.1.trans (Cert.Kernel2Ideal.Final.final_eq6 m c), (h c).2.2.1.trans (Cert.Kernel2Ideal.Final.final_eq7 m c), (h c).2.2.2.1.trans (Cert.Kernel2Ideal.Final.final_eq8 m c), (h c).2.2.2.2⟩)
      (Cert.Kernel2Ideal.Value.run_blocks m g)
  · refine (θ_run Cert.Reference2Ideal.defs _ _).mono (fun r h c => ⟨?_, ?_, ?_, ?_, (h c).2.2.2.2⟩)
      (Cert.Reference2Ideal.Value.run (F := Ideal) m' g')
    · refine ((h c).1.trans (Cert.Reference2Ideal.Read.val_main_v37_eq _ _ _ _ _)).trans ?_
      obtain ⟨e0, e1, e2, e3, e4⟩ := hm c
      rw [e0, e1, e2, e3, e4]
      refine funext fun i => ?_
      rw [eq_ix3 i]
      exact Cert.Reference2Ideal.Rows.q_at _ _ _ _ _ _ _ _
    · refine ((h c).2.1.trans (Cert.Reference2Ideal.Read.val_main_v38_eq _ _ _ _ _)).trans ?_
      obtain ⟨e0, e1, e2, e3, e4⟩ := hm c
      rw [e0, e1, e2, e3, e4]
      refine funext fun i => ?_
      rw [eq_ix3 i]
      exact Cert.Reference2Ideal.Rows.k_at _ _ _ _ _ _ _ _
    · refine ((h c).2.2.1.trans (Cert.Reference2Ideal.Read.val_main_v39_eq _ _ _ _ _)).trans ?_
      obtain ⟨e0, e1, e2, e3, e4⟩ := hm c
      rw [e0, e1, e2, e3, e4]
      refine funext fun i => ?_
      rw [eq_ix3 i]
      exact Cert.Reference2Ideal.Rows.v_at _ _ _ _ _ _ _ _
    · refine ((h c).2.2.2.1.trans (Cert.Reference2Ideal.Read.val_main_v40_eq m' c)).trans ?_
      obtain ⟨e0, e1, e2, e3, e4⟩ := hm c
      rw [e0, e1, e2, e3, e4]
      refine funext fun i => ?_
      rw [eq_ix3 i]
      exact Cert.Reference2Ideal.Rows.g_at _ _ _ _ _ _ _ _

end Cert.Proof
-- ==== Proof.K3.lean ====
/-
  The even layers' projections: what each tile's body leaves, in terms of the whole arrays.
-/
module

public import proofs.«01_k».proof.Proof.Gen.Kernel3Ideal.Value
public import proofs.«01_k».proof.Proof.Rows
public import Idealize.ShloMosaic.Lib.Pointwise
public import Idealize.ShloMosaic.Lib.Pipeline.ValueKit.Tiles

@[expose] public section

set_option maxRecDepth 16384

noncomputable section

open Idealize.ShloMosaic Idealize.ShloMosaic.TcCoe Idealize.SL.Sem Cert.Rows

namespace Cert.Kernel3Ideal.Final

open Cert.Kernel3Ideal Cert.Kernel3Ideal.Gen
open Idealize.ShloMosaic.Pipeline (Dat)

/-- The head's lane of a lane. -/
def lane (o : Fin 1024) : Fin 128 := ⟨o.val % 128, by omega⟩

/-- The projection's column `k + o`. -/
def proj (x : X3 4 8448 1024) (mb : X3 4 1 3072) (mc : X3 1 1 3072) (g : X2 1 1024) (w : X2 1024 2176) (b : Fin 4) (r : Fin 8448) (n k : Nat) (hk : k + n ≤ 2176) (o : Fin n) : EReal :=
  dotc (hid x mb mc g b r) w ⟨k + o.val, by omega⟩

/-- The queries' low rank row, normalised. -/
def cqn (x : X3 4 8448 1024) (mb : X3 4 1 3072) (mc : X3 1 1 3072) (g : X2 1 1024) (w : X2 1024 2176) (qn : X2 1 256) (b : Fin 4) (r : Fin 8448) (j : Fin 256) : EReal :=
  rnorm 1132462080#32 (proj x mb mc g w b r 256 0 (by omega)) (fun j => qn (ix2 0 j)) j

/-- The keys' and values' low rank row, normalised. -/
def ckvn (x : X3 4 8448 1024) (mb : X3 4 1 3072) (mc : X3 1 1 3072) (g : X2 1 1024) (w : X2 1024 2176) (kn : X2 1 128) (b : Fin 4) (r : Fin 8448) (j : Fin 128) : EReal :=
  rnorm 1124073472#32 (proj x mb mc g w b r 128 256 (by omega)) (fun j => kn (ix2 0 j)) j

/-- The rotated part of the keys, the same in every head. -/
def rope (x : X3 4 8448 1024) (mb : X3 4 1 3072) (mc : X3 1 1 3072) (g : X2 1 1024) (w : X2 1024 2176) (cs sn : X2 8448 128) (b : Fin 4) (r : Fin 8448) (l : Fin 128) : EReal :=
  proj x mb mc g w b r 128 384 (by omega) l * cs (ix2 r l) + proj x mb mc g w b r 128 512 (by omega) l * sn (ix2 r l)

/-- The queries, rotated and scaled. -/
def specQ (x : X3 4 8448 1024) (mb : X3 4 1 3072) (mc : X3 1 1 3072) (g : X2 1 1024) (w : X2 1024 2176) (qn : X2 1 256) (wa wb : X2 256 1024) (cs sn : X2 8448 128) (b : Fin 4) (r : Fin 8448) (o : Fin 1024) : EReal :=
  (dotc (cqn x mb mc g w qn b r) wa o * cs (ix2 r (lane o)) + dotc (cqn x mb mc g w qn b r) wb o * sn (ix2 r (lane o))) * Ideal.ofBits .f32 1041680192#32

/-- The keys. -/
def specK (x : X3 4 8448 1024) (mb : X3 4 1 3072) (mc : X3 1 1 3072) (g : X2 1 1024) (w : X2 1024 2176) (kn : X2 1 128) (wk : X2 128 1024) (cs sn : X2 8448 128) (b : Fin 4) (r : Fin 8448) (o : Fin 1024) : EReal :=
  dotc (ckvn x mb mc g w kn b r) wk o + rope x mb mc g w cs sn b r (lane o)

/-- One at the first lane, zero at the others. -/
def unit0 (l : Fin 128) : EReal := if l.val = 0 then 1 else 0

/-- The values: for each pair of heads their 128 lanes and then the lanes whose first is one. -/
def specV (x : X3 4 8448 1024) (mb : X3 4 1 3072) (mc : X3 1 1 3072) (g : X2 1 1024) (w : X2 1024 2176) (kn : X2 1 128) (wv : X2 128 512) (b : Fin 4) (r : Fin 8448) (o : Fin 1024) : EReal :=
  if o.val % 256 < 128 then dotc (ckvn x mb mc g w kn b r) wv ⟨o.val / 256 * 128 + o.val % 128, by omega⟩ else unit0 (lane o)

/-- The attention's gate. -/
def specM (x : X3 4 8448 1024) (mb : X3 4 1 3072) (mc : X3 1 1 3072) (g : X2 1 1024) (w : X2 1024 2176) (b : Fin 4) (r : Fin 8448) (o : Fin 512) : EReal := silu (proj x mb mc g w b r 512 640 (by omega) o)
/-- The recurrent unit's input. -/
def specX (x : X3 4 8448 1024) (mb : X3 4 1 3072) (mc : X3 1 1 3072) (g : X2 1 1024) (w : X2 1024 2176) (b : Fin 4) (r : Fin 8448) (o : Fin 512) : EReal := proj x mb mc g w b r 512 1152 (by omega) o
/-- The recurrent unit's gate. -/
def specL (x : X3 4 8448 1024) (mb : X3 4 1 3072) (mc : X3 1 1 3072) (g : X2 1 1024) (w : X2 1024 2176) (b : Fin 4) (r : Fin 8448) (o : Fin 512) : EReal := silu (proj x mb mc g w b r 512 1664 (by omega) o)

theorem hz : (![0, 0, 0] : Fin 3 → Nat) = fun _ => 0 := by decide
theorem hz2 : (![0, 0] : Fin 2 → Nat) = fun _ => 0 := by decide

theorem pay2_at (i : grid0.Coords) (r : Fin 768) :
    k0_pay2 i (ix2 r 0) = IntOp.cmpi .sge (BitVec.ofNat 32 (768 * (i 1).val + r.val)) 8192#32 := by
  rw [← word_row 768 (i 1).val r.val]
  unfold k0_pay2
  pointwise
  rfl

theorem pay3_at (v6 : Vec Ideal S1x768x1024 .f32) (v8 : Vec Ideal S1x1024 .f32) (r : Fin 768) (d : Fin 1024) :
    k0_pay3 (F := Ideal) v6 v8 (ix2 r d) = rnorm 1149239296#32 (fun j => v6 (ix3 0 r j)) (fun j => v8 (ix2 0 j)) d := by
  unfold k0_pay3 rnorm
  pointwise

theorem pay4_at (i : grid0.Coords) (v21 : Vec Ideal S1x1x1024 .f32) (v23 : Vec Ideal S1x1x1024 .f32) (r : Fin 768) (d : Fin 1024) :
    k0_pay4 (F := Ideal) i v21 v23 (ix2 r d) = Scalar.select (k0_pay2 i (ix2 r 0)) (v21 (ix3 0 0 d)) (v23 (ix3 0 0 d)) := by
  unfold k0_pay4
  generalize k0_pay2 i = y
  pointwise

theorem pay5_at (v : Vec Ideal S1x1x1024 .f32) (d : Fin 1024) : k0_pay5 (F := Ideal) v (ix2 0 d) = v (ix3 0 0 d) := by
  unfold k0_pay5
  pointwise

theorem pay6_at (v : Vec Ideal S1x1x1024 .f32) (d : Fin 1024) : k0_pay6 (F := Ideal) v (ix2 0 d) = v (ix3 0 0 d) := by
  unfold k0_pay6
  pointwise

theorem pay7_at (v5 : IVec S768x1 1) (v20 v31 : FVec Ideal S768x1024 .f32) (v33 v35 : FVec Ideal S1x1024 .f32) (r : Fin 768) (d : Fin 1024) :
    k0_pay7 (F := Ideal) v5 v20 v31 v33 v35 (ix2 r d)
      = v20 (ix2 r d) * (1 + Scalar.select (v5 (ix2 r 0)) (v33 (ix2 0 d)) (v35 (ix2 0 d))) + v31 (ix2 r d) := by
  unfold k0_pay7
  pointwise

section
variable (v5 : IVec S768x1 1) (v20 v31 : FVec Ideal S768x1024 .f32) (v33 v35 : FVec Ideal S1x1024 .f32) (r : Fin 768)

theorem pay8_at (w : Vec Ideal S1024x256 .bf16) (q : Vec Ideal S1x256 .f32) (j : Fin 256) : k0_pay8 (F := Ideal) v5 v20 v31 v33 v35 w q (ix2 r j)
    = rnorm 1132462080#32 (fun j => ∑ d, k0_pay7 (F := Ideal) v5 v20 v31 v33 v35 (ix2 r d) * w (ix2 d j)) (fun j => q (ix2 0 j)) j := by
  unfold k0_pay8 rnorm
  generalize k0_pay7 (F := Ideal) v5 v20 v31 v33 v35 = y
  pointwise

theorem pay9_at (w : Vec Ideal S1024x256 .bf16) (q : Vec Ideal S1x256 .f32) (u : Vec Ideal S256x1024 .bf16) (o : Fin 1024) :
    k0_pay9 (F := Ideal) v5 v20 v31 v33 v35 w q u (ix2 r o) = ∑ j, k0_pay8 (F := Ideal) v5 v20 v31 v33 v35 w q (ix2 r j) * u (ix2 j o) := by
  unfold k0_pay9
  generalize k0_pay8 (F := Ideal) v5 v20 v31 v33 v35 w q = y
  pointwise

theorem pay10_at (w : Vec Ideal S1024x256 .bf16) (q : Vec Ideal S1x256 .f32) (u : Vec Ideal S256x1024 .bf16) (o : Fin 1024) :
    k0_pay10 (F := Ideal) v5 v20 v31 v33 v35 w q u (ix2 r o) = ∑ j, k0_pay8 (F := Ideal) v5 v20 v31 v33 v35 w q (ix2 r j) * u (ix2 j o) := by
  unfold k0_pay10
  generalize k0_pay8 (F := Ideal) v5 v20 v31 v33 v35 w q = y
  pointwise

theorem pay11_at (w : Vec Ideal S1024x128 .bf16) (o : Fin 128) :
    k0_pay11 (F := Ideal) v5 v20 v31 v33 v35 w (ix2 r o) = ∑ d, k0_pay7 (F := Ideal) v5 v20 v31 v33 v35 (ix2 r d) * w (ix2 d o) := by
  unfold k0_pay11
  generalize k0_pay7 (F := Ideal) v5 v20 v31 v33 v35 = y
  pointwise

theorem pay12_at (v : FVec Ideal S768x128 .f32) (q : Vec Ideal S1x128 .f32) (j : Fin 128) :
    k0_pay12 (F := Ideal) v q (ix2 r j) = rnorm 1124073472#32 (fun j => v (ix2 r j)) (fun j => q (ix2 0 j)) j := by
  unfold k0_pay12 rnorm
  pointwise

theorem pay13_at (v : FVec Ideal S768x128 .f32) (q : Vec Ideal S1x128 .f32) (u : Vec Ideal S128x1024 .bf16) (o : Fin 1024) :
    k0_pay13 (F := Ideal) v q u (ix2 r o) = ∑ j, k0_pay12 (F := Ideal) v q (ix2 r j) * u (ix2 j o) := by
  unfold k0_pay13
  generalize k0_pay12 (F := Ideal) v q = y
  pointwise

theorem pay15_at (v : FVec Ideal S768x128 .f32) (q : Vec Ideal S1x128 .f32) (u : Vec Ideal S128x512 .bf16) (o : Fin 512) :
    k0_pay15 (F := Ideal) v q u (ix2 r o) = ∑ j, k0_pay12 (F := Ideal) v q (ix2 r j) * u (ix2 j o) := by
  unfold k0_pay15
  generalize k0_pay12 (F := Ideal) v q = y
  pointwise

theorem pay14_at (h : FVec Ideal S768x1024 .bf16) (cs sn : Vec Ideal S768x128 .f32) (u v : Vec Ideal S1024x128 .bf16) (l : Fin 128) :
    k0_pay14 (F := Ideal) h cs sn u v (ix2 r l)
      = (∑ d, h (ix2 r d) * u (ix2 d l)) * cs (ix2 r l) + (∑ d, h (ix2 r d) * v (ix2 d l)) * sn (ix2 r l) := by
  unfold k0_pay14
  pointwise

theorem pay46_at (h : FVec Ideal S768x1024 .bf16) (u : Vec Ideal S1024x512 .bf16) (o : Fin 512) :
    k0_pay46 (F := Ideal) h u (ix3 0 r o) = silu (∑ d, h (ix2 r d) * u (ix2 d o)) := by
  unfold k0_pay46 silu
  pointwise

theorem pay47_at (h : FVec Ideal S768x1024 .bf16) (u : Vec Ideal S1024x512 .bf16) (o : Fin 512) :
    k0_pay47 (F := Ideal) h u (ix3 0 r o) = ∑ d, h (ix2 r d) * u (ix2 d o) := by
  unfold k0_pay47
  pointwise

theorem pay48_at (h : FVec Ideal S768x1024 .bf16) (u : Vec Ideal S1024x512 .bf16) (o : Fin 512) :
    k0_pay1 (F := Ideal) (k0_pay48 (F := Ideal) h u) (ix3 0 r o) = silu (∑ d, h (ix2 r d) * u (ix2 d o)) := by
  unfold k0_pay1 k0_pay48 silu
  pointwise

theorem pay16_at (l : Fin 128) : k0_pay16 (F := Ideal) (ix2 r l) = unit0 l := by
  unfold k0_pay16
  pointwise
  unfold unit0
  by_cases h : l.val = 0
  · rw [if_pos h, h, show BitVec.setWidth 32 (IntOp.cmpi .eq (BitVec.ofNat 32 0) 0#32) = 1#32 by decide]
    show (((1#32 : BitVec 32).toInt : ℝ) : EReal) = 1
    rw [show (1#32 : BitVec 32).toInt = 1 by decide]
    norm_num
  · have e : ∀ l : Fin 128, l.val ≠ 0 → BitVec.setWidth 32 (IntOp.cmpi .eq (BitVec.ofNat 32 l.val) 0#32) = 0#32 := by decide
    rw [if_neg h, e l h]
    show (((0#32 : BitVec 32).toInt : ℝ) : EReal) = 0
    rw [show (0#32 : BitVec 32).toInt = 0 by decide]
    norm_num

end

/-! ## The pieces of 128 lanes -/

/-- A piece of 128 lanes whose values are those of a function of the row and the lane. -/
theorem tile_of (v : Fin 768 → Fin 1024 → EReal) (off : Nat) (hoff : off + 128 ≤ 1024) (w : (⟨3, S1x768x128.size⟩ : Shape).Idx → EReal)
    (h : ∀ (r : Fin 768) (l : Fin 128), w (ix3 0 r l) = v r ⟨off + l.val, by omega⟩) (r : Fin 768) (o : Fin 1024) :
    View.TileAt (S := S1x768x1024) (e := .bf16) (Val := Elt Ideal) (ix3 0 r o) ![0, 0, off] S1x768x128.size w (v r o) := by
  intro x hx
  have h0 : (x 0).val < 1 := (x 0).isLt
  have h1 : r.val = 0 + (x 1).val := hx 1
  have h2 : o.val = off + (x 2).val := hx 2
  have hl : (x 2).val < 128 := (x 2).isLt
  have e : x = ix3 0 r ⟨(x 2).val, hl⟩ := by
    funext a
    apply Fin.ext
    match a with
    | ⟨0, _⟩ => show (x 0).val = 0; omega
    | ⟨1, _⟩ => show (x 1).val = r.val; omega
    | ⟨2, _⟩ => rfl
  rw [e]
  refine (h r ⟨(x 2).val, hl⟩).trans (congrArg (v r) (Fin.ext ?_))
  show off + (x 2).val = o.val
  omega

theorem lane_add (k : Nat) (l : Fin 128) (h : 128 * k + l.val < 1024) : lane ⟨128 * k + l.val, h⟩ = l := by
  apply Fin.ext
  show (128 * k + l.val) % 128 = l.val
  omega

section
variable (cs sn : Vec Ideal S768x128 .f32) (A B : FVec Ideal S768x1024 .f32) (C : FVec Ideal S768x128 .f32) (D : FVec Ideal S768x512 .f32) (E : FVec Ideal S768x128 .bf16)
  (r : Fin 768) (l : Fin 128)

def qv (cs sn : Vec Ideal S768x128 .f32) (A B : FVec Ideal S768x1024 .f32) (r : Fin 768) (o : Fin 1024) : EReal :=
  (A (ix2 r o) * cs (ix2 r (lane o)) + B (ix2 r o) * sn (ix2 r (lane o))) * Ideal.ofBits .f32 1041680192#32
def kv (A : FVec Ideal S768x1024 .f32) (C : FVec Ideal S768x128 .f32) (r : Fin 768) (o : Fin 1024) : EReal := A (ix2 r o) + C (ix2 r (lane o))
def vv (D : FVec Ideal S768x512 .f32) (E : FVec Ideal S768x128 .bf16) (r : Fin 768) (o : Fin 1024) : EReal :=
  if o.val % 256 < 128 then D (ix2 r ⟨o.val / 256 * 128 + o.val % 128, by omega⟩) else E (ix2 r (lane o))

theorem q0_at : k0_pay18 (F := Ideal) (k0_pay17 (F := Ideal) cs sn A B) (ix3 0 r l) = qv cs sn A B r ⟨0 + l.val, by omega⟩ := by
  unfold qv
  rw [lane_add 0 l]
  unfold k0_pay18 k0_pay17
  pointwise
theorem k0_at : k0_pay19 (F := Ideal) A C (ix3 0 r l) = kv A C r ⟨0 + l.val, by omega⟩ := by
  unfold kv
  rw [lane_add 0 l]
  unfold k0_pay19
  pointwise
theorem v0_at : k0_pay38 (F := Ideal) D (ix3 0 r l) = vv D E r ⟨0 + l.val, by omega⟩ := by
  have e : (⟨0 + l.val, by omega⟩ : Fin 512) = ⟨(0 + l.val) / 256 * 128 + (0 + l.val) % 128, by omega⟩ := Fin.ext (by show 0 + l.val = (0 + l.val) / 256 * 128 + (0 + l.val) % 128; omega)
  unfold vv
  rw [if_pos (by show (0 + l.val) % 256 < 128; omega), ← e]
  unfold k0_pay38
  pointwise
theorem q1_at : k0_pay20 (F := Ideal) cs sn A B (ix3 0 r l) = qv cs sn A B r ⟨128 + l.val, by omega⟩ := by
  unfold qv
  rw [lane_add 1 l]
  unfold k0_pay20
  pointwise
theorem k1_at : k0_pay21 (F := Ideal) A C (ix3 0 r l) = kv A C r ⟨128 + l.val, by omega⟩ := by
  unfold kv
  rw [lane_add 1 l]
  unfold k0_pay21
  pointwise
theorem v1_at : k0_pay39 (F := Ideal) E (ix3 0 r l) = vv D E r ⟨128 + l.val, by omega⟩ := by
  unfold vv
  rw [if_neg (by show ¬ (128 + l.val) % 256 < 128; omega), lane_add 1 l]
  unfold k0_pay39
  pointwise
theorem q2_at : k0_pay22 (F := Ideal) cs sn A B (ix3 0 r l) = qv cs sn A B r ⟨256 + l.val, by omega⟩ := by
  unfold qv
  rw [lane_add 2 l]
  unfold k0_pay22
  pointwise
theorem k2_at : k0_pay24 (F := Ideal) (k0_pay23 (F := Ideal) A C) (ix3 0 r l) = kv A C r ⟨256 + l.val, by omega⟩ := by
  unfold kv
  rw [lane_add 2 l]
  unfold k0_pay24 k0_pay23
  pointwise
theorem v2_at : k0_pay40 (F := Ideal) D (ix3 0 r l) = vv D E r ⟨256 + l.val, by omega⟩ := by
  have e : (⟨128 + l.val, by omega⟩ : Fin 512) = ⟨(256 + l.val) / 256 * 128 + (256 + l.val) % 128, by omega⟩ := Fin.ext (by show 128 + l.val = (256 + l.val) / 256 * 128 + (256 + l.val) % 128; omega)
  unfold vv
  rw [if_pos (by show (256 + l.val) % 256 < 128; omega), ← e]
  unfold k0_pay40
  pointwise
theorem q3_at : k0_pay25 (F := Ideal) cs sn A B (ix3 0 r l) = qv cs sn A B r ⟨384 + l.val, by omega⟩ := by
  unfold qv
  rw [lane_add 3 l]
  unfold k0_pay25
  pointwise
theorem k3_at : k0_pay26 (F := Ideal) A C (ix3 0 r l) = kv A C r ⟨384 + l.val, by omega⟩ := by
  unfold kv
  rw [lane_add 3 l]
  unfold k0_pay26
  pointwise
theorem v3_at : k0_pay41 (F := Ideal) E (ix3 0 r l) = vv D E r ⟨384 + l.val, by omega⟩ := by
  unfold vv
  rw [if_neg (by show ¬ (384 + l.val) % 256 < 128; omega), lane_add 3 l]
  unfold k0_pay41
  pointwise
theorem q4_at : k0_pay27 (F := Ideal) cs sn A B (ix3 0 r l) = qv cs sn A B r ⟨512 + l.val, by omega⟩ := by
  unfold qv
  rw [lane_add 4 l]
  unfold k0_pay27
  pointwise
theorem k4_at : k0_pay28 (F := Ideal) A C (ix3 0 r l) = kv A C r ⟨512 + l.val, by omega⟩ := by
  unfold kv
  rw [lane_add 4 l]
  unfold k0_pay28
  pointwise
theorem v4_at : k0_pay42 (F := Ideal) D (ix3 0 r l) = vv D E r ⟨512 + l.val, by omega⟩ := by
  have e : (⟨256 + l.val, by omega⟩ : Fin 512) = ⟨(512 + l.val) / 256 * 128 + (512 + l.val) % 128, by omega⟩ := Fin.ext (by show 256 + l.val = (512 + l.val) / 256 * 128 + (512 + l.val) % 128; omega)
  unfold vv
  rw [if_pos (by show (512 + l.val) % 256 < 128; omega), ← e]
  unfold k0_pay42
  pointwise
theorem q5_at : k0_pay31 (F := Ideal) sn (k0_pay29 (F := Ideal) cs A) (k0_pay30 (F := Ideal) B) (ix3 0 r l) = qv cs sn A B r ⟨640 + l.val, by omega⟩ := by
  unfold qv
  rw [lane_add 5 l]
  unfold k0_pay31 k0_pay29 k0_pay30
  pointwise
theorem k5_at : k0_pay32 (F := Ideal) A C (ix3 0 r l) = kv A C r ⟨640 + l.val, by omega⟩ := by
  unfold kv
  rw [lane_add 5 l]
  unfold k0_pay32
  pointwise
theorem v5_at : k0_pay43 (F := Ideal) E (ix3 0 r l) = vv D E r ⟨640 + l.val, by omega⟩ := by
  unfold vv
  rw [if_neg (by show ¬ (640 + l.val) % 256 < 128; omega), lane_add 5 l]
  unfold k0_pay43
  pointwise
theorem q6_at : k0_pay33 (F := Ideal) cs sn A B (ix3 0 r l) = qv cs sn A B r ⟨768 + l.val, by omega⟩ := by
  unfold qv
  rw [lane_add 6 l]
  unfold k0_pay33
  pointwise
theorem k6_at : k0_pay34 (F := Ideal) A C (ix3 0 r l) = kv A C r ⟨768 + l.val, by omega⟩ := by
  unfold kv
  rw [lane_add 6 l]
  unfold k0_pay34
  pointwise
theorem v6_at : k0_pay44 (F := Ideal) D (ix3 0 r l) = vv D E r ⟨768 + l.val, by omega⟩ := by
  have e : (⟨384 + l.val, by omega⟩ : Fin 512) = ⟨(768 + l.val) / 256 * 128 + (768 + l.val) % 128, by omega⟩ := Fin.ext (by show 384 + l.val = (768 + l.val) / 256 * 128 + (768 + l.val) % 128; omega)
  unfold vv
  rw [if_pos (by show (768 + l.val) % 256 < 128; omega), ← e]
  unfold k0_pay44
  pointwise
theorem q7_at : k0_pay36 (F := Ideal) (k0_pay35 (F := Ideal) cs sn A B) (ix3 0 r l) = qv cs sn A B r ⟨896 + l.val, by omega⟩ := by
  unfold qv
  rw [lane_add 7 l]
  unfold k0_pay36 k0_pay35
  pointwise
theorem k7_at : k0_pay37 (F := Ideal) A C (ix3 0 r l) = kv A C r ⟨896 + l.val, by omega⟩ := by
  unfold kv
  rw [lane_add 7 l]
  unfold k0_pay37
  pointwise
theorem v7_at : k0_pay45 (F := Ideal) E (ix3 0 r l) = vv D E r ⟨896 + l.val, by omega⟩ := by
  unfold vv
  rw [if_neg (by show ¬ (896 + l.val) % 256 < 128; omega), lane_add 7 l]
  unfold k0_pay45
  pointwise
end

theorem ldw_a (x4 : Vec Ideal S1024x2176 .bf16) (d : Fin 1024) (o : Fin 256) : View.ld x4 r0_5 (ix2 d o) = x4 (ix2 d ⟨0 + o.val, by omega⟩) := by
  rw [View.ld_unit]
  pointwise
theorem ldw_c (x4 : Vec Ideal S1024x2176 .bf16) (d : Fin 1024) (o : Fin 128) : View.ld x4 r0_8 (ix2 d o) = x4 (ix2 d ⟨256 + o.val, by omega⟩) := by
  rw [View.ld_unit]
  pointwise
theorem ldw_k (x4 : Vec Ideal S1024x2176 .bf16) (d : Fin 1024) (o : Fin 128) : View.ld x4 r0_11 (ix2 d o) = x4 (ix2 d ⟨384 + o.val, by omega⟩) := by
  rw [View.ld_unit]
  pointwise
theorem ldw_s (x4 : Vec Ideal S1024x2176 .bf16) (d : Fin 1024) (o : Fin 128) : View.ld x4 r0_12 (ix2 d o) = x4 (ix2 d ⟨512 + o.val, by omega⟩) := by
  rw [View.ld_unit]
  pointwise
theorem ldw_m (x4 : Vec Ideal S1024x2176 .bf16) (d : Fin 1024) (o : Fin 512) : View.ld x4 r0_22 (ix2 d o) = x4 (ix2 d ⟨640 + o.val, by omega⟩) := by
  rw [View.ld_unit]
  pointwise
theorem ldw_x (x4 : Vec Ideal S1024x2176 .bf16) (d : Fin 1024) (o : Fin 512) : View.ld x4 r0_24 (ix2 d o) = x4 (ix2 d ⟨1152 + o.val, by omega⟩) := by
  rw [View.ld_unit]
  pointwise
theorem ldw_l (x4 : Vec Ideal S1024x2176 .bf16) (d : Fin 1024) (o : Fin 512) : View.ld x4 r0_25 (ix2 d o) = x4 (ix2 d ⟨1664 + o.val, by omega⟩) := by
  rw [View.ld_unit]
  pointwise

theorem ld1 (x1 : Vec Ideal S1x1x3072 .f32) (d : Fin 1024) : View.ld x1 r0_2 (ix3 0 0 d) = x1 (ix3 0 0 ⟨0 + d.val, by omega⟩) := by
  rw [View.ld_unit]
  pointwise
theorem ld2 (x1 : Vec Ideal S1x1x3072 .f32) (d : Fin 1024) : View.ld x1 r0_3 (ix3 0 0 d) = x1 (ix3 0 0 ⟨1024 + d.val, by omega⟩) := by
  rw [View.ld_unit]
  pointwise

section
variable (i : grid0.Coords) (x0 : Vec Ideal S1x768x1024 .f32) (x1 : Vec Ideal S1x1x3072 .f32) (x2 : Vec Ideal S1x1x3072 .f32) (x3 : Vec Ideal S1x1024 .f32) (x4 : Vec Ideal S1024x2176 .bf16)
  (x5 : Vec Ideal S1x256 .f32) (x6 x7 : Vec Ideal S256x1024 .bf16) (x8 : Vec Ideal S1x128 .f32) (x9 : Vec Ideal S128x1024 .bf16) (x10 : Vec Ideal S128x512 .bf16) (x11 x12 : Vec Ideal S768x128 .f32)
  (x : X3 4 8448 1024) (mb : X3 4 1 3072) (mc : X3 1 1 3072) (g : X2 1 1024) (w : X2 1024 2176) (qn : X2 1 256) (wa wb : X2 256 1024) (kn : X2 1 128) (wk : X2 128 1024) (wv : X2 128 512) (cs sn : X2 8448 128)
  (b : Fin 4) (T : Nat) (hT : T < 11) (hi : (i 1).val = T)
  (hx0 : ∀ (r : Fin 768) (d : Fin 1024), x0 (ix3 0 r d) = x (ix3 b ⟨768 * T + r.val, by omega⟩ d))
  (hx1 : ∀ d : Fin 3072, x1 (ix3 0 0 d) = mb (ix3 b 0 d))
  (hx2 : ∀ (u : Fin 1) (v : Fin 1) (d : Fin 3072), x2 (ix3 u v d) = mc (ix3 u v d))
  (hx3 : ∀ (u : Fin 1) (d : Fin 1024), x3 (ix2 u d) = g (ix2 u d))
  (hx4 : ∀ (d : Fin 1024) (o : Fin 2176), x4 (ix2 d o) = w (ix2 d o))
  (hx5 : ∀ (u : Fin 1) (d : Fin 256), x5 (ix2 u d) = qn (ix2 u d))
  (hx6 : ∀ (d : Fin 256) (o : Fin 1024), x6 (ix2 d o) = wa (ix2 d o))
  (hx7 : ∀ (d : Fin 256) (o : Fin 1024), x7 (ix2 d o) = wb (ix2 d o))
  (hx8 : ∀ (u : Fin 1) (d : Fin 128), x8 (ix2 u d) = kn (ix2 u d))
  (hx9 : ∀ (d : Fin 128) (o : Fin 1024), x9 (ix2 d o) = wk (ix2 d o))
  (hx10 : ∀ (d : Fin 128) (o : Fin 512), x10 (ix2 d o) = wv (ix2 d o))
  (hx11 : ∀ (r : Fin 768) (l : Fin 128), x11 (ix2 r l) = cs (ix2 ⟨768 * T + r.val, by omega⟩ l))
  (hx12 : ∀ (r : Fin 768) (l : Fin 128), x12 (ix2 r l) = sn (ix2 ⟨768 * T + r.val, by omega⟩ l))

include hi hx0 hx1 hx2 hx3 in
theorem hid_at (r : Fin 768) (d : Fin 1024) :
    k0_pay54 (F := Ideal) i x0 x1 x2 x3 x4 x5 x6 x7 x8 x9 x10 x11 x12 (ix2 r d) = hid x mb mc g b ⟨768 * T + r.val, by omega⟩ d := by
  have e0 : View.ld x0 r0_0 = x0 := View.ld_unit_zero hz _ x0
  have e3 : View.ld x3 r0_1 = x3 := View.ld_unit_zero hz2 _ x3
  unfold k0_pay54 k0_pay53 k0_pay52 k0_pay51 k0_pay50 k0_pay49
  rw [pay7_at, pay3_at, pay4_at, pay5_at, pay6_at, pay2_at, ld1, ld1, ld2, ld2, e0, e3, hx1, hx1, hx2, hx2, hi]
  simp only [hx0, hx3]
  rfl

include hi hx0 hx1 hx2 hx3 hx4 in
theorem proj_a (r : Fin 768) (o : Fin 256) :
    ∑ d, k0_pay54 (F := Ideal) i x0 x1 x2 x3 x4 x5 x6 x7 x8 x9 x10 x11 x12 (ix2 r d) * View.ld x4 r0_5 (ix2 d o) = proj x mb mc g w b ⟨768 * T + r.val, by omega⟩ 256 0 (by omega) o := by
  unfold proj dotc
  exact Finset.sum_congr rfl fun d _ => congrArg₂ (· * ·) (hid_at i x0 x1 x2 x3 x4 x5 x6 x7 x8 x9 x10 x11 x12 x mb mc g b T hT hi hx0 hx1 hx2 hx3 r d) ((ldw_a x4 d o).trans (hx4 d _))

include hi hx0 hx1 hx2 hx3 hx4 in
theorem proj_c (r : Fin 768) (o : Fin 128) :
    ∑ d, k0_pay54 (F := Ideal) i x0 x1 x2 x3 x4 x5 x6 x7 x8 x9 x10 x11 x12 (ix2 r d) * View.ld x4 r0_8 (ix2 d o) = proj x mb mc g w b ⟨768 * T + r.val, by omega⟩ 128 256 (by omega) o := by
  unfold proj dotc
  exact Finset.sum_congr rfl fun d _ => congrArg₂ (· * ·) (hid_at i x0 x1 x2 x3 x4 x5 x6 x7 x8 x9 x10 x11 x12 x mb mc g b T hT hi hx0 hx1 hx2 hx3 r d) ((ldw_c x4 d o).trans (hx4 d _))

include hi hx0 hx1 hx2 hx3 hx4 in
theorem proj_k (r : Fin 768) (o : Fin 128) :
    ∑ d, k0_pay54 (F := Ideal) i x0 x1 x2 x3 x4 x5 x6 x7 x8 x9 x10 x11 x12 (ix2 r d) * View.ld x4 r0_11 (ix2 d o) = proj x mb mc g w b ⟨768 * T + r.val, by omega⟩ 128 384 (by omega) o := by
  unfold proj dotc
  exact Finset.sum_congr rfl fun d _ => congrArg₂ (· * ·) (hid_at i x0 x1 x2 x3 x4 x5 x6 x7 x8 x9 x10 x11 x12 x mb mc g b T hT hi hx0 hx1 hx2 hx3 r d) ((ldw_k x4 d o).trans (hx4 d _))

include hi hx0 hx1 hx2 hx3 hx4 in
theorem proj_s (r : Fin 768) (o : Fin 128) :
    ∑ d, k0_pay54 (F := Ideal) i x0 x1 x2 x3 x4 x5 x6 x7 x8 x9 x10 x11 x12 (ix2 r d) * View.ld x4 r0_12 (ix2 d o) = proj x mb mc g w b ⟨768 * T + r.val, by omega⟩ 128 512 (by omega) o := by
  unfold proj dotc
  exact Finset.sum_congr rfl fun d _ => congrArg₂ (· * ·) (hid_at i x0 x1 x2 x3 x4 x5 x6 x7 x8 x9 x10 x11 x12 x mb mc g b T hT hi hx0 hx1 hx2 hx3 r d) ((ldw_s x4 d o).trans (hx4 d _))

include hi hx0 hx1 hx2 hx3 hx4 in
theorem proj_m (r : Fin 768) (o : Fin 512) :
    ∑ d, k0_pay54 (F := Ideal) i x0 x1 x2 x3 x4 x5 x6 x7 x8 x9 x10 x11 x12 (ix2 r d) * View.ld x4 r0_22 (ix2 d o) = proj x mb mc g w b ⟨768 * T + r.val, by omega⟩ 512 640 (by omega) o := by
  unfold proj dotc
  exact Finset.sum_congr rfl fun d _ => congrArg₂ (· * ·) (hid_at i x0 x1 x2 x3 x4 x5 x6 x7 x8 x9 x10 x11 x12 x mb mc g b T hT hi hx0 hx1 hx2 hx3 r d) ((ldw_m x4 d o).trans (hx4 d _))

include hi hx0 hx1 hx2 hx3 hx4 in
theorem proj_x (r : Fin 768) (o : Fin 512) :
    ∑ d, k0_pay54 (F := Ideal) i x0 x1 x2 x3 x4 x5 x6 x7 x8 x9 x10 x11 x12 (ix2 r d) * View.ld x4 r0_24 (ix2 d o) = proj x mb mc g w b ⟨768 * T + r.val, by omega⟩ 512 1152 (by omega) o := by
  unfold proj dotc
  exact Finset.sum_congr rfl fun d _ => congrArg₂ (· * ·) (hid_at i x0 x1 x2 x3 x4 x5 x6 x7 x8 x9 x10 x11 x12 x mb mc g b T hT hi hx0 hx1 hx2 hx3 r d) ((ldw_x x4 d o).trans (hx4 d _))

include hi hx0 hx1 hx2 hx3 hx4 in
theorem proj_l (r : Fin 768) (o : Fin 512) :
    ∑ d, k0_pay54 (F := Ideal) i x0 x1 x2 x3 x4 x5 x6 x7 x8 x9 x10 x11 x12 (ix2 r d) * View.ld x4 r0_25 (ix2 d o) = proj x mb mc g w b ⟨768 * T + r.val, by omega⟩ 512 1664 (by omega) o := by
  unfold proj dotc
  exact Finset.sum_congr rfl fun d _ => congrArg₂ (· * ·) (hid_at i x0 x1 x2 x3 x4 x5 x6 x7 x8 x9 x10 x11 x12 x mb mc g b T hT hi hx0 hx1 hx2 hx3 r d) ((ldw_l x4 d o).trans (hx4 d _))

include hi hx0 hx1 hx2 hx3 hx4 hx5 in
theorem cqn_at (r : Fin 768) (j : Fin 256) :
    k0_pay8 (F := Ideal) (k0_pay49 (F := Ideal) i x0 x1 x2 x3 x4 x5 x6 x7 x8 x9 x10 x11 x12) (k0_pay50 (F := Ideal) i x0 x1 x2 x3 x4 x5 x6 x7 x8 x9 x10 x11 x12) (k0_pay51 (F := Ideal) i x0 x1 x2 x3 x4 x5 x6 x7 x8 x9 x10 x11 x12) (k0_pay52 (F := Ideal) i x0 x1 x2 x3 x4 x5 x6 x7 x8 x9 x10 x11 x12) (k0_pay53 (F := Ideal) i x0 x1 x2 x3 x4 x5 x6 x7 x8 x9 x10 x11 x12)
      (View.ld x4 r0_5) (View.ld x5 r0_6) (ix2 r j) = cqn x mb mc g w qn b ⟨768 * T + r.val, by omega⟩ j := by
  have e5 : View.ld x5 r0_6 = x5 := View.ld_unit_zero hz2 _ x5
  rw [pay8_at, e5]
  unfold cqn
  rw [show (fun j => x5 (ix2 0 j)) = fun j => qn (ix2 0 j) from funext fun j => hx5 0 j]
  exact congrArg (fun f => rnorm 1132462080#32 f (fun j => qn (ix2 0 j)) j) (funext fun j => proj_a i x0 x1 x2 x3 x4 x5 x6 x7 x8 x9 x10 x11 x12 x mb mc g w b T hT hi hx0 hx1 hx2 hx3 hx4 r j)

include hi hx0 hx1 hx2 hx3 hx4 hx8 in
theorem ckvn_at (r : Fin 768) (j : Fin 128) :
    k0_pay12 (F := Ideal) (k0_pay57 (F := Ideal) i x0 x1 x2 x3 x4 x5 x6 x7 x8 x9 x10 x11 x12) (View.ld x8 r0_9) (ix2 r j) = ckvn x mb mc g w kn b ⟨768 * T + r.val, by omega⟩ j := by
  have e8 : View.ld x8 r0_9 = x8 := View.ld_unit_zero hz2 _ x8
  rw [pay12_at, e8]
  unfold ckvn
  rw [show (fun j => x8 (ix2 0 j)) = fun j => kn (ix2 0 j) from funext fun j => hx8 0 j]
  refine congrArg (fun f => rnorm 1124073472#32 f (fun j => kn (ix2 0 j)) j) (funext fun j => ?_)
  unfold k0_pay57
  rw [pay11_at]
  exact proj_c i x0 x1 x2 x3 x4 x5 x6 x7 x8 x9 x10 x11 x12 x mb mc g w b T hT hi hx0 hx1 hx2 hx3 hx4 r j

include hi hx0 hx1 hx2 hx3 hx4 hx5 hx6 in
theorem qa_at (r : Fin 768) (o : Fin 1024) :
    k0_pay55 (F := Ideal) i x0 x1 x2 x3 x4 x5 x6 x7 x8 x9 x10 x11 x12 (ix2 r o) = dotc (cqn x mb mc g w qn b ⟨768 * T + r.val, by omega⟩) wa o := by
  have e6 : View.ld x6 r0_7 = x6 := View.ld_unit_zero hz2 _ x6
  unfold k0_pay55 dotc
  rw [pay9_at, e6]
  exact Finset.sum_congr rfl fun j _ => congrArg₂ (· * ·) (cqn_at i x0 x1 x2 x3 x4 x5 x6 x7 x8 x9 x10 x11 x12 x mb mc g w qn b T hT hi hx0 hx1 hx2 hx3 hx4 hx5 r j) (hx6 j o)

include hi hx0 hx1 hx2 hx3 hx4 hx5 hx7 in
theorem qb_at (r : Fin 768) (o : Fin 1024) :
    k0_pay56 (F := Ideal) i x0 x1 x2 x3 x4 x5 x6 x7 x8 x9 x10 x11 x12 (ix2 r o) = dotc (cqn x mb mc g w qn b ⟨768 * T + r.val, by omega⟩) wb o := by
  have e7 : View.ld x7 r0_7 = x7 := View.ld_unit_zero hz2 _ x7
  unfold k0_pay56 dotc
  rw [pay10_at, e7]
  exact Finset.sum_congr rfl fun j _ => congrArg₂ (· * ·) (cqn_at i x0 x1 x2 x3 x4 x5 x6 x7 x8 x9 x10 x11 x12 x mb mc g w qn b T hT hi hx0 hx1 hx2 hx3 hx4 hx5 r j) (hx7 j o)

include hi hx0 hx1 hx2 hx3 hx4 hx8 hx9 in
theorem kk_at (r : Fin 768) (o : Fin 1024) :
    k0_pay58 (F := Ideal) i x0 x1 x2 x3 x4 x5 x6 x7 x8 x9 x10 x11 x12 (ix2 r o) = dotc (ckvn x mb mc g w kn b ⟨768 * T + r.val, by omega⟩) wk o := by
  have e9 : View.ld x9 r0_10 = x9 := View.ld_unit_zero hz2 _ x9
  unfold k0_pay58 dotc
  rw [pay13_at, e9]
  exact Finset.sum_congr rfl fun j _ => congrArg₂ (· * ·) (ckvn_at i x0 x1 x2 x3 x4 x5 x6 x7 x8 x9 x10 x11 x12 x mb mc g w kn b T hT hi hx0 hx1 hx2 hx3 hx4 hx8 r j) (hx9 j o)

include hi hx0 hx1 hx2 hx3 hx4 hx8 hx10 in
theorem vals_at (r : Fin 768) (o : Fin 512) :
    k0_pay60 (F := Ideal) i x0 x1 x2 x3 x4 x5 x6 x7 x8 x9 x10 x11 x12 (ix2 r o) = dotc (ckvn x mb mc g w kn b ⟨768 * T + r.val, by omega⟩) wv o := by
  have e10 : View.ld x10 r0_13 = x10 := View.ld_unit_zero hz2 _ x10
  unfold k0_pay60 dotc
  rw [pay15_at, e10]
  exact Finset.sum_congr rfl fun j _ => congrArg₂ (· * ·) (ckvn_at i x0 x1 x2 x3 x4 x5 x6 x7 x8 x9 x10 x11 x12 x mb mc g w kn b T hT hi hx0 hx1 hx2 hx3 hx4 hx8 r j) (hx10 j o)

include hi hx0 hx1 hx2 hx3 hx4 hx11 hx12 in
theorem rope_at (r : Fin 768) (l : Fin 128) :
    k0_pay59 (F := Ideal) i x0 x1 x2 x3 x4 x5 x6 x7 x8 x9 x10 x11 x12 (ix2 r l) = rope x mb mc g w cs sn b ⟨768 * T + r.val, by omega⟩ l := by
  have e11 : View.ld x11 r0_4 = x11 := View.ld_unit_zero hz2 _ x11
  have e12 : View.ld x12 r0_4 = x12 := View.ld_unit_zero hz2 _ x12
  unfold k0_pay59 rope
  rw [pay14_at, e11, e12, proj_k i x0 x1 x2 x3 x4 x5 x6 x7 x8 x9 x10 x11 x12 x mb mc g w b T hT hi hx0 hx1 hx2 hx3 hx4, proj_s i x0 x1 x2 x3 x4 x5 x6 x7 x8 x9 x10 x11 x12 x mb mc g w b T hT hi hx0 hx1 hx2 hx3 hx4, hx11, hx12]

include hi hx0 hx1 hx2 hx3 hx4 hx5 hx6 hx7 hx11 hx12 in
theorem out13_at (r : Fin 768) (o : Fin 1024) :
    out0_13 (F := Ideal) i x0 x1 x2 x3 x4 x5 x6 x7 x8 x9 x10 x11 x12 (ix3 0 r o) = specQ x mb mc g w qn wa wb cs sn b ⟨768 * T + r.val, by omega⟩ o := by
  have e11 : View.ld x11 r0_4 = x11 := View.ld_unit_zero hz2 _ x11
  have e12 : View.ld x12 r0_4 = x12 := View.ld_unit_zero hz2 _ x12
  unfold specQ
  rw [← qa_at i x0 x1 x2 x3 x4 x5 x6 x7 x8 x9 x10 x11 x12 x mb mc g w qn wa b T hT hi hx0 hx1 hx2 hx3 hx4 hx5 hx6 r o, ← qb_at i x0 x1 x2 x3 x4 x5 x6 x7 x8 x9 x10 x11 x12 x mb mc g w qn wb b T hT hi hx0 hx1 hx2 hx3 hx4 hx5 hx7 r o, ← hx11, ← hx12]
  unfold out0_13
  rw [e11, e12]
  generalize k0_pay55 (F := Ideal) i x0 x1 x2 x3 x4 x5 x6 x7 x8 x9 x10 x11 x12 = A
  generalize k0_pay56 (F := Ideal) i x0 x1 x2 x3 x4 x5 x6 x7 x8 x9 x10 x11 x12 = B
  refine View.canon_eq_of_allAt (Val := Elt Ideal) (S := S1x768x1024) (e := .bf16) _ _ (qv x11 x12 A B r o) (cover0_13 (F := Ideal) _ _ _ _ _ _ _ _ _) ?_
  refine View.allAt_cons_unit _ _ _ _ _ (tile_of (qv x11 x12 A B) 896 (by omega) _ (fun r l => q7_at x11 x12 A B r l) r o) ?_
  refine View.allAt_cons_unit _ _ _ _ _ (tile_of (qv x11 x12 A B) 768 (by omega) _ (fun r l => q6_at x11 x12 A B r l) r o) ?_
  refine View.allAt_cons_unit _ _ _ _ _ (tile_of (qv x11 x12 A B) 640 (by omega) _ (fun r l => q5_at x11 x12 A B r l) r o) ?_
  refine View.allAt_cons_unit _ _ _ _ _ (tile_of (qv x11 x12 A B) 512 (by omega) _ (fun r l => q4_at x11 x12 A B r l) r o) ?_
  refine View.allAt_cons_unit _ _ _ _ _ (tile_of (qv x11 x12 A B) 384 (by omega) _ (fun r l => q3_at x11 x12 A B r l) r o) ?_
  refine View.allAt_cons_unit _ _ _ _ _ (tile_of (qv x11 x12 A B) 256 (by omega) _ (fun r l => q2_at x11 x12 A B r l) r o) ?_
  refine View.allAt_cons_unit _ _ _ _ _ (tile_of (qv x11 x12 A B) 128 (by omega) _ (fun r l => q1_at x11 x12 A B r l) r o) ?_
  refine View.allAt_cons_unit _ _ _ _ _ (tile_of (qv x11 x12 A B) 0 (by omega) _ (fun r l => q0_at x11 x12 A B r l) r o) ?_
  exact View.allAt_nil _ _

include hi hx0 hx1 hx2 hx3 hx4 hx8 hx9 hx11 hx12 in
theorem out14_at (r : Fin 768) (o : Fin 1024) :
    out0_14 (F := Ideal) i x0 x1 x2 x3 x4 x5 x6 x7 x8 x9 x10 x11 x12 (ix3 0 r o) = specK x mb mc g w kn wk cs sn b ⟨768 * T + r.val, by omega⟩ o := by
  unfold specK
  rw [← kk_at i x0 x1 x2 x3 x4 x5 x6 x7 x8 x9 x10 x11 x12 x mb mc g w kn wk b T hT hi hx0 hx1 hx2 hx3 hx4 hx8 hx9 r o, ← rope_at i x0 x1 x2 x3 x4 x5 x6 x7 x8 x9 x10 x11 x12 x mb mc g w cs sn b T hT hi hx0 hx1 hx2 hx3 hx4 hx11 hx12 r]
  unfold out0_14
  generalize k0_pay58 (F := Ideal) i x0 x1 x2 x3 x4 x5 x6 x7 x8 x9 x10 x11 x12 = A
  generalize k0_pay59 (F := Ideal) i x0 x1 x2 x3 x4 x5 x6 x7 x8 x9 x10 x11 x12 = C
  refine View.canon_eq_of_allAt (Val := Elt Ideal) (S := S1x768x1024) (e := .bf16) _ _ (kv A C r o) (cover0_14 (F := Ideal) _ _ _ _ _ _ _ _ _) ?_
  refine View.allAt_cons_unit _ _ _ _ _ (tile_of (kv A C) 896 (by omega) _ (fun r l => k7_at A C r l) r o) ?_
  refine View.allAt_cons_unit _ _ _ _ _ (tile_of (kv A C) 768 (by omega) _ (fun r l => k6_at A C r l) r o) ?_
  refine View.allAt_cons_unit _ _ _ _ _ (tile_of (kv A C) 640 (by omega) _ (fun r l => k5_at A C r l) r o) ?_
  refine View.allAt_cons_unit _ _ _ _ _ (tile_of (kv A C) 512 (by omega) _ (fun r l => k4_at A C r l) r o) ?_
  refine View.allAt_cons_unit _ _ _ _ _ (tile_of (kv A C) 384 (by omega) _ (fun r l => k3_at A C r l) r o) ?_
  refine View.allAt_cons_unit _ _ _ _ _ (tile_of (kv A C) 256 (by omega) _ (fun r l => k2_at A C r l) r o) ?_
  refine View.allAt_cons_unit _ _ _ _ _ (tile_of (kv A C) 128 (by omega) _ (fun r l => k1_at A C r l) r o) ?_
  refine View.allAt_cons_unit _ _ _ _ _ (tile_of (kv A C) 0 (by omega) _ (fun r l => k0_at A C r l) r o) ?_
  exact View.allAt_nil _ _

include hi hx0 hx1 hx2 hx3 hx4 hx8 hx10 in
theorem out15_at (r : Fin 768) (o : Fin 1024) :
    out0_15 (F := Ideal) i x0 x1 x2 x3 x4 x5 x6 x7 x8 x9 x10 x11 x12 (ix3 0 r o) = specV x mb mc g w kn wv b ⟨768 * T + r.val, by omega⟩ o := by
  unfold specV
  rw [← vals_at i x0 x1 x2 x3 x4 x5 x6 x7 x8 x9 x10 x11 x12 x mb mc g w kn wv b T hT hi hx0 hx1 hx2 hx3 hx4 hx8 hx10 r, ← pay16_at r]
  unfold out0_15 k0_pay61
  generalize k0_pay60 (F := Ideal) i x0 x1 x2 x3 x4 x5 x6 x7 x8 x9 x10 x11 x12 = D
  generalize k0_pay16 (F := Ideal) = E
  refine View.canon_eq_of_allAt (Val := Elt Ideal) (S := S1x768x1024) (e := .bf16) _ _ (vv D E r o) (cover0_15 (F := Ideal) _ _ _ _ _ _ _ _ _) ?_
  refine View.allAt_cons_unit _ _ _ _ _ (tile_of (vv D E) 896 (by omega) _ (fun r l => v7_at D E r l) r o) ?_
  refine View.allAt_cons_unit _ _ _ _ _ (tile_of (vv D E) 768 (by omega) _ (fun r l => v6_at D E r l) r o) ?_
  refine View.allAt_cons_unit _ _ _ _ _ (tile_of (vv D E) 640 (by omega) _ (fun r l => v5_at D E r l) r o) ?_
  refine View.allAt_cons_unit _ _ _ _ _ (tile_of (vv D E) 512 (by omega) _ (fun r l => v4_at D E r l) r o) ?_
  refine View.allAt_cons_unit _ _ _ _ _ (tile_of (vv D E) 384 (by omega) _ (fun r l => v3_at D E r l) r o) ?_
  refine View.allAt_cons_unit _ _ _ _ _ (tile_of (vv D E) 256 (by omega) _ (fun r l => v2_at D E r l) r o) ?_
  refine View.allAt_cons_unit _ _ _ _ _ (tile_of (vv D E) 128 (by omega) _ (fun r l => v1_at D E r l) r o) ?_
  refine View.allAt_cons_unit _ _ _ _ _ (tile_of (vv D E) 0 (by omega) _ (fun r l => v0_at D E r l) r o) ?_
  exact View.allAt_nil _ _

include hi hx0 hx1 hx2 hx3 hx4 in
theorem out16_at (r : Fin 768) (o : Fin 512) :
    out0_16 (F := Ideal) i x0 x1 x2 x3 x4 x5 x6 x7 x8 x9 x10 x11 x12 (ix3 0 r o) = specM x mb mc g w b ⟨768 * T + r.val, by omega⟩ o := by
  unfold out0_16 specM
  rw [View.canon_unit_zero hz, pay46_at, proj_m i x0 x1 x2 x3 x4 x5 x6 x7 x8 x9 x10 x11 x12 x mb mc g w b T hT hi hx0 hx1 hx2 hx3 hx4]

include hi hx0 hx1 hx2 hx3 hx4 in
theorem out17_at (r : Fin 768) (o : Fin 512) :
    out0_17 (F := Ideal) i x0 x1 x2 x3 x4 x5 x6 x7 x8 x9 x10 x11 x12 (ix3 0 r o) = specX x mb mc g w b ⟨768 * T + r.val, by omega⟩ o := by
  unfold out0_17 specX
  rw [View.canon_unit_zero hz, pay47_at, proj_x i x0 x1 x2 x3 x4 x5 x6 x7 x8 x9 x10 x11 x12 x mb mc g w b T hT hi hx0 hx1 hx2 hx3 hx4]

include hi hx0 hx1 hx2 hx3 hx4 in
theorem out18_at (r : Fin 768) (o : Fin 512) :
    out0_18 (F := Ideal) i x0 x1 x2 x3 x4 x5 x6 x7 x8 x9 x10 x11 x12 (ix3 0 r o) = specL x mb mc g w b ⟨768 * T + r.val, by omega⟩ o := by
  unfold out0_18 specL
  rw [View.canon_unit_zero hz, pay48_at, proj_l i x0 x1 x2 x3 x4 x5 x6 x7 x8 x9 x10 x11 x12 x mb mc g w b T hT hi hx0 hx1 hx2 hx3 hx4]

end

variable (m : (ℓ : Loc nD τ sig) → Buf (Elt Ideal) ℓ)

theorem coords1 : ∀ t : Fin cfg0.N, (grid0.coords t 1).val = t.val % 11 := by decide +kernel

theorem lt_N (t : Fin cfg0.N) : t.val < 44 := lt_of_lt_of_eq t.isLt N_0

/-- The sample and the row of row `r` of point `t`'s tile. -/
abbrev bOf (t : Fin cfg0.N) : Fin 4 := ⟨t.val / 11, by have := lt_N t; omega⟩
abbrev rOf (t : Fin cfg0.N) (r : Fin 768) : Fin 8448 := ⟨768 * (t.val % 11) + r.val, by omega⟩

abbrev a0 (c : Dev nD) : X3 4 8448 1024 := m ((c : Thread nD τ).loc main_arg0)
abbrev a1 (c : Dev nD) : X3 4 1 3072 := m ((c : Thread nD τ).loc main_arg1)
abbrev a2 (c : Dev nD) : X3 1 1 3072 := m ((c : Thread nD τ).loc main_arg2)
abbrev a3 (c : Dev nD) : X2 1 1024 := m ((c : Thread nD τ).loc main_arg3)
abbrev a4 (c : Dev nD) : X2 1024 2176 := m ((c : Thread nD τ).loc main_arg4)
abbrev a5 (c : Dev nD) : X2 1 256 := m ((c : Thread nD τ).loc main_arg5)
abbrev a6 (c : Dev nD) : X2 256 1024 := m ((c : Thread nD τ).loc main_arg6)
abbrev a7 (c : Dev nD) : X2 256 1024 := m ((c : Thread nD τ).loc main_arg7)
abbrev a8 (c : Dev nD) : X2 1 128 := m ((c : Thread nD τ).loc main_arg8)
abbrev a9 (c : Dev nD) : X2 128 1024 := m ((c : Thread nD τ).loc main_arg9)
abbrev a10 (c : Dev nD) : X2 128 512 := m ((c : Thread nD τ).loc main_arg10)
abbrev a11 (c : Dev nD) : X2 8448 128 := m ((c : Thread nD τ).loc main_arg11)
abbrev a12 (c : Dev nD) : X2 8448 128 := m ((c : Thread nD τ).loc main_arg12)

theorem index0 : ∀ t : Fin cfg0.N, win0_0.index t = ![t.val / 11, t.val % 11, 0] := by decide +kernel

theorem x0_apply (c : Dev nD) (t : Fin cfg0.N) (r : Fin 768) (d : Fin 1024) : (iblk m c 0 t : S1x768x1024.Idx → EReal) (ix3 0 r d) = a0 m c (ix3 (bOf t) (rOf t r) d) := by
  unfold iblk
  rw [View.read_apply]
  show V m c main_arg0 _ = m (c.tc.loc main_arg0) _
  unfold V
  congr 1
  have i0 : win0_0.index t 0 = t.val / 11 := congrFun (index0 t) 0
  have i1 : win0_0.index t 1 = t.val % 11 := congrFun (index0 t) 1
  have i2 : win0_0.index t 2 = 0 := congrFun (index0 t) 2
  funext a
  apply Fin.ext
  match a with
  | ⟨0, _⟩ => show win0_0.index t 0 * 1 + 1 * 0 = t.val / 11; omega
  | ⟨1, _⟩ => show win0_0.index t 1 * 768 + 1 * r.val = 768 * (t.val % 11) + r.val; omega
  | ⟨2, _⟩ => show win0_0.index t 2 * 1024 + 1 * d.val = d.val; omega

theorem index1 : ∀ t : Fin cfg0.N, win0_1.index t = ![t.val / 11, 0, 0] := by decide +kernel

theorem x1_apply (c : Dev nD) (t : Fin cfg0.N) (d : Fin 3072) : (iblk m c 1 t : S1x1x3072.Idx → EReal) (ix3 0 0 d) = a1 m c (ix3 (bOf t) 0 d) := by
  unfold iblk
  rw [View.read_apply]
  show V m c main_arg1 _ = m (c.tc.loc main_arg1) _
  unfold V
  congr 1
  have i0 : win0_1.index t 0 = t.val / 11 := congrFun (index1 t) 0
  have i1 : win0_1.index t 1 = 0 := congrFun (index1 t) 1
  have i2 : win0_1.index t 2 = 0 := congrFun (index1 t) 2
  funext a
  apply Fin.ext
  match a with
  | ⟨0, _⟩ => show win0_1.index t 0 * 1 + 1 * 0 = t.val / 11; omega
  | ⟨1, _⟩ => show win0_1.index t 1 * 1 + 1 * 0 = 0; omega
  | ⟨2, _⟩ => show win0_1.index t 2 * 3072 + 1 * d.val = d.val; omega

theorem index2 : ∀ t : Fin cfg0.N, win0_2.index t = ![0, 0, 0] := by decide +kernel

theorem x2_apply (c : Dev nD) (t : Fin cfg0.N) (x : Fin 1) (y : Fin 1) (z : Fin 3072) : (iblk m c 2 t : S1x1x3072.Idx → EReal) (ix3 x y z) = a2 m c (ix3 x y z) := by
  unfold iblk
  rw [View.read_apply]
  show V m c main_arg2 _ = m (c.tc.loc main_arg2) _
  unfold V
  congr 1
  have i0 : win0_2.index t 0 = 0 := congrFun (index2 t) 0
  have i1 : win0_2.index t 1 = 0 := congrFun (index2 t) 1
  have i2 : win0_2.index t 2 = 0 := congrFun (index2 t) 2
  funext a
  apply Fin.ext
  match a with
  | ⟨0, _⟩ => show win0_2.index t 0 * 1 + 1 * x.val = x.val; omega
  | ⟨1, _⟩ => show win0_2.index t 1 * 1 + 1 * y.val = y.val; omega
  | ⟨2, _⟩ => show win0_2.index t 2 * 3072 + 1 * z.val = z.val; omega

theorem index3 : ∀ t : Fin cfg0.N, win0_3.index t = ![0, 0] := by decide +kernel

theorem x3_apply (c : Dev nD) (t : Fin cfg0.N) (x : Fin 1) (y : Fin 1024) : (iblk m c 3 t : S1x1024.Idx → EReal) (ix2 x y) = a3 m c (ix2 x y) := by
  unfold iblk
  rw [View.read_apply]
  show V m c main_arg3 _ = m (c.tc.loc main_arg3) _
  unfold V
  congr 1
  have i0 : win0_3.index t 0 = 0 := congrFun (index3 t) 0
  have i1 : win0_3.index t 1 = 0 := congrFun (index3 t) 1
  funext a
  apply Fin.ext
  match a with
  | ⟨0, _⟩ => show win0_3.index t 0 * 1 + 1 * x.val = x.val; omega
  | ⟨1, _⟩ => show win0_3.index t 1 * 1024 + 1 * y.val = y.val; omega

theorem index4 : ∀ t : Fin cfg0.N, win0_4.index t = ![0, 0] := by decide +kernel

theorem x4_apply (c : Dev nD) (t : Fin cfg0.N) (x : Fin 1024) (y : Fin 2176) : (iblk m c 4 t : S1024x2176.Idx → EReal) (ix2 x y) = a4 m c (ix2 x y) := by
  unfold iblk
  rw [View.read_apply]
  show V m c main_arg4 _ = m (c.tc.loc main_arg4) _
  unfold V
  congr 1
  have i0 : win0_4.index t 0 = 0 := congrFun (index4 t) 0
  have i1 : win0_4.index t 1 = 0 := congrFun (index4 t) 1
  funext a
  apply Fin.ext
  match a with
  | ⟨0, _⟩ => show win0_4.index t 0 * 1024 + 1 * x.val = x.val; omega
  | ⟨1, _⟩ => show win0_4.index t 1 * 2176 + 1 * y.val = y.val; omega

theorem index5 : ∀ t : Fin cfg0.N, win0_5.index t = ![0, 0] := by decide +kernel

theorem x5_apply (c : Dev nD) (t : Fin cfg0.N) (x : Fin 1) (y : Fin 256) : (iblk m c 5 t : S1x256.Idx → EReal) (ix2 x y) = a5 m c (ix2 x y) := by
  unfold iblk
  rw [View.read_apply]
  show V m c main_arg5 _ = m (c.tc.loc main_arg5) _
  unfold V
  congr 1
  have i0 : win0_5.index t 0 = 0 := congrFun (index5 t) 0
  have i1 : win0_5.index t 1 = 0 := congrFun (index5 t) 1
  funext a
  apply Fin.ext
  match a with
  | ⟨0, _⟩ => show win0_5.index t 0 * 1 + 1 * x.val = x.val; omega
  | ⟨1, _⟩ => show win0_5.index t 1 * 256 + 1 * y.val = y.val; omega

theorem index6 : ∀ t : Fin cfg0.N, win0_6.index t = ![0, 0] := by decide +kernel

theorem x6_apply (c : Dev nD) (t : Fin cfg0.N) (x : Fin 256) (y : Fin 1024) : (iblk m c 6 t : S256x1024.Idx → EReal) (ix2 x y) = a6 m c (ix2 x y) := by
  unfold iblk
  rw [View.read_apply]
  show V m c main_arg6 _ = m (c.tc.loc main_arg6) _
  unfold V
  congr 1
  have i0 : win0_6.index t 0 = 0 := congrFun (index6 t) 0
  have i1 : win0_6.index t 1 = 0 := congrFun (index6 t) 1
  funext a
  apply Fin.ext
  match a with
  | ⟨0, _⟩ => show win0_6.index t 0 * 256 + 1 * x.val = x.val; omega
  | ⟨1, _⟩ => show win0_6.index t 1 * 1024 + 1 * y.val = y.val; omega

theorem index7 : ∀ t : Fin cfg0.N, win0_7.index t = ![0, 0] := by decide +kernel

theorem x7_apply (c : Dev nD) (t : Fin cfg0.N) (x : Fin 256) (y : Fin 1024) : (iblk m c 7 t : S256x1024.Idx → EReal) (ix2 x y) = a7 m c (ix2 x y) := by
  unfold iblk
  rw [View.read_apply]
  show V m c main_arg7 _ = m (c.tc.loc main_arg7) _
  unfold V
  congr 1
  have i0 : win0_7.index t 0 = 0 := congrFun (index7 t) 0
  have i1 : win0_7.index t 1 = 0 := congrFun (index7 t) 1
  funext a
  apply Fin.ext
  match a with
  | ⟨0, _⟩ => show win0_7.index t 0 * 256 + 1 * x.val = x.val; omega
  | ⟨1, _⟩ => show win0_7.index t 1 * 1024 + 1 * y.val = y.val; omega

theorem index8 : ∀ t : Fin cfg0.N, win0_8.index t = ![0, 0] := by decide +kernel

theorem x8_apply (c : Dev nD) (t : Fin cfg0.N) (x : Fin 1) (y : Fin 128) : (iblk m c 8 t : S1x128.Idx → EReal) (ix2 x y) = a8 m c (ix2 x y) := by
  unfold iblk
  rw [View.read_apply]
  show V m c main_arg8 _ = m (c.tc.loc main_arg8) _
  unfold V
  congr 1
  have i0 : win0_8.index t 0 = 0 := congrFun (index8 t) 0
  have i1 : win0_8.index t 1 = 0 := congrFun (index8 t) 1
  funext a
  apply Fin.ext
  match a with
  | ⟨0, _⟩ => show win0_8.index t 0 * 1 + 1 * x.val = x.val; omega
  | ⟨1, _⟩ => show win0_8.index t 1 * 128 + 1 * y.val = y.val; omega

theorem index9 : ∀ t : Fin cfg0.N, win0_9.index t = ![0, 0] := by decide +kernel

theorem x9_apply (c : Dev nD) (t : Fin cfg0.N) (x : Fin 128) (y : Fin 1024) : (iblk m c 9 t : S128x1024.Idx → EReal) (ix2 x y) = a9 m c (ix2 x y) := by
  unfold iblk
  rw [View.read_apply]
  show V m c main_arg9 _ = m (c.tc.loc main_arg9) _
  unfold V
  congr 1
  have i0 : win0_9.index t 0 = 0 := congrFun (index9 t) 0
  have i1 : win0_9.index t 1 = 0 := congrFun (index9 t) 1
  funext a
  apply Fin.ext
  match a with
  | ⟨0, _⟩ => show win0_9.index t 0 * 128 + 1 * x.val = x.val; omega
  | ⟨1, _⟩ => show win0_9.index t 1 * 1024 + 1 * y.val = y.val; omega

theorem index10 : ∀ t : Fin cfg0.N, win0_10.index t = ![0, 0] := by decide +kernel

theorem x10_apply (c : Dev nD) (t : Fin cfg0.N) (x : Fin 128) (y : Fin 512) : (iblk m c 10 t : S128x512.Idx → EReal) (ix2 x y) = a10 m c (ix2 x y) := by
  unfold iblk
  rw [View.read_apply]
  show V m c main_arg10 _ = m (c.tc.loc main_arg10) _
  unfold V
  congr 1
  have i0 : win0_10.index t 0 = 0 := congrFun (index10 t) 0
  have i1 : win0_10.index t 1 = 0 := congrFun (index10 t) 1
  funext a
  apply Fin.ext
  match a with
  | ⟨0, _⟩ => show win0_10.index t 0 * 128 + 1 * x.val = x.val; omega
  | ⟨1, _⟩ => show win0_10.index t 1 * 512 + 1 * y.val = y.val; omega

theorem index11 : ∀ t : Fin cfg0.N, win0_11.index t = ![t.val % 11, 0] := by decide +kernel

theorem x11_apply (c : Dev nD) (t : Fin cfg0.N) (r : Fin 768) (d : Fin 128) : (iblk m c 11 t : S768x128.Idx → EReal) (ix2 r d) = a11 m c (ix2 (rOf t r) d) := by
  unfold iblk
  rw [View.read_apply]
  show V m c main_arg11 _ = m (c.tc.loc main_arg11) _
  unfold V
  congr 1
  have i0 : win0_11.index t 0 = t.val % 11 := congrFun (index11 t) 0
  have i1 : win0_11.index t 1 = 0 := congrFun (index11 t) 1
  funext a
  apply Fin.ext
  match a with
  | ⟨0, _⟩ => show win0_11.index t 0 * 768 + 1 * r.val = 768 * (t.val % 11) + r.val; omega
  | ⟨1, _⟩ => show win0_11.index t 1 * 128 + 1 * d.val = d.val; omega

theorem index12 : ∀ t : Fin cfg0.N, win0_12.index t = ![t.val % 11, 0] := by decide +kernel

theorem x12_apply (c : Dev nD) (t : Fin cfg0.N) (r : Fin 768) (d : Fin 128) : (iblk m c 12 t : S768x128.Idx → EReal) (ix2 r d) = a12 m c (ix2 (rOf t r) d) := by
  unfold iblk
  rw [View.read_apply]
  show V m c main_arg12 _ = m (c.tc.loc main_arg12) _
  unfold V
  congr 1
  have i0 : win0_12.index t 0 = t.val % 11 := congrFun (index12 t) 0
  have i1 : win0_12.index t 1 = 0 := congrFun (index12 t) 1
  funext a
  apply Fin.ext
  match a with
  | ⟨0, _⟩ => show win0_12.index t 0 * 768 + 1 * r.val = 768 * (t.val % 11) + r.val; omega
  | ⟨1, _⟩ => show win0_12.index t 1 * 128 + 1 * d.val = d.val; omega

theorem index13 : ∀ t : Fin cfg0.N, win0_13.index t = ![t.val / 11, t.val % 11, 0] := by decide +kernel
theorem xsize13 : ∀ t : Fin cfg0.N, ∀ a, win0_13.xsize (grid0.coords t) a = S1x768x1024.size a := by decide +kernel

/-- Result 0 as a whole array. -/
abbrev G13 (c : Dev nD) : X3 4 8448 1024 := fun i => specQ (a0 m c) (a1 m c) (a2 m c) (a3 m c) (a4 m c) (a5 m c) (a6 m c) (a7 m c) (a11 m c) (a12 m c) (i 0) (i 1) (i 2)

/-- What point `t` writes back is its block of it. -/
theorem flushed_eq13 (c : Dev nD) (t : Fin cfg0.N) :
    (dats m 0 c).flushed 13 t = ((cfg0.win 13).blk t).view.read (Elt Ideal) (G13 m c) := by
  rw [Value.flushed13]
  funext y
  have h0 : (y 0).val < 1 := lt_of_lt_of_eq (y 0).isLt (xsize13 t 0)
  have h1 : (y 1).val < 768 := lt_of_lt_of_eq (y 1).isLt (xsize13 t 1)
  have h2 : (y 2).val < 1024 := lt_of_lt_of_eq (y 2).isLt (xsize13 t 2)
  have i0 : win0_13.index t 0 = t.val / 11 := congrFun (index13 t) 0
  have i1 : win0_13.index t 1 = t.val % 11 := congrFun (index13 t) 1
  have i2 : win0_13.index t 2 = 0 := congrFun (index13 t) 2
  have e : ((cfg0.win 13).blk t).view.emb y = (ix3 (bOf t) (rOf t ⟨(y 1).val, h1⟩) (⟨(y 2).val, h2⟩ : Fin 1024) : (⟨3, ![4, 8448, 1024]⟩ : Shape).Idx) := by
    funext a
    apply Fin.ext
    match a with
    | ⟨0, _⟩ => show win0_13.index t 0 * 1 + 1 * (y 0).val = t.val / 11; omega
    | ⟨1, _⟩ => show win0_13.index t 1 * 768 + 1 * (y 1).val = 768 * (t.val % 11) + (y 1).val; omega
    | ⟨2, _⟩ => show win0_13.index t 2 * 1024 + 1 * (y 2).val = (y 2).val; omega
  rw [View.read_apply]
  show _ = G13 m c (((cfg0.win 13).blk t).view.emb y)
  rw [e]
  have ey : ∀ X : S1x768x1024.Idx → EReal, (cfg0.win 13).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out13_at (grid0.coords t) _ _ _ _ _ _ _ _ _ _ _ _ _ (a0 m c) (a1 m c) (a2 m c) (a3 m c) (a4 m c) (a5 m c) (a6 m c) (a7 m c) (a11 m c) (a12 m c) (bOf t) (t.val % 11) (by omega) (coords1 t)
    (fun r d => x0_apply m c t r d) (fun d => x1_apply m c t d) (fun x y z => x2_apply m c t x y z) (fun x y => x3_apply m c t x y) (fun x y => x4_apply m c t x y) (fun x y => x5_apply m c t x y) (fun x y => x6_apply m c t x y) (fun x y => x7_apply m c t x y) (fun r d => x11_apply m c t r d) (fun r d => x12_apply m c t r d) ⟨(y 1).val, h1⟩ ⟨(y 2).val, h2⟩

theorem final_eq13 (c : Dev nD) : (dats m 0 c).arrAt 13 cfg0.N = G13 m c := by
  refine funext fun (i : (⟨3, ![4, 8448, 1024]⟩ : Shape).Idx) => ((dats m 0 c).arrAt_eq_piecewise 13 (G13 m c) (fun t _ => flushed_eq13 m c t) i).trans (if_pos ?_)
  have b0 : (i 0).val < 4 := (i 0).isLt
  have b1 : (i 1).val < 8448 := (i 1).isLt
  have b2 : (i 2).val < 1024 := (i 2).isLt
  have hN : cfg0.N = 44 := N_0
  refine ⟨⟨11 * (i 0).val + (i 1).val / 768, by omega⟩, flush0_13 _, ?_⟩
  generalize ht : (⟨11 * (i 0).val + (i 1).val / 768, by omega⟩ : Fin cfg0.N) = t
  have htv : t.val = 11 * (i 0).val + (i 1).val / 768 := by rw [← ht]
  show i ∈ ((View.whole main_v0_0).slice (win0_13.rect t)).set
  rw [View.set_slice_whole, Rect.mem_set_unit]
  have i0 : win0_13.index t 0 = t.val / 11 := congrFun (index13 t) 0
  have i1 : win0_13.index t 1 = t.val % 11 := congrFun (index13 t) 1
  have i2 : win0_13.index t 2 = 0 := congrFun (index13 t) 2
  have s0 : win0_13.xsize (grid0.coords t) 0 = 1 := xsize13 t 0
  have s1 : win0_13.xsize (grid0.coords t) 1 = 768 := xsize13 t 1
  have s2 : win0_13.xsize (grid0.coords t) 2 = 1024 := xsize13 t 2
  intro a
  match a with
  | ⟨0, _⟩ => show win0_13.index t 0 * 1 ≤ (i 0 : Nat) ∧ (i 0 : Nat) < win0_13.index t 0 * 1 + win0_13.xsize (grid0.coords t) 0; omega
  | ⟨1, _⟩ => show win0_13.index t 1 * 768 ≤ (i 1 : Nat) ∧ (i 1 : Nat) < win0_13.index t 1 * 768 + win0_13.xsize (grid0.coords t) 1; omega
  | ⟨2, _⟩ => show win0_13.index t 2 * 1024 ≤ (i 2 : Nat) ∧ (i 2 : Nat) < win0_13.index t 2 * 1024 + win0_13.xsize (grid0.coords t) 2; omega

theorem index14 : ∀ t : Fin cfg0.N, win0_14.index t = ![t.val / 11, t.val % 11, 0] := by decide +kernel
theorem xsize14 : ∀ t : Fin cfg0.N, ∀ a, win0_14.xsize (grid0.coords t) a = S1x768x1024.size a := by decide +kernel

/-- Result 1 as a whole array. -/
abbrev G14 (c : Dev nD) : X3 4 8448 1024 := fun i => specK (a0 m c) (a1 m c) (a2 m c) (a3 m c) (a4 m c) (a8 m c) (a9 m c) (a11 m c) (a12 m c) (i 0) (i 1) (i 2)

/-- What point `t` writes back is its block of it. -/
theorem flushed_eq14 (c : Dev nD) (t : Fin cfg0.N) :
    (dats m 0 c).flushed 14 t = ((cfg0.win 14).blk t).view.read (Elt Ideal) (G14 m c) := by
  rw [Value.flushed14]
  funext y
  have h0 : (y 0).val < 1 := lt_of_lt_of_eq (y 0).isLt (xsize14 t 0)
  have h1 : (y 1).val < 768 := lt_of_lt_of_eq (y 1).isLt (xsize14 t 1)
  have h2 : (y 2).val < 1024 := lt_of_lt_of_eq (y 2).isLt (xsize14 t 2)
  have i0 : win0_14.index t 0 = t.val / 11 := congrFun (index14 t) 0
  have i1 : win0_14.index t 1 = t.val % 11 := congrFun (index14 t) 1
  have i2 : win0_14.index t 2 = 0 := congrFun (index14 t) 2
  have e : ((cfg0.win 14).blk t).view.emb y = (ix3 (bOf t) (rOf t ⟨(y 1).val, h1⟩) (⟨(y 2).val, h2⟩ : Fin 1024) : (⟨3, ![4, 8448, 1024]⟩ : Shape).Idx) := by
    funext a
    apply Fin.ext
    match a with
    | ⟨0, _⟩ => show win0_14.index t 0 * 1 + 1 * (y 0).val = t.val / 11; omega
    | ⟨1, _⟩ => show win0_14.index t 1 * 768 + 1 * (y 1).val = 768 * (t.val % 11) + (y 1).val; omega
    | ⟨2, _⟩ => show win0_14.index t 2 * 1024 + 1 * (y 2).val = (y 2).val; omega
  rw [View.read_apply]
  show _ = G14 m c (((cfg0.win 14).blk t).view.emb y)
  rw [e]
  have ey : ∀ X : S1x768x1024.Idx → EReal, (cfg0.win 14).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out14_at (grid0.coords t) _ _ _ _ _ _ _ _ _ _ _ _ _ (a0 m c) (a1 m c) (a2 m c) (a3 m c) (a4 m c) (a8 m c) (a9 m c) (a11 m c) (a12 m c) (bOf t) (t.val % 11) (by omega) (coords1 t)
    (fun r d => x0_apply m c t r d) (fun d => x1_apply m c t d) (fun x y z => x2_apply m c t x y z) (fun x y => x3_apply m c t x y) (fun x y => x4_apply m c t x y) (fun x y => x8_apply m c t x y) (fun x y => x9_apply m c t x y) (fun r d => x11_apply m c t r d) (fun r d => x12_apply m c t r d) ⟨(y 1).val, h1⟩ ⟨(y 2).val, h2⟩

theorem final_eq14 (c : Dev nD) : (dats m 0 c).arrAt 14 cfg0.N = G14 m c := by
  refine funext fun (i : (⟨3, ![4, 8448, 1024]⟩ : Shape).Idx) => ((dats m 0 c).arrAt_eq_piecewise 14 (G14 m c) (fun t _ => flushed_eq14 m c t) i).trans (if_pos ?_)
  have b0 : (i 0).val < 4 := (i 0).isLt
  have b1 : (i 1).val < 8448 := (i 1).isLt
  have b2 : (i 2).val < 1024 := (i 2).isLt
  have hN : cfg0.N = 44 := N_0
  refine ⟨⟨11 * (i 0).val + (i 1).val / 768, by omega⟩, flush0_14 _, ?_⟩
  generalize ht : (⟨11 * (i 0).val + (i 1).val / 768, by omega⟩ : Fin cfg0.N) = t
  have htv : t.val = 11 * (i 0).val + (i 1).val / 768 := by rw [← ht]
  show i ∈ ((View.whole main_v0_1).slice (win0_14.rect t)).set
  rw [View.set_slice_whole, Rect.mem_set_unit]
  have i0 : win0_14.index t 0 = t.val / 11 := congrFun (index14 t) 0
  have i1 : win0_14.index t 1 = t.val % 11 := congrFun (index14 t) 1
  have i2 : win0_14.index t 2 = 0 := congrFun (index14 t) 2
  have s0 : win0_14.xsize (grid0.coords t) 0 = 1 := xsize14 t 0
  have s1 : win0_14.xsize (grid0.coords t) 1 = 768 := xsize14 t 1
  have s2 : win0_14.xsize (grid0.coords t) 2 = 1024 := xsize14 t 2
  intro a
  match a with
  | ⟨0, _⟩ => show win0_14.index t 0 * 1 ≤ (i 0 : Nat) ∧ (i 0 : Nat) < win0_14.index t 0 * 1 + win0_14.xsize (grid0.coords t) 0; omega
  | ⟨1, _⟩ => show win0_14.index t 1 * 768 ≤ (i 1 : Nat) ∧ (i 1 : Nat) < win0_14.index t 1 * 768 + win0_14.xsize (grid0.coords t) 1; omega
  | ⟨2, _⟩ => show win0_14.index t 2 * 1024 ≤ (i 2 : Nat) ∧ (i 2 : Nat) < win0_14.index t 2 * 1024 + win0_14.xsize (grid0.coords t) 2; omega

theorem index15 : ∀ t : Fin cfg0.N, win0_15.index t = ![t.val / 11, t.val % 11, 0] := by decide +kernel
theorem xsize15 : ∀ t : Fin cfg0.N, ∀ a, win0_15.xsize (grid0.coords t) a = S1x768x1024.size a := by decide +kernel

/-- Result 2 as a whole array. -/
abbrev G15 (c : Dev nD) : X3 4 8448 1024 := fun i => specV (a0 m c) (a1 m c) (a2 m c) (a3 m c) (a4 m c) (a8 m c) (a10 m c) (i 0) (i 1) (i 2)

/-- What point `t` writes back is its block of it. -/
theorem flushed_eq15 (c : Dev nD) (t : Fin cfg0.N) :
    (dats m 0 c).flushed 15 t = ((cfg0.win 15).blk t).view.read (Elt Ideal) (G15 m c) := by
  rw [Value.flushed15]
  funext y
  have h0 : (y 0).val < 1 := lt_of_lt_of_eq (y 0).isLt (xsize15 t 0)
  have h1 : (y 1).val < 768 := lt_of_lt_of_eq (y 1).isLt (xsize15 t 1)
  have h2 : (y 2).val < 1024 := lt_of_lt_of_eq (y 2).isLt (xsize15 t 2)
  have i0 : win0_15.index t 0 = t.val / 11 := congrFun (index15 t) 0
  have i1 : win0_15.index t 1 = t.val % 11 := congrFun (index15 t) 1
  have i2 : win0_15.index t 2 = 0 := congrFun (index15 t) 2
  have e : ((cfg0.win 15).blk t).view.emb y = (ix3 (bOf t) (rOf t ⟨(y 1).val, h1⟩) (⟨(y 2).val, h2⟩ : Fin 1024) : (⟨3, ![4, 8448, 1024]⟩ : Shape).Idx) := by
    funext a
    apply Fin.ext
    match a with
    | ⟨0, _⟩ => show win0_15.index t 0 * 1 + 1 * (y 0).val = t.val / 11; omega
    | ⟨1, _⟩ => show win0_15.index t 1 * 768 + 1 * (y 1).val = 768 * (t.val % 11) + (y 1).val; omega
    | ⟨2, _⟩ => show win0_15.index t 2 * 1024 + 1 * (y 2).val = (y 2).val; omega
  rw [View.read_apply]
  show _ = G15 m c (((cfg0.win 15).blk t).view.emb y)
  rw [e]
  have ey : ∀ X : S1x768x1024.Idx → EReal, (cfg0.win 15).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out15_at (grid0.coords t) _ _ _ _ _ _ _ _ _ _ _ _ _ (a0 m c) (a1 m c) (a2 m c) (a3 m c) (a4 m c) (a8 m c) (a10 m c) (bOf t) (t.val % 11) (by omega) (coords1 t)
    (fun r d => x0_apply m c t r d) (fun d => x1_apply m c t d) (fun x y z => x2_apply m c t x y z) (fun x y => x3_apply m c t x y) (fun x y => x4_apply m c t x y) (fun x y => x8_apply m c t x y) (fun x y => x10_apply m c t x y) ⟨(y 1).val, h1⟩ ⟨(y 2).val, h2⟩

theorem final_eq15 (c : Dev nD) : (dats m 0 c).arrAt 15 cfg0.N = G15 m c := by
  refine funext fun (i : (⟨3, ![4, 8448, 1024]⟩ : Shape).Idx) => ((dats m 0 c).arrAt_eq_piecewise 15 (G15 m c) (fun t _ => flushed_eq15 m c t) i).trans (if_pos ?_)
  have b0 : (i 0).val < 4 := (i 0).isLt
  have b1 : (i 1).val < 8448 := (i 1).isLt
  have b2 : (i 2).val < 1024 := (i 2).isLt
  have hN : cfg0.N = 44 := N_0
  refine ⟨⟨11 * (i 0).val + (i 1).val / 768, by omega⟩, flush0_15 _, ?_⟩
  generalize ht : (⟨11 * (i 0).val + (i 1).val / 768, by omega⟩ : Fin cfg0.N) = t
  have htv : t.val = 11 * (i 0).val + (i 1).val / 768 := by rw [← ht]
  show i ∈ ((View.whole main_v0_2).slice (win0_15.rect t)).set
  rw [View.set_slice_whole, Rect.mem_set_unit]
  have i0 : win0_15.index t 0 = t.val / 11 := congrFun (index15 t) 0
  have i1 : win0_15.index t 1 = t.val % 11 := congrFun (index15 t) 1
  have i2 : win0_15.index t 2 = 0 := congrFun (index15 t) 2
  have s0 : win0_15.xsize (grid0.coords t) 0 = 1 := xsize15 t 0
  have s1 : win0_15.xsize (grid0.coords t) 1 = 768 := xsize15 t 1
  have s2 : win0_15.xsize (grid0.coords t) 2 = 1024 := xsize15 t 2
  intro a
  match a with
  | ⟨0, _⟩ => show win0_15.index t 0 * 1 ≤ (i 0 : Nat) ∧ (i 0 : Nat) < win0_15.index t 0 * 1 + win0_15.xsize (grid0.coords t) 0; omega
  | ⟨1, _⟩ => show win0_15.index t 1 * 768 ≤ (i 1 : Nat) ∧ (i 1 : Nat) < win0_15.index t 1 * 768 + win0_15.xsize (grid0.coords t) 1; omega
  | ⟨2, _⟩ => show win0_15.index t 2 * 1024 ≤ (i 2 : Nat) ∧ (i 2 : Nat) < win0_15.index t 2 * 1024 + win0_15.xsize (grid0.coords t) 2; omega

theorem index16 : ∀ t : Fin cfg0.N, win0_16.index t = ![t.val / 11, t.val % 11, 0] := by decide +kernel
theorem xsize16 : ∀ t : Fin cfg0.N, ∀ a, win0_16.xsize (grid0.coords t) a = S1x768x512.size a := by decide +kernel

/-- Result 3 as a whole array. -/
abbrev G16 (c : Dev nD) : X3 4 8448 512 := fun i => specM (a0 m c) (a1 m c) (a2 m c) (a3 m c) (a4 m c) (i 0) (i 1) (i 2)

/-- What point `t` writes back is its block of it. -/
theorem flushed_eq16 (c : Dev nD) (t : Fin cfg0.N) :
    (dats m 0 c).flushed 16 t = ((cfg0.win 16).blk t).view.read (Elt Ideal) (G16 m c) := by
  rw [Value.flushed16]
  funext y
  have h0 : (y 0).val < 1 := lt_of_lt_of_eq (y 0).isLt (xsize16 t 0)
  have h1 : (y 1).val < 768 := lt_of_lt_of_eq (y 1).isLt (xsize16 t 1)
  have h2 : (y 2).val < 512 := lt_of_lt_of_eq (y 2).isLt (xsize16 t 2)
  have i0 : win0_16.index t 0 = t.val / 11 := congrFun (index16 t) 0
  have i1 : win0_16.index t 1 = t.val % 11 := congrFun (index16 t) 1
  have i2 : win0_16.index t 2 = 0 := congrFun (index16 t) 2
  have e : ((cfg0.win 16).blk t).view.emb y = (ix3 (bOf t) (rOf t ⟨(y 1).val, h1⟩) (⟨(y 2).val, h2⟩ : Fin 512) : (⟨3, ![4, 8448, 512]⟩ : Shape).Idx) := by
    funext a
    apply Fin.ext
    match a with
    | ⟨0, _⟩ => show win0_16.index t 0 * 1 + 1 * (y 0).val = t.val / 11; omega
    | ⟨1, _⟩ => show win0_16.index t 1 * 768 + 1 * (y 1).val = 768 * (t.val % 11) + (y 1).val; omega
    | ⟨2, _⟩ => show win0_16.index t 2 * 512 + 1 * (y 2).val = (y 2).val; omega
  rw [View.read_apply]
  show _ = G16 m c (((cfg0.win 16).blk t).view.emb y)
  rw [e]
  have ey : ∀ X : S1x768x512.Idx → EReal, (cfg0.win 16).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out16_at (grid0.coords t) _ _ _ _ _ _ _ _ _ _ _ _ _ (a0 m c) (a1 m c) (a2 m c) (a3 m c) (a4 m c) (bOf t) (t.val % 11) (by omega) (coords1 t)
    (fun r d => x0_apply m c t r d) (fun d => x1_apply m c t d) (fun x y z => x2_apply m c t x y z) (fun x y => x3_apply m c t x y) (fun x y => x4_apply m c t x y) ⟨(y 1).val, h1⟩ ⟨(y 2).val, h2⟩

theorem final_eq16 (c : Dev nD) : (dats m 0 c).arrAt 16 cfg0.N = G16 m c := by
  refine funext fun (i : (⟨3, ![4, 8448, 512]⟩ : Shape).Idx) => ((dats m 0 c).arrAt_eq_piecewise 16 (G16 m c) (fun t _ => flushed_eq16 m c t) i).trans (if_pos ?_)
  have b0 : (i 0).val < 4 := (i 0).isLt
  have b1 : (i 1).val < 8448 := (i 1).isLt
  have b2 : (i 2).val < 512 := (i 2).isLt
  have hN : cfg0.N = 44 := N_0
  refine ⟨⟨11 * (i 0).val + (i 1).val / 768, by omega⟩, flush0_16 _, ?_⟩
  generalize ht : (⟨11 * (i 0).val + (i 1).val / 768, by omega⟩ : Fin cfg0.N) = t
  have htv : t.val = 11 * (i 0).val + (i 1).val / 768 := by rw [← ht]
  show i ∈ ((View.whole main_v0_3).slice (win0_16.rect t)).set
  rw [View.set_slice_whole, Rect.mem_set_unit]
  have i0 : win0_16.index t 0 = t.val / 11 := congrFun (index16 t) 0
  have i1 : win0_16.index t 1 = t.val % 11 := congrFun (index16 t) 1
  have i2 : win0_16.index t 2 = 0 := congrFun (index16 t) 2
  have s0 : win0_16.xsize (grid0.coords t) 0 = 1 := xsize16 t 0
  have s1 : win0_16.xsize (grid0.coords t) 1 = 768 := xsize16 t 1
  have s2 : win0_16.xsize (grid0.coords t) 2 = 512 := xsize16 t 2
  intro a
  match a with
  | ⟨0, _⟩ => show win0_16.index t 0 * 1 ≤ (i 0 : Nat) ∧ (i 0 : Nat) < win0_16.index t 0 * 1 + win0_16.xsize (grid0.coords t) 0; omega
  | ⟨1, _⟩ => show win0_16.index t 1 * 768 ≤ (i 1 : Nat) ∧ (i 1 : Nat) < win0_16.index t 1 * 768 + win0_16.xsize (grid0.coords t) 1; omega
  | ⟨2, _⟩ => show win0_16.index t 2 * 512 ≤ (i 2 : Nat) ∧ (i 2 : Nat) < win0_16.index t 2 * 512 + win0_16.xsize (grid0.coords t) 2; omega

theorem index17 : ∀ t : Fin cfg0.N, win0_17.index t = ![t.val / 11, t.val % 11, 0] := by decide +kernel
theorem xsize17 : ∀ t : Fin cfg0.N, ∀ a, win0_17.xsize (grid0.coords t) a = S1x768x512.size a := by decide +kernel

/-- Result 4 as a whole array. -/
abbrev G17 (c : Dev nD) : X3 4 8448 512 := fun i => specX (a0 m c) (a1 m c) (a2 m c) (a3 m c) (a4 m c) (i 0) (i 1) (i 2)

/-- What point `t` writes back is its block of it. -/
theorem flushed_eq17 (c : Dev nD) (t : Fin cfg0.N) :
    (dats m 0 c).flushed 17 t = ((cfg0.win 17).blk t).view.read (Elt Ideal) (G17 m c) := by
  rw [Value.flushed17]
  funext y
  have h0 : (y 0).val < 1 := lt_of_lt_of_eq (y 0).isLt (xsize17 t 0)
  have h1 : (y 1).val < 768 := lt_of_lt_of_eq (y 1).isLt (xsize17 t 1)
  have h2 : (y 2).val < 512 := lt_of_lt_of_eq (y 2).isLt (xsize17 t 2)
  have i0 : win0_17.index t 0 = t.val / 11 := congrFun (index17 t) 0
  have i1 : win0_17.index t 1 = t.val % 11 := congrFun (index17 t) 1
  have i2 : win0_17.index t 2 = 0 := congrFun (index17 t) 2
  have e : ((cfg0.win 17).blk t).view.emb y = (ix3 (bOf t) (rOf t ⟨(y 1).val, h1⟩) (⟨(y 2).val, h2⟩ : Fin 512) : (⟨3, ![4, 8448, 512]⟩ : Shape).Idx) := by
    funext a
    apply Fin.ext
    match a with
    | ⟨0, _⟩ => show win0_17.index t 0 * 1 + 1 * (y 0).val = t.val / 11; omega
    | ⟨1, _⟩ => show win0_17.index t 1 * 768 + 1 * (y 1).val = 768 * (t.val % 11) + (y 1).val; omega
    | ⟨2, _⟩ => show win0_17.index t 2 * 512 + 1 * (y 2).val = (y 2).val; omega
  rw [View.read_apply]
  show _ = G17 m c (((cfg0.win 17).blk t).view.emb y)
  rw [e]
  have ey : ∀ X : S1x768x512.Idx → EReal, (cfg0.win 17).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out17_at (grid0.coords t) _ _ _ _ _ _ _ _ _ _ _ _ _ (a0 m c) (a1 m c) (a2 m c) (a3 m c) (a4 m c) (bOf t) (t.val % 11) (by omega) (coords1 t)
    (fun r d => x0_apply m c t r d) (fun d => x1_apply m c t d) (fun x y z => x2_apply m c t x y z) (fun x y => x3_apply m c t x y) (fun x y => x4_apply m c t x y) ⟨(y 1).val, h1⟩ ⟨(y 2).val, h2⟩

theorem final_eq17 (c : Dev nD) : (dats m 0 c).arrAt 17 cfg0.N = G17 m c := by
  refine funext fun (i : (⟨3, ![4, 8448, 512]⟩ : Shape).Idx) => ((dats m 0 c).arrAt_eq_piecewise 17 (G17 m c) (fun t _ => flushed_eq17 m c t) i).trans (if_pos ?_)
  have b0 : (i 0).val < 4 := (i 0).isLt
  have b1 : (i 1).val < 8448 := (i 1).isLt
  have b2 : (i 2).val < 512 := (i 2).isLt
  have hN : cfg0.N = 44 := N_0
  refine ⟨⟨11 * (i 0).val + (i 1).val / 768, by omega⟩, flush0_17 _, ?_⟩
  generalize ht : (⟨11 * (i 0).val + (i 1).val / 768, by omega⟩ : Fin cfg0.N) = t
  have htv : t.val = 11 * (i 0).val + (i 1).val / 768 := by rw [← ht]
  show i ∈ ((View.whole main_v0_4).slice (win0_17.rect t)).set
  rw [View.set_slice_whole, Rect.mem_set_unit]
  have i0 : win0_17.index t 0 = t.val / 11 := congrFun (index17 t) 0
  have i1 : win0_17.index t 1 = t.val % 11 := congrFun (index17 t) 1
  have i2 : win0_17.index t 2 = 0 := congrFun (index17 t) 2
  have s0 : win0_17.xsize (grid0.coords t) 0 = 1 := xsize17 t 0
  have s1 : win0_17.xsize (grid0.coords t) 1 = 768 := xsize17 t 1
  have s2 : win0_17.xsize (grid0.coords t) 2 = 512 := xsize17 t 2
  intro a
  match a with
  | ⟨0, _⟩ => show win0_17.index t 0 * 1 ≤ (i 0 : Nat) ∧ (i 0 : Nat) < win0_17.index t 0 * 1 + win0_17.xsize (grid0.coords t) 0; omega
  | ⟨1, _⟩ => show win0_17.index t 1 * 768 ≤ (i 1 : Nat) ∧ (i 1 : Nat) < win0_17.index t 1 * 768 + win0_17.xsize (grid0.coords t) 1; omega
  | ⟨2, _⟩ => show win0_17.index t 2 * 512 ≤ (i 2 : Nat) ∧ (i 2 : Nat) < win0_17.index t 2 * 512 + win0_17.xsize (grid0.coords t) 2; omega

theorem index18 : ∀ t : Fin cfg0.N, win0_18.index t = ![t.val / 11, t.val % 11, 0] := by decide +kernel
theorem xsize18 : ∀ t : Fin cfg0.N, ∀ a, win0_18.xsize (grid0.coords t) a = S1x768x512.size a := by decide +kernel

/-- Result 5 as a whole array. -/
abbrev G18 (c : Dev nD) : X3 4 8448 512 := fun i => specL (a0 m c) (a1 m c) (a2 m c) (a3 m c) (a4 m c) (i 0) (i 1) (i 2)

/-- What point `t` writes back is its block of it. -/
theorem flushed_eq18 (c : Dev nD) (t : Fin cfg0.N) :
    (dats m 0 c).flushed 18 t = ((cfg0.win 18).blk t).view.read (Elt Ideal) (G18 m c) := by
  rw [Value.flushed18]
  funext y
  have h0 : (y 0).val < 1 := lt_of_lt_of_eq (y 0).isLt (xsize18 t 0)
  have h1 : (y 1).val < 768 := lt_of_lt_of_eq (y 1).isLt (xsize18 t 1)
  have h2 : (y 2).val < 512 := lt_of_lt_of_eq (y 2).isLt (xsize18 t 2)
  have i0 : win0_18.index t 0 = t.val / 11 := congrFun (index18 t) 0
  have i1 : win0_18.index t 1 = t.val % 11 := congrFun (index18 t) 1
  have i2 : win0_18.index t 2 = 0 := congrFun (index18 t) 2
  have e : ((cfg0.win 18).blk t).view.emb y = (ix3 (bOf t) (rOf t ⟨(y 1).val, h1⟩) (⟨(y 2).val, h2⟩ : Fin 512) : (⟨3, ![4, 8448, 512]⟩ : Shape).Idx) := by
    funext a
    apply Fin.ext
    match a with
    | ⟨0, _⟩ => show win0_18.index t 0 * 1 + 1 * (y 0).val = t.val / 11; omega
    | ⟨1, _⟩ => show win0_18.index t 1 * 768 + 1 * (y 1).val = 768 * (t.val % 11) + (y 1).val; omega
    | ⟨2, _⟩ => show win0_18.index t 2 * 512 + 1 * (y 2).val = (y 2).val; omega
  rw [View.read_apply]
  show _ = G18 m c (((cfg0.win 18).blk t).view.emb y)
  rw [e]
  have ey : ∀ X : S1x768x512.Idx → EReal, (cfg0.win 18).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out18_at (grid0.coords t) _ _ _ _ _ _ _ _ _ _ _ _ _ (a0 m c) (a1 m c) (a2 m c) (a3 m c) (a4 m c) (bOf t) (t.val % 11) (by omega) (coords1 t)
    (fun r d => x0_apply m c t r d) (fun d => x1_apply m c t d) (fun x y z => x2_apply m c t x y z) (fun x y => x3_apply m c t x y) (fun x y => x4_apply m c t x y) ⟨(y 1).val, h1⟩ ⟨(y 2).val, h2⟩

theorem final_eq18 (c : Dev nD) : (dats m 0 c).arrAt 18 cfg0.N = G18 m c := by
  refine funext fun (i : (⟨3, ![4, 8448, 512]⟩ : Shape).Idx) => ((dats m 0 c).arrAt_eq_piecewise 18 (G18 m c) (fun t _ => flushed_eq18 m c t) i).trans (if_pos ?_)
  have b0 : (i 0).val < 4 := (i 0).isLt
  have b1 : (i 1).val < 8448 := (i 1).isLt
  have b2 : (i 2).val < 512 := (i 2).isLt
  have hN : cfg0.N = 44 := N_0
  refine ⟨⟨11 * (i 0).val + (i 1).val / 768, by omega⟩, flush0_18 _, ?_⟩
  generalize ht : (⟨11 * (i 0).val + (i 1).val / 768, by omega⟩ : Fin cfg0.N) = t
  have htv : t.val = 11 * (i 0).val + (i 1).val / 768 := by rw [← ht]
  show i ∈ ((View.whole main_v0_5).slice (win0_18.rect t)).set
  rw [View.set_slice_whole, Rect.mem_set_unit]
  have i0 : win0_18.index t 0 = t.val / 11 := congrFun (index18 t) 0
  have i1 : win0_18.index t 1 = t.val % 11 := congrFun (index18 t) 1
  have i2 : win0_18.index t 2 = 0 := congrFun (index18 t) 2
  have s0 : win0_18.xsize (grid0.coords t) 0 = 1 := xsize18 t 0
  have s1 : win0_18.xsize (grid0.coords t) 1 = 768 := xsize18 t 1
  have s2 : win0_18.xsize (grid0.coords t) 2 = 512 := xsize18 t 2
  intro a
  match a with
  | ⟨0, _⟩ => show win0_18.index t 0 * 1 ≤ (i 0 : Nat) ∧ (i 0 : Nat) < win0_18.index t 0 * 1 + win0_18.xsize (grid0.coords t) 0; omega
  | ⟨1, _⟩ => show win0_18.index t 1 * 768 ≤ (i 1 : Nat) ∧ (i 1 : Nat) < win0_18.index t 1 * 768 + win0_18.xsize (grid0.coords t) 1; omega
  | ⟨2, _⟩ => show win0_18.index t 2 * 512 ≤ (i 2 : Nat) ∧ (i 2 : Nat) < win0_18.index t 2 * 512 + win0_18.xsize (grid0.coords t) 2; omega

end Cert.Kernel3Ideal.Final
-- ==== Proof.R3.lean ====
/-
  The even layers' projections: the reference's values, row by row.
-/
module

public import proofs.«01_k».proof.Proof.Gen.Reference3Ideal.Read
public import proofs.«01_k».proof.Proof.K3

@[expose] public section

set_option maxRecDepth 16384

noncomputable section

open Idealize.ShloMosaic Idealize.ShloMosaic.TcCoe Idealize.SL.Sem Cert.Rows

namespace Cert.Reference3Ideal.Rows

open Cert.Reference3Ideal Cert.Reference3Ideal.Gen Cert.Reference3Ideal.Read Cert.Kernel3Ideal.Final

section
variable (x0 : X3 4 8448 1024) (x1 : X3 4 1 3072) (x2 : X3 1 1 3072) (x3 : X2 1 1024) (x4 : X2 1024 2176)
  (x5 : X2 1 256) (x6 x7 : X2 256 1024) (x8 : X2 1 128) (x9 : X2 128 1024) (x10 : X2 128 512) (x11 x12 : X2 8448 128) (b : Fin 4) (r : Fin 8448)

theorem norm_at (d : Fin 1024) : val_main_v12 (F := Ideal) x0 x3 (ix3 b r d) = rnorm 1149239296#32 (fun j => x0 (ix3 b r j)) (fun j => x3 (ix2 0 j)) d := by
  unfold val_main_v12 val_main_v9 val_main_v8 val_main_v7 val_main_v6 val_main_v4 val_main_v2 val_main_v1 val_main_v0 val_main_cst val_main_v3 val_main_cst_0 val_main_v5 val_main_cst_1 val_main_v11 val_main_v10
  unfold rnorm
  pointwise

theorem scale_at (d : Fin 1024) : val_main_v18 (F := Ideal) x1 x2 (ix3 b r d) = md x1 x2 1024 (by omega) b r d := by
  unfold val_main_v18 val_main_v15 val_main_v13 val_main_v14 val_main_c val_main_call0_v0 val_main_v16 val_main_call0_v1 val_main_v17
  unfold md sel
  pointwise

theorem shift_at (d : Fin 1024) : val_main_v27 (F := Ideal) x1 x2 (ix3 b r d) = md x1 x2 0 (by omega) b r d := by
  unfold val_main_v27 val_main_v24 val_main_v22 val_main_v23 val_main_c_3 val_main_call1_v0 val_main_v25 val_main_call1_v1 val_main_v26
  unfold md sel
  simp only [Nat.zero_add]
  pointwise

theorem hid_at (d : Fin 1024) : val_main_v28 (F := Ideal) x0 x1 x2 x3 (ix3 b r d) = hid x0 x1 x2 x3 b r d := by
  unfold hid
  rw [← norm_at x0 x3 b r d, ← scale_at x1 x2 b r d, ← shift_at x1 x2 b r d]
  unfold val_main_v28 val_main_v21 val_main_v20 val_main_v19 val_main_cst_2
  generalize val_main_v12 (F := Ideal) x0 x3 = y12
  generalize val_main_v18 (F := Ideal) x1 x2 = y18
  generalize val_main_v27 (F := Ideal) x1 x2 = y27
  pointwise

theorem dot_at (o : Fin 2176) : val_main_v30 (F := Ideal) x0 x1 x2 x3 x4 (ix3 b r o) = dotc (hid x0 x1 x2 x3 b r) x4 o := by
  unfold dotc
  simp only [← hid_at]
  unfold val_main_v30 val_main_v29
  generalize val_main_v28 (F := Ideal) x0 x1 x2 x3 = y28
  pointwise

theorem p31_at (o : Fin 256) : val_main_v31 (F := Ideal) x0 x1 x2 x3 x4 (ix3 b r o) = proj x0 x1 x2 x3 x4 b r 256 0 (by omega) o := by
  unfold proj
  rw [← dot_at]
  simp only [Nat.zero_add]
  unfold val_main_v31
  generalize val_main_v30 (F := Ideal) x0 x1 x2 x3 x4 = y30
  pointwise

theorem p32_at (o : Fin 128) : val_main_v32 (F := Ideal) x0 x1 x2 x3 x4 (ix3 b r o) = proj x0 x1 x2 x3 x4 b r 128 256 (by omega) o := by
  unfold proj
  rw [← dot_at]
  unfold val_main_v32
  generalize val_main_v30 (F := Ideal) x0 x1 x2 x3 x4 = y30
  pointwise

theorem p33_at (o : Fin 128) : val_main_v33 (F := Ideal) x0 x1 x2 x3 x4 (ix3 b r o) = proj x0 x1 x2 x3 x4 b r 128 384 (by omega) o := by
  unfold proj
  rw [← dot_at]
  unfold val_main_v33
  generalize val_main_v30 (F := Ideal) x0 x1 x2 x3 x4 = y30
  pointwise

theorem p34_at (o : Fin 128) : val_main_v34 (F := Ideal) x0 x1 x2 x3 x4 (ix3 b r o) = proj x0 x1 x2 x3 x4 b r 128 512 (by omega) o := by
  unfold proj
  rw [← dot_at]
  unfold val_main_v34
  generalize val_main_v30 (F := Ideal) x0 x1 x2 x3 x4 = y30
  pointwise

theorem p35_at (o : Fin 512) : val_main_v35 (F := Ideal) x0 x1 x2 x3 x4 (ix3 b r o) = proj x0 x1 x2 x3 x4 b r 512 640 (by omega) o := by
  unfold proj
  rw [← dot_at]
  unfold val_main_v35
  generalize val_main_v30 (F := Ideal) x0 x1 x2 x3 x4 = y30
  pointwise

theorem p36_at (o : Fin 512) : val_main_v36 (F := Ideal) x0 x1 x2 x3 x4 (ix3 b r o) = proj x0 x1 x2 x3 x4 b r 512 1152 (by omega) o := by
  unfold proj
  rw [← dot_at]
  unfold val_main_v36
  generalize val_main_v30 (F := Ideal) x0 x1 x2 x3 x4 = y30
  pointwise

theorem p37_at (o : Fin 512) : val_main_v37 (F := Ideal) x0 x1 x2 x3 x4 (ix3 b r o) = proj x0 x1 x2 x3 x4 b r 512 1664 (by omega) o := by
  unfold proj
  rw [← dot_at]
  unfold val_main_v37
  generalize val_main_v30 (F := Ideal) x0 x1 x2 x3 x4 = y30
  pointwise

theorem n50_at (j : Fin 256) : val_main_v50 (F := Ideal) x0 x1 x2 x3 x4 x5 (ix3 b r j) = cqn x0 x1 x2 x3 x4 x5 b r j := by
  unfold cqn
  rw [show proj x0 x1 x2 x3 x4 b r 256 0 (by omega) = fun j => val_main_v31 (F := Ideal) x0 x1 x2 x3 x4 (ix3 b r j) from funext fun j => (p31_at x0 x1 x2 x3 x4 b r j).symm]
  unfold val_main_v50 val_main_v47 val_main_v46 val_main_v45 val_main_v44 val_main_v42 val_main_v40 val_main_v39 val_main_v38 val_main_cst_4 val_main_v41 val_main_cst_5 val_main_v43 val_main_cst_6 val_main_v49 val_main_v48
  generalize val_main_v31 (F := Ideal) x0 x1 x2 x3 x4 = y31
  unfold rnorm
  pointwise

theorem n63_at (j : Fin 128) : val_main_v63 (F := Ideal) x0 x1 x2 x3 x4 x8 (ix3 b r j) = ckvn x0 x1 x2 x3 x4 x8 b r j := by
  unfold ckvn
  rw [show proj x0 x1 x2 x3 x4 b r 128 256 (by omega) = fun j => val_main_v32 (F := Ideal) x0 x1 x2 x3 x4 (ix3 b r j) from funext fun j => (p32_at x0 x1 x2 x3 x4 b r j).symm]
  unfold val_main_v63 val_main_v60 val_main_v59 val_main_v58 val_main_v57 val_main_v55 val_main_v53 val_main_v52 val_main_v51 val_main_cst_7 val_main_v54 val_main_cst_8 val_main_v56 val_main_cst_9 val_main_v62 val_main_v61
  generalize val_main_v32 (F := Ideal) x0 x1 x2 x3 x4 = y32
  unfold rnorm
  pointwise

theorem d67_at (o : Fin 1024) : val_main_v67 (F := Ideal) x0 x1 x2 x3 x4 x5 x6 (ix3 b r o) = dotc (cqn x0 x1 x2 x3 x4 x5 b r) x6 o := by
  unfold dotc
  simp only [← n50_at]
  unfold val_main_v67 val_main_v66
  generalize val_main_v50 (F := Ideal) x0 x1 x2 x3 x4 x5 = y50
  pointwise

theorem d70_at (o : Fin 1024) : val_main_v70 (F := Ideal) x0 x1 x2 x3 x4 x5 x7 (ix3 b r o) = dotc (cqn x0 x1 x2 x3 x4 x5 b r) x7 o := by
  unfold dotc
  simp only [← n50_at]
  unfold val_main_v70 val_main_v69
  generalize val_main_v50 (F := Ideal) x0 x1 x2 x3 x4 x5 = y50
  pointwise

theorem d88_at (o : Fin 1024) : val_main_v88 (F := Ideal) x0 x1 x2 x3 x4 x8 x9 (ix3 b r o) = dotc (ckvn x0 x1 x2 x3 x4 x8 b r) x9 o := by
  unfold dotc
  simp only [← n63_at]
  unfold val_main_v88 val_main_v87
  generalize val_main_v63 (F := Ideal) x0 x1 x2 x3 x4 x8 = y63
  pointwise

theorem d95_at (o : Fin 512) : val_main_v95 (F := Ideal) x0 x1 x2 x3 x4 x8 x10 (ix3 b r o) = dotc (ckvn x0 x1 x2 x3 x4 x8 b r) x10 o := by
  unfold dotc
  simp only [← n63_at]
  unfold val_main_v95 val_main_v94
  generalize val_main_v63 (F := Ideal) x0 x1 x2 x3 x4 x8 = y63
  pointwise

theorem rope_at (l : Fin 128) : val_main_v86 (F := Ideal) x0 x1 x2 x3 x4 x11 x12 (ix3 b r l) = rope x0 x1 x2 x3 x4 x11 x12 b r l := by
  unfold rope
  rw [← p33_at, ← p34_at]
  unfold val_main_v86 val_main_v82 val_main_v81 val_main_v80 val_main_v85 val_main_v84 val_main_v83
  generalize val_main_v33 (F := Ideal) x0 x1 x2 x3 x4 = y33
  generalize val_main_v34 (F := Ideal) x0 x1 x2 x3 x4 = y34
  pointwise

theorem q_at (o : Fin 1024) : val_main_v103 (F := Ideal) x0 x1 x2 x3 x4 x5 x6 x7 x11 x12 (ix3 b r o) = specQ x0 x1 x2 x3 x4 x5 x6 x7 x11 x12 b r o := by
  unfold specQ lane
  rw [← d67_at, ← d70_at]
  unfold val_main_v103 val_main_v79 val_main_v78 val_main_v76 val_main_v73 val_main_v68 val_main_v72 val_main_v64 val_main_v75 val_main_v71 val_main_v74 val_main_v65 val_main_v77 val_main_cst_10
  generalize val_main_v67 (F := Ideal) x0 x1 x2 x3 x4 x5 x6 = y67
  generalize val_main_v70 (F := Ideal) x0 x1 x2 x3 x4 x5 x7 = y70
  have e : o = ⟨128 * (o.val / 128) + o.val % 128, by omega⟩ := Fin.ext (by show o.val = 128 * (o.val / 128) + o.val % 128; omega)
  pointwise

theorem k_at (o : Fin 1024) : val_main_v104 (F := Ideal) x0 x1 x2 x3 x4 x8 x9 x11 x12 (ix3 b r o) = specK x0 x1 x2 x3 x4 x8 x9 x11 x12 b r o := by
  unfold specK lane
  rw [← d88_at, ← rope_at]
  unfold val_main_v104 val_main_v93 val_main_v92 val_main_v89 val_main_v91 val_main_v90
  generalize val_main_v88 (F := Ideal) x0 x1 x2 x3 x4 x8 x9 = y88
  generalize val_main_v86 (F := Ideal) x0 x1 x2 x3 x4 x11 x12 = y86
  pointwise

theorem m_at (o : Fin 512) : val_main_v106 (F := Ideal) x0 x1 x2 x3 x4 (ix3 b r o) = specM x0 x1 x2 x3 x4 b r o := by
  unfold specM silu
  rw [← p35_at]
  unfold val_main_v106 val_main_call3_v5 val_main_call3_v4 val_main_call3_cst_0 val_main_call3_v3 val_main_call3_v2 val_main_call3_cst val_main_call3_v1 val_main_call3_v0
  generalize val_main_v35 (F := Ideal) x0 x1 x2 x3 x4 = y35
  pointwise
  rfl

theorem l_at (o : Fin 512) : val_main_v107 (F := Ideal) x0 x1 x2 x3 x4 (ix3 b r o) = specL x0 x1 x2 x3 x4 b r o := by
  unfold specL silu
  rw [← p37_at]
  unfold val_main_v107 val_main_call4_v5 val_main_call4_v4 val_main_call4_cst_0 val_main_call4_v3 val_main_call4_v2 val_main_call4_cst val_main_call4_v1 val_main_call4_v0
  generalize val_main_v37 (F := Ideal) x0 x1 x2 x3 x4 = y37
  pointwise
  rfl

end
end Cert.Reference3Ideal.Rows
-- ==== Proof.R3v.lean ====
/-
  The even layers' projections: the reference's values with the lanes of ones.
-/
module

public import proofs.«01_k».proof.Proof.Gen.Reference3Ideal.Read
public import proofs.«01_k».proof.Proof.R3

@[expose] public section

set_option maxRecDepth 16384

noncomputable section

open Idealize.ShloMosaic Idealize.ShloMosaic.TcCoe Idealize.SL.Sem Cert.Rows

namespace Cert.Reference3Ideal.Rows

open Cert.Reference3Ideal Cert.Reference3Ideal.Gen Cert.Reference3Ideal.Read Cert.Kernel3Ideal.Final

theorem flat_of (y : S4x8448x4x256.Idx → EReal) (h : S4x8448x4x256.ShapeCasts S4x8448x1024) (b : Fin 4) (r : Fin 8448) (o : Fin 1024) (p : Fin 4) (c : Fin 256)
    (ho : p.val * 256 + c.val = o.val) : shapeCast S4x8448x1024 y h (ix3 b r o) = y (ix4 b r p c) := by
  refine Idealize.ShloMosaic.shapeCast_apply y h (ix3 b r o) (ix4 b r p c) ?_
  have e4 := rowMajor_val4 (d := ![4, 8448, 4, 256]) (ix4 b r p c) 8650752 1024 256 (by decide) (by decide) (by decide)
  have e3 := rowMajor_val3 (d := ![4, 8448, 1024]) (ix3 b r o) 8650752 1024 (by decide) (by decide)
  refine e4.trans (Eq.trans ?_ e3.symm)
  show b.val * 8650752 + r.val * 1024 + p.val * 256 + c.val = b.val * 8650752 + r.val * 1024 + o.val
  omega

section
variable (x0 : X3 4 8448 1024) (x1 : X3 4 1 3072) (x2 : X3 1 1 3072) (x3 : X2 1 1024) (x4 : X2 1024 2176)
  (x8 : X2 1 128) (x10 : X2 128 512) (b : Fin 4) (r : Fin 8448)

theorem unit_at (p : Fin 4) (l : Fin 128) : val_main_v100 (F := Ideal) (ix4 b r p l) = unit0 l := by
  unfold val_main_v100 val_main_v99 val_main_v97 val_main_v98 val_main_c_11 val_main_call2_v0 val_main_cst_12 val_main_call2_v1 val_main_cst_13
  pointwise
  unfold unit0
  by_cases h : l.val = 0
  · rw [if_pos h, h]
    rfl
  · have e : ∀ l : Fin 128, l.val ≠ 0 → IntOp.cmpi .eq (BitVec.ofNat 32 l.val) 0#32 = 0#1 := by decide
    rw [if_neg h, e l h]
    rfl

theorem heads_at (p : Fin 4) (l : Fin 128) : val_main_v96 (F := Ideal) x0 x1 x2 x3 x4 x8 x10 (ix4 b r p l) = val_main_v95 (F := Ideal) x0 x1 x2 x3 x4 x8 x10 (ix3 b r ⟨p.val * 128 + l.val, by omega⟩) := by
  unfold val_main_v96
  generalize val_main_v95 (F := Ideal) x0 x1 x2 x3 x4 x8 x10 = y95
  pointwise

theorem both_at (p : Fin 4) (c : Fin 256) : val_main_v101 (F := Ideal) x0 x1 x2 x3 x4 x8 x10 (ix4 b r p c)
    = if h : c.val < 128 then val_main_v96 (F := Ideal) x0 x1 x2 x3 x4 x8 x10 (ix4 b r p ⟨c.val, h⟩) else val_main_v100 (F := Ideal) (ix4 b r p ⟨c.val - 128, by omega⟩) := by
  unfold val_main_v101
  generalize val_main_v96 (F := Ideal) x0 x1 x2 x3 x4 x8 x10 = y96
  generalize val_main_v100 (F := Ideal) = y100
  pointwise

theorem round_at (o : Fin 1024) : val_main_v105 (F := Ideal) x0 x1 x2 x3 x4 x8 x10 (ix3 b r o) = val_main_v102 (F := Ideal) x0 x1 x2 x3 x4 x8 x10 (ix3 b r o) := by
  rw [val_main_v105_apply]
  generalize val_main_v102 (F := Ideal) x0 x1 x2 x3 x4 x8 x10 (ix3 b r o) = y
  rfl

theorem flat_at (o : Fin 1024) : val_main_v105 (F := Ideal) x0 x1 x2 x3 x4 x8 x10 (ix3 b r o) = val_main_v101 (F := Ideal) x0 x1 x2 x3 x4 x8 x10 (ix4 b r ⟨o.val / 256, by omega⟩ ⟨o.val % 256, by omega⟩) := by
  rw [round_at]
  unfold val_main_v102
  generalize val_main_v101 (F := Ideal) x0 x1 x2 x3 x4 x8 x10 = y
  exact flat_of y _ b r o _ _ (by show o.val / 256 * 256 + o.val % 256 = o.val; omega)

theorem v_at (o : Fin 1024) : val_main_v105 (F := Ideal) x0 x1 x2 x3 x4 x8 x10 (ix3 b r o) = specV x0 x1 x2 x3 x4 x8 x10 b r o := by
  rw [flat_at, both_at]
  unfold specV
  by_cases h : o.val % 256 < 128
  · rw [dif_pos h, if_pos h, heads_at, d95_at]
    exact congrArg _ (Fin.ext (by show o.val / 256 * 128 + o.val % 256 = o.val / 256 * 128 + o.val % 128; omega))
  · rw [dif_neg h, if_neg h, unit_at]
    exact congrArg unit0 (Fin.ext (by show o.val % 256 - 128 = o.val % 128; omega))

theorem x_at (o : Fin 512) : val_main_v36 (F := Ideal) x0 x1 x2 x3 x4 (ix3 b r o) = specX x0 x1 x2 x3 x4 b r o :=
  p36_at x0 x1 x2 x3 x4 b r o

end
end Cert.Reference3Ideal.Rows
-- ==== Proof.C3.lean ====
/-
  The claims of the even layers' projections.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.R3
public import proofs.«01_k».proof.Proof.R3v

@[expose] public section

set_option maxRecDepth 16384

noncomputable section

open Idealize.ShloMosaic Idealize.ShloMosaic.TcCoe Idealize.SL.Sem Cert.Rows

namespace Cert.Proof

/-- A finished device, its semaphores at zero and its arguments kept: the translated program and the idealized one. -/
theorem quiescent_kernel3 : Cert.quiescent_Kernel3 := fun m ρ _ => Cert.Kernel3.Gen.frame m ρ
theorem quiescent_kernel3Ideal : Cert.quiescent_Kernel3Ideal := fun m ρ _ => Cert.Kernel3Ideal.Gen.frame m ρ
theorem quiescent_reference3Ideal : Cert.quiescent_Reference3Ideal := fun m ρ _ =>
  (θ_run Cert.Reference3Ideal.defs _ _).mono
    (fun r h => ⟨fun c => (h c).2.2.2.2.2.2, Idealize.ShloMosaic.sem_eq_zero_of_no_sems (by decide) r.2⟩) (Cert.Reference3Ideal.Value.run (F := Ideal) m ρ)

theorem algebraic3 : Cert.algebraic_Kernel3Ideal_Reference3Ideal := by
  intro m g m' g' _ hm
  refine ⟨fun c => Cert.Kernel3Ideal.Final.G13 m c, fun c => Cert.Kernel3Ideal.Final.G14 m c, fun c => Cert.Kernel3Ideal.Final.G15 m c, fun c => Cert.Kernel3Ideal.Final.G16 m c, fun c => Cert.Kernel3Ideal.Final.G17 m c, fun c => Cert.Kernel3Ideal.Final.G18 m c, ?_, ?_⟩
  · exact (θ_run Cert.Kernel3Ideal.defs _ _).mono
      (fun r h c => ⟨(h c).1.trans (Cert.Kernel3Ideal.Final.final_eq13 m c), (h c).2.1.trans (Cert.Kernel3Ideal.Final.final_eq14 m c), (h c).2.2.1.trans (Cert.Kernel3Ideal.Final.final_eq15 m c), (h c).2.2.2.1.trans (Cert.Kernel3Ideal.Final.final_eq16 m c), (h c).2.2.2.2.1.trans (Cert.Kernel3Ideal.Final.final_eq17 m c), (h c).2.2.2.2.2.1.trans (Cert.Kernel3Ideal.Final.final_eq18 m c), (h c).2.2.2.2.2.2⟩)
      (Cert.Kernel3Ideal.Value.run_blocks m g)
  · refine (θ_run Cert.Reference3Ideal.defs _ _).mono (fun r h c => ⟨?_, ?_, ?_, ?_, ?_, ?_, (h c).2.2.2.2.2.2⟩)
      (Cert.Reference3Ideal.Value.run (F := Ideal) m' g')
    · refine ((h c).1.trans (Cert.Reference3Ideal.Read.val_main_v103_eq m' c)).trans ?_
      obtain ⟨e0, e1, e2, e3, e4, e5, e6, e7, e8, e9, e10, e11, e12⟩ := hm c
      rw [e0, e1, e2, e3, e4, e5, e6, e7, e11, e12]
      refine funext fun i => ?_
      rw [eq_ix3 i]
      exact Cert.Reference3Ideal.Rows.q_at _ _ _ _ _ _ _ _ _ _ _ _ _
    · refine ((h c).2.1.trans (Cert.Reference3Ideal.Read.val_main_v104_eq m' c)).trans ?_
      obtain ⟨e0, e1, e2, e3, e4, e5, e6, e7, e8, e9, e10, e11, e12⟩ := hm c
      rw [e0, e1, e2, e3, e4, e8, e9, e11, e12]
      refine funext fun i => ?_
      rw [eq_ix3 i]
      exact Cert.Reference3Ideal.Rows.k_at _ _ _ _ _ _ _ _ _ _ _ _
    · refine ((h c).2.2.1.trans (Cert.Reference3Ideal.Read.val_main_v105_eq m' c)).trans ?_
      obtain ⟨e0, e1, e2, e3, e4, e5, e6, e7, e8, e9, e10, e11, e12⟩ := hm c
      rw [e0, e1, e2, e3, e4, e8, e10]
      refine funext fun i => ?_
      rw [eq_ix3 i]
      exact Cert.Reference3Ideal.Rows.v_at _ _ _ _ _ _ _ _ _ _
    · refine ((h c).2.2.2.1.trans (Cert.Reference3Ideal.Read.val_main_v106_eq m' c)).trans ?_
      obtain ⟨e0, e1, e2, e3, e4, e5, e6, e7, e8, e9, e10, e11, e12⟩ := hm c
      rw [e0, e1, e2, e3, e4]
      refine funext fun i => ?_
      rw [eq_ix3 i]
      exact Cert.Reference3Ideal.Rows.m_at _ _ _ _ _ _ _ _
    · refine ((h c).2.2.2.2.1.trans (Cert.Reference3Ideal.Read.val_main_v36_eq _ _ _ _ _)).trans ?_
      obtain ⟨e0, e1, e2, e3, e4, e5, e6, e7, e8, e9, e10, e11, e12⟩ := hm c
      rw [e0, e1, e2, e3, e4]
      refine funext fun i => ?_
      rw [eq_ix3 i]
      exact Cert.Reference3Ideal.Rows.x_at _ _ _ _ _ _ _ _
    · refine ((h c).2.2.2.2.2.1.trans (Cert.Reference3Ideal.Read.val_main_v107_eq m' c)).trans ?_
      obtain ⟨e0, e1, e2, e3, e4, e5, e6, e7, e8, e9, e10, e11, e12⟩ := hm c
      rw [e0, e1, e2, e3, e4]
      refine funext fun i => ?_
      rw [eq_ix3 i]
      exact Cert.Reference3Ideal.Rows.l_at _ _ _ _ _ _ _ _

end Cert.Proof
-- ==== Proof.K4.lean ====
/-
  The even layers' gated residual: what each tile's body leaves, in terms of the whole arrays.
-/
module

public import proofs.«01_k».proof.Proof.Gen.Kernel4Ideal.Value
public import proofs.«01_k».proof.Proof.Rows
public import Idealize.ShloMosaic.Lib.Pointwise

@[expose] public section

set_option maxRecDepth 16384

noncomputable section

open Idealize.ShloMosaic Idealize.ShloMosaic.TcCoe Idealize.SL.Sem Cert.Rows

namespace Cert.Kernel4Ideal.Final

open Cert.Kernel4Ideal Cert.Kernel4Ideal.Gen
open Idealize.ShloMosaic.Pipeline (Dat)

/-- The stream after the gated residual of the two mixers' halves. -/
def spec (x : X3 4 8448 1024) (mb : X3 4 1 3072) (mc : X3 1 1 3072) (o g q l : X3 4 8448 512) (w : X2 1024 1024) (b : Fin 4) (r : Fin 8448) (d : Fin 1024) : EReal :=
  x (ix3 b r d) + md mb mc 2048 (by omega) b r d *
    (gated (fun j d => w (ix2 ⟨j.val, by omega⟩ d)) (fun j : Fin 512 => o (ix3 b r j)) (fun j => g (ix3 b r j)) d
      + gated (fun j d => w (ix2 ⟨512 + j.val, by omega⟩ d)) (fun j : Fin 512 => q (ix3 b r j)) (fun j => l (ix3 b r j)) d)

theorem hz : (![0, 0, 0] : Fin 3 → Nat) = fun _ => 0 := by decide
theorem hz2 : (![0, 0] : Fin 2 → Nat) = fun _ => 0 := by decide

theorem ldmd (x1 : Vec Ideal S1x1x3072 .f32) (d : Fin 1024) : View.ld x1 r0_3 (ix3 0 0 d) = x1 (ix3 0 0 ⟨2048 + d.val, by omega⟩) := by
  rw [View.ld_unit]
  pointwise

theorem ldw1 (x7 : Vec Ideal S1024x1024 .bf16) (j : Fin 512) (d : Fin 1024) : View.ld x7 r0_1 (ix2 j d) = x7 (ix2 ⟨j.val, by omega⟩ d) := by
  rw [View.ld_unit]
  pointwise
theorem ldw2 (x7 : Vec Ideal S1024x1024 .bf16) (j : Fin 512) (d : Fin 1024) : View.ld x7 r0_2 (ix2 j d) = x7 (ix2 ⟨512 + j.val, by omega⟩ d) := by
  rw [View.ld_unit]
  pointwise

theorem pay1_at (v22 : FVec Ideal S768x1024 .f32) (v28 : IVec S768x1024 1) (v30 : FVec Ideal S768x1024 .f32) (v31 : FVec Ideal S1x1024 .f32) (v34 : Vec Ideal S1x768x1024 .f32) (r : Fin 768) (d : Fin 1024) :
    k0_pay1 (F := Ideal) v22 v28 v30 v31 v34 (ix3 0 r d) = v34 (ix3 0 r d) + Scalar.select (v28 (ix2 r d)) (v30 (ix2 r d)) (v31 (ix2 0 d)) * v22 (ix2 r d) := by
  unfold k0_pay1
  pointwise

theorem pay2_at (v6 v8 v12 v14 : Vec Ideal S1x768x512 .f32) (v18 v20 : Vec Ideal S512x1024 .bf16) (r : Fin 768) (d : Fin 1024) :
    k0_pay2 (F := Ideal) v6 v8 v12 v14 v18 v20 (ix2 r d)
      = (∑ j, v6 (ix3 0 r j) * v8 (ix3 0 r j) * v18 (ix2 j d)) + ∑ j, v12 (ix3 0 r j) * v14 (ix3 0 r j) * v20 (ix2 j d) := by
  unfold k0_pay2
  pointwise

theorem pay3_at (i : grid0.Coords) (r : Fin 768) (d : Fin 1024) :
    k0_pay3 i (ix2 r d) = IntOp.cmpi .sge (BitVec.ofNat 32 (768 * (i 1).val + r.val)) 8192#32 := by
  rw [← word_row 768 (i 1).val r.val]
  unfold k0_pay3
  pointwise
  rfl

theorem pay4_at (v : Vec Ideal S1x1x1024 .f32) (r : Fin 768) (d : Fin 1024) : k0_pay4 (F := Ideal) v (ix2 r d) = v (ix3 0 0 d) := by
  unfold k0_pay4
  pointwise

theorem pay5_at (v : Vec Ideal S1x1x1024 .f32) (d : Fin 1024) : k0_pay5 (F := Ideal) v (ix2 0 d) = v (ix3 0 0 d) := by
  unfold k0_pay5
  pointwise

section
variable (i : grid0.Coords) (x0 : Vec Ideal S1x768x1024 .f32) (x1 : Vec Ideal S1x1x3072 .f32) (x2 : Vec Ideal S1x1x3072 .f32) (x3 x4 x5 x6 : Vec Ideal S1x768x512 .f32) (x7 : Vec Ideal S1024x1024 .bf16)
  (x : X3 4 8448 1024) (mb : X3 4 1 3072) (mc : X3 1 1 3072) (o g q l : X3 4 8448 512) (w : X2 1024 1024) (b : Fin 4) (T : Nat) (hT : T < 11) (hi : (i 1).val = T)
  (hx0 : ∀ (r : Fin 768) (d : Fin 1024), x0 (ix3 0 r d) = x (ix3 b ⟨768 * T + r.val, by omega⟩ d))
  (hx1 : ∀ d : Fin 3072, x1 (ix3 0 0 d) = mb (ix3 b 0 d))
  (hx2 : ∀ (u : Fin 1) (v : Fin 1) (d : Fin 3072), x2 (ix3 u v d) = mc (ix3 u v d))
  (hx3 : ∀ (r : Fin 768) (d : Fin 512), x3 (ix3 0 r d) = o (ix3 b ⟨768 * T + r.val, by omega⟩ d))
  (hx4 : ∀ (r : Fin 768) (d : Fin 512), x4 (ix3 0 r d) = g (ix3 b ⟨768 * T + r.val, by omega⟩ d))
  (hx5 : ∀ (r : Fin 768) (d : Fin 512), x5 (ix3 0 r d) = q (ix3 b ⟨768 * T + r.val, by omega⟩ d))
  (hx6 : ∀ (r : Fin 768) (d : Fin 512), x6 (ix3 0 r d) = l (ix3 b ⟨768 * T + r.val, by omega⟩ d))
  (hx7 : ∀ (d : Fin 1024) (o : Fin 1024), x7 (ix2 d o) = w (ix2 d o))

include hi hx0 hx1 hx2 hx3 hx4 hx5 hx6 hx7 in
theorem out8_at (r : Fin 768) (d : Fin 1024) :
    out0_8 (F := Ideal) i x0 x1 x2 x3 x4 x5 x6 x7 (ix3 0 r d) = spec x mb mc o g q l w b ⟨768 * T + r.val, by omega⟩ d := by
  have e0 : View.ld x0 r0_4 = x0 := View.ld_unit_zero hz _ x0
  have e3 : View.ld x3 r0_0 = x3 := View.ld_unit_zero hz _ x3
  have e4 : View.ld x4 r0_0 = x4 := View.ld_unit_zero hz _ x4
  have e5 : View.ld x5 r0_0 = x5 := View.ld_unit_zero hz _ x5
  have e6 : View.ld x6 r0_0 = x6 := View.ld_unit_zero hz _ x6
  unfold out0_8
  rw [View.canon_unit_zero hz, pay1_at, pay2_at, pay3_at, pay4_at, pay5_at, ldmd, ldmd, e0, e3, e4, e5, e6, hx1, hx2, hi, hx0]
  simp only [hx3, hx4, hx5, hx6]
  unfold spec
  refine congrArg (fun s => _ + _ * s) (congrArg₂ (· + ·) (Finset.sum_congr rfl fun j _ => ?_) (Finset.sum_congr rfl fun j _ => ?_))
  · exact congrArg _ ((ldw1 x7 j d).trans (hx7 _ _))
  · exact congrArg _ ((ldw2 x7 j d).trans (hx7 _ _))

end

variable (m : (ℓ : Loc nD τ sig) → Buf (Elt Ideal) ℓ)

theorem coords1 : ∀ t : Fin cfg0.N, (grid0.coords t 1).val = t.val % 11 := by decide +kernel

theorem lt_N (t : Fin cfg0.N) : t.val < 44 := lt_of_lt_of_eq t.isLt N_0

/-- The sample and the row of row `r` of point `t`'s tile. -/
abbrev bOf (t : Fin cfg0.N) : Fin 4 := ⟨t.val / 11, by have := lt_N t; omega⟩
abbrev rOf (t : Fin cfg0.N) (r : Fin 768) : Fin 8448 := ⟨768 * (t.val % 11) + r.val, by omega⟩

abbrev a0 (c : Dev nD) : X3 4 8448 1024 := m ((c : Thread nD τ).loc main_arg0)
abbrev a1 (c : Dev nD) : X3 4 1 3072 := m ((c : Thread nD τ).loc main_arg1)
abbrev a2 (c : Dev nD) : X3 1 1 3072 := m ((c : Thread nD τ).loc main_arg2)
abbrev a3 (c : Dev nD) : X3 4 8448 512 := m ((c : Thread nD τ).loc main_arg3)
abbrev a4 (c : Dev nD) : X3 4 8448 512 := m ((c : Thread nD τ).loc main_arg4)
abbrev a5 (c : Dev nD) : X3 4 8448 512 := m ((c : Thread nD τ).loc main_arg5)
abbrev a6 (c : Dev nD) : X3 4 8448 512 := m ((c : Thread nD τ).loc main_arg6)
abbrev a7 (c : Dev nD) : X2 1024 1024 := m ((c : Thread nD τ).loc main_arg7)

theorem index0 : ∀ t : Fin cfg0.N, win0_0.index t = ![t.val / 11, t.val % 11, 0] := by decide +kernel

theorem x0_apply (c : Dev nD) (t : Fin cfg0.N) (r : Fin 768) (d : Fin 1024) : (iblk m c 0 t : S1x768x1024.Idx → EReal) (ix3 0 r d) = a0 m c (ix3 (bOf t) (rOf t r) d) := by
  unfold iblk
  rw [View.read_apply]
  show V m c main_arg0 _ = m (c.tc.loc main_arg0) _
  unfold V
  congr 1
  have i0 : win0_0.index t 0 = t.val / 11 := congrFun (index0 t) 0
  have i1 : win0_0.index t 1 = t.val % 11 := congrFun (index0 t) 1
  have i2 : win0_0.index t 2 = 0 := congrFun (index0 t) 2
  funext a
  apply Fin.ext
  match a with
  | ⟨0, _⟩ => show win0_0.index t 0 * 1 + 1 * 0 = t.val / 11; omega
  | ⟨1, _⟩ => show win0_0.index t 1 * 768 + 1 * r.val = 768 * (t.val % 11) + r.val; omega
  | ⟨2, _⟩ => show win0_0.index t 2 * 1024 + 1 * d.val = d.val; omega

theorem index1 : ∀ t : Fin cfg0.N, win0_1.index t = ![t.val / 11, 0, 0] := by decide +kernel

theorem x1_apply (c : Dev nD) (t : Fin cfg0.N) (d : Fin 3072) : (iblk m c 1 t : S1x1x3072.Idx → EReal) (ix3 0 0 d) = a1 m c (ix3 (bOf t) 0 d) := by
  unfold iblk
  rw [View.read_apply]
  show V m c main_arg1 _ = m (c.tc.loc main_arg1) _
  unfold V
  congr 1
  have i0 : win0_1.index t 0 = t.val / 11 := congrFun (index1 t) 0
  have i1 : win0_1.index t 1 = 0 := congrFun (index1 t) 1
  have i2 : win0_1.index t 2 = 0 := congrFun (index1 t) 2
  funext a
  apply Fin.ext
  match a with
  | ⟨0, _⟩ => show win0_1.index t 0 * 1 + 1 * 0 = t.val / 11; omega
  | ⟨1, _⟩ => show win0_1.index t 1 * 1 + 1 * 0 = 0; omega
  | ⟨2, _⟩ => show win0_1.index t 2 * 3072 + 1 * d.val = d.val; omega

theorem index2 : ∀ t : Fin cfg0.N, win0_2.index t = ![0, 0, 0] := by decide +kernel

theorem x2_apply (c : Dev nD) (t : Fin cfg0.N) (x : Fin 1) (y : Fin 1) (z : Fin 3072) : (iblk m c 2 t : S1x1x3072.Idx → EReal) (ix3 x y z) = a2 m c (ix3 x y z) := by
  unfold iblk
  rw [View.read_apply]
  show V m c main_arg2 _ = m (c.tc.loc main_arg2) _
  unfold V
  congr 1
  have i0 : win0_2.index t 0 = 0 := congrFun (index2 t) 0
  have i1 : win0_2.index t 1 = 0 := congrFun (index2 t) 1
  have i2 : win0_2.index t 2 = 0 := congrFun (index2 t) 2
  funext a
  apply Fin.ext
  match a with
  | ⟨0, _⟩ => show win0_2.index t 0 * 1 + 1 * x.val = x.val; omega
  | ⟨1, _⟩ => show win0_2.index t 1 * 1 + 1 * y.val = y.val; omega
  | ⟨2, _⟩ => show win0_2.index t 2 * 3072 + 1 * z.val = z.val; omega

theorem index3 : ∀ t : Fin cfg0.N, win0_3.index t = ![t.val / 11, t.val % 11, 0] := by decide +kernel

theorem x3_apply (c : Dev nD) (t : Fin cfg0.N) (r : Fin 768) (d : Fin 512) : (iblk m c 3 t : S1x768x512.Idx → EReal) (ix3 0 r d) = a3 m c (ix3 (bOf t) (rOf t r) d) := by
  unfold iblk
  rw [View.read_apply]
  show V m c main_arg3 _ = m (c.tc.loc main_arg3) _
  unfold V
  congr 1
  have i0 : win0_3.index t 0 = t.val / 11 := congrFun (index3 t) 0
  have i1 : win0_3.index t 1 = t.val % 11 := congrFun (index3 t) 1
  have i2 : win0_3.index t 2 = 0 := congrFun (index3 t) 2
  funext a
  apply Fin.ext
  match a with
  | ⟨0, _⟩ => show win0_3.index t 0 * 1 + 1 * 0 = t.val / 11; omega
  | ⟨1, _⟩ => show win0_3.index t 1 * 768 + 1 * r.val = 768 * (t.val % 11) + r.val; omega
  | ⟨2, _⟩ => show win0_3.index t 2 * 512 + 1 * d.val = d.val; omega

theorem index4 : ∀ t : Fin cfg0.N, win0_4.index t = ![t.val / 11, t.val % 11, 0] := by decide +kernel

theorem x4_apply (c : Dev nD) (t : Fin cfg0.N) (r : Fin 768) (d : Fin 512) : (iblk m c 4 t : S1x768x512.Idx → EReal) (ix3 0 r d) = a4 m c (ix3 (bOf t) (rOf t r) d) := by
  unfold iblk
  rw [View.read_apply]
  show V m c main_arg4 _ = m (c.tc.loc main_arg4) _
  unfold V
  congr 1
  have i0 : win0_4.index t 0 = t.val / 11 := congrFun (index4 t) 0
  have i1 : win0_4.index t 1 = t.val % 11 := congrFun (index4 t) 1
  have i2 : win0_4.index t 2 = 0 := congrFun (index4 t) 2
  funext a
  apply Fin.ext
  match a with
  | ⟨0, _⟩ => show win0_4.index t 0 * 1 + 1 * 0 = t.val / 11; omega
  | ⟨1, _⟩ => show win0_4.index t 1 * 768 + 1 * r.val = 768 * (t.val % 11) + r.val; omega
  | ⟨2, _⟩ => show win0_4.index t 2 * 512 + 1 * d.val = d.val; omega

theorem index5 : ∀ t : Fin cfg0.N, win0_5.index t = ![t.val / 11, t.val % 11, 0] := by decide +kernel

theorem x5_apply (c : Dev nD) (t : Fin cfg0.N) (r : Fin 768) (d : Fin 512) : (iblk m c 5 t : S1x768x512.Idx → EReal) (ix3 0 r d) = a5 m c (ix3 (bOf t) (rOf t r) d) := by
  unfold iblk
  rw [View.read_apply]
  show V m c main_arg5 _ = m (c.tc.loc main_arg5) _
  unfold V
  congr 1
  have i0 : win0_5.index t 0 = t.val / 11 := congrFun (index5 t) 0
  have i1 : win0_5.index t 1 = t.val % 11 := congrFun (index5 t) 1
  have i2 : win0_5.index t 2 = 0 := congrFun (index5 t) 2
  funext a
  apply Fin.ext
  match a with
  | ⟨0, _⟩ => show win0_5.index t 0 * 1 + 1 * 0 = t.val / 11; omega
  | ⟨1, _⟩ => show win0_5.index t 1 * 768 + 1 * r.val = 768 * (t.val % 11) + r.val; omega
  | ⟨2, _⟩ => show win0_5.index t 2 * 512 + 1 * d.val = d.val; omega

theorem index6 : ∀ t : Fin cfg0.N, win0_6.index t = ![t.val / 11, t.val % 11, 0] := by decide +kernel

theorem x6_apply (c : Dev nD) (t : Fin cfg0.N) (r : Fin 768) (d : Fin 512) : (iblk m c 6 t : S1x768x512.Idx → EReal) (ix3 0 r d) = a6 m c (ix3 (bOf t) (rOf t r) d) := by
  unfold iblk
  rw [View.read_apply]
  show V m c main_arg6 _ = m (c.tc.loc main_arg6) _
  unfold V
  congr 1
  have i0 : win0_6.index t 0 = t.val / 11 := congrFun (index6 t) 0
  have i1 : win0_6.index t 1 = t.val % 11 := congrFun (index6 t) 1
  have i2 : win0_6.index t 2 = 0 := congrFun (index6 t) 2
  funext a
  apply Fin.ext
  match a with
  | ⟨0, _⟩ => show win0_6.index t 0 * 1 + 1 * 0 = t.val / 11; omega
  | ⟨1, _⟩ => show win0_6.index t 1 * 768 + 1 * r.val = 768 * (t.val % 11) + r.val; omega
  | ⟨2, _⟩ => show win0_6.index t 2 * 512 + 1 * d.val = d.val; omega

theorem index7 : ∀ t : Fin cfg0.N, win0_7.index t = ![0, 0] := by decide +kernel

theorem x7_apply (c : Dev nD) (t : Fin cfg0.N) (x : Fin 1024) (y : Fin 1024) : (iblk m c 7 t : S1024x1024.Idx → EReal) (ix2 x y) = a7 m c (ix2 x y) := by
  unfold iblk
  rw [View.read_apply]
  show V m c main_arg7 _ = m (c.tc.loc main_arg7) _
  unfold V
  congr 1
  have i0 : win0_7.index t 0 = 0 := congrFun (index7 t) 0
  have i1 : win0_7.index t 1 = 0 := congrFun (index7 t) 1
  funext a
  apply Fin.ext
  match a with
  | ⟨0, _⟩ => show win0_7.index t 0 * 1024 + 1 * x.val = x.val; omega
  | ⟨1, _⟩ => show win0_7.index t 1 * 1024 + 1 * y.val = y.val; omega

theorem index8 : ∀ t : Fin cfg0.N, win0_8.index t = ![t.val / 11, t.val % 11, 0] := by decide +kernel
theorem xsize8 : ∀ t : Fin cfg0.N, ∀ a, win0_8.xsize (grid0.coords t) a = S1x768x1024.size a := by decide +kernel

/-- Result 0 as a whole array. -/
abbrev G8 (c : Dev nD) : X3 4 8448 1024 := fun i => spec (a0 m c) (a1 m c) (a2 m c) (a3 m c) (a4 m c) (a5 m c) (a6 m c) (a7 m c) (i 0) (i 1) (i 2)

/-- What point `t` writes back is its block of it. -/
theorem flushed_eq8 (c : Dev nD) (t : Fin cfg0.N) :
    (dats m 0 c).flushed 8 t = ((cfg0.win 8).blk t).view.read (Elt Ideal) (G8 m c) := by
  rw [Value.flushed8]
  funext y
  have h0 : (y 0).val < 1 := lt_of_lt_of_eq (y 0).isLt (xsize8 t 0)
  have h1 : (y 1).val < 768 := lt_of_lt_of_eq (y 1).isLt (xsize8 t 1)
  have h2 : (y 2).val < 1024 := lt_of_lt_of_eq (y 2).isLt (xsize8 t 2)
  have i0 : win0_8.index t 0 = t.val / 11 := congrFun (index8 t) 0
  have i1 : win0_8.index t 1 = t.val % 11 := congrFun (index8 t) 1
  have i2 : win0_8.index t 2 = 0 := congrFun (index8 t) 2
  have e : ((cfg0.win 8).blk t).view.emb y = (ix3 (bOf t) (rOf t ⟨(y 1).val, h1⟩) (⟨(y 2).val, h2⟩ : Fin 1024) : (⟨3, ![4, 8448, 1024]⟩ : Shape).Idx) := by
    funext a
    apply Fin.ext
    match a with
    | ⟨0, _⟩ => show win0_8.index t 0 * 1 + 1 * (y 0).val = t.val / 11; omega
    | ⟨1, _⟩ => show win0_8.index t 1 * 768 + 1 * (y 1).val = 768 * (t.val % 11) + (y 1).val; omega
    | ⟨2, _⟩ => show win0_8.index t 2 * 1024 + 1 * (y 2).val = (y 2).val; omega
  rw [View.read_apply]
  show _ = G8 m c (((cfg0.win 8).blk t).view.emb y)
  rw [e]
  have ey : ∀ X : S1x768x1024.Idx → EReal, (cfg0.win 8).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out8_at (grid0.coords t) _ _ _ _ _ _ _ _ (a0 m c) (a1 m c) (a2 m c) (a3 m c) (a4 m c) (a5 m c) (a6 m c) (a7 m c) (bOf t) (t.val % 11) (by omega) (coords1 t)
    (fun r d => x0_apply m c t r d) (fun d => x1_apply m c t d) (fun x y z => x2_apply m c t x y z) (fun r d => x3_apply m c t r d) (fun r d => x4_apply m c t r d) (fun r d => x5_apply m c t r d) (fun r d => x6_apply m c t r d) (fun x y => x7_apply m c t x y) ⟨(y 1).val, h1⟩ ⟨(y 2).val, h2⟩

theorem final_eq8 (c : Dev nD) : (dats m 0 c).arrAt 8 cfg0.N = G8 m c := by
  refine funext fun (i : (⟨3, ![4, 8448, 1024]⟩ : Shape).Idx) => ((dats m 0 c).arrAt_eq_piecewise 8 (G8 m c) (fun t _ => flushed_eq8 m c t) i).trans (if_pos ?_)
  have b0 : (i 0).val < 4 := (i 0).isLt
  have b1 : (i 1).val < 8448 := (i 1).isLt
  have b2 : (i 2).val < 1024 := (i 2).isLt
  have hN : cfg0.N = 44 := N_0
  refine ⟨⟨11 * (i 0).val + (i 1).val / 768, by omega⟩, flush0_8 _, ?_⟩
  generalize ht : (⟨11 * (i 0).val + (i 1).val / 768, by omega⟩ : Fin cfg0.N) = t
  have htv : t.val = 11 * (i 0).val + (i 1).val / 768 := by rw [← ht]
  show i ∈ ((View.whole main_v0).slice (win0_8.rect t)).set
  rw [View.set_slice_whole, Rect.mem_set_unit]
  have i0 : win0_8.index t 0 = t.val / 11 := congrFun (index8 t) 0
  have i1 : win0_8.index t 1 = t.val % 11 := congrFun (index8 t) 1
  have i2 : win0_8.index t 2 = 0 := congrFun (index8 t) 2
  have s0 : win0_8.xsize (grid0.coords t) 0 = 1 := xsize8 t 0
  have s1 : win0_8.xsize (grid0.coords t) 1 = 768 := xsize8 t 1
  have s2 : win0_8.xsize (grid0.coords t) 2 = 1024 := xsize8 t 2
  intro a
  match a with
  | ⟨0, _⟩ => show win0_8.index t 0 * 1 ≤ (i 0 : Nat) ∧ (i 0 : Nat) < win0_8.index t 0 * 1 + win0_8.xsize (grid0.coords t) 0; omega
  | ⟨1, _⟩ => show win0_8.index t 1 * 768 ≤ (i 1 : Nat) ∧ (i 1 : Nat) < win0_8.index t 1 * 768 + win0_8.xsize (grid0.coords t) 1; omega
  | ⟨2, _⟩ => show win0_8.index t 2 * 1024 ≤ (i 2 : Nat) ∧ (i 2 : Nat) < win0_8.index t 2 * 1024 + win0_8.xsize (grid0.coords t) 2; omega

end Cert.Kernel4Ideal.Final
-- ==== Proof.R4.lean ====
/-
  The even layers' gated residual: the reference's value, row by row.
-/
module

public import proofs.«01_k».proof.Proof.Gen.Reference4Ideal.Read
public import proofs.«01_k».proof.Proof.K4

@[expose] public section

set_option maxRecDepth 16384

noncomputable section

open Idealize.ShloMosaic Idealize.ShloMosaic.TcCoe Idealize.SL.Sem Cert.Rows

namespace Cert.Reference4Ideal.Rows

open Cert.Reference4Ideal Cert.Reference4Ideal.Gen Cert.Reference4Ideal.Read Cert.Kernel4Ideal.Final

section
variable (x0 : X3 4 8448 1024) (x1 : X3 4 1 3072) (x2 : X3 1 1 3072) (x3 x4 x5 x6 : X3 4 8448 512) (x7 : X2 1024 1024) (b : Fin 4) (r : Fin 8448)

theorem scale_at (d : Fin 1024) : val_main_v10 (F := Ideal) x1 x2 (ix3 b r d) = md x1 x2 2048 (by omega) b r d := by
  unfold val_main_v10 val_main_v7 val_main_v5 val_main_v6 val_main_c val_main_call0_v0 val_main_v8 val_main_call0_v1 val_main_v9
  unfold md sel
  pointwise

theorem cat_lo (j : Fin 512) : val_main_v2 (F := Ideal) x3 x4 x5 x6 (ix3 b r (Fin.castAdd 512 j)) = x3 (ix3 b r j) * x4 (ix3 b r j) := by
  unfold val_main_v2 val_main_v0 val_main_v1
  pointwise
  exact dif_pos j.isLt

theorem cat_hi (j : Fin 512) : val_main_v2 (F := Ideal) x3 x4 x5 x6 (ix3 b r (Fin.natAdd 512 j)) = x5 (ix3 b r j) * x6 (ix3 b r j) := by
  unfold val_main_v2 val_main_v0 val_main_v1
  pointwise
  have e : (⟨(Fin.natAdd 512 j).val - 512, by simp⟩ : Fin 512) = j := Fin.ext (by simp)
  rw [dif_neg (by simp), e]

theorem dot_at (d : Fin 1024) : val_main_v4 (F := Ideal) x3 x4 x5 x6 x7 (ix3 b r d)
    = gated (fun j d => x7 (ix2 ⟨j.val, by omega⟩ d)) (fun j : Fin 512 => x3 (ix3 b r j)) (fun j => x4 (ix3 b r j)) d
      + gated (fun j d => x7 (ix2 ⟨512 + j.val, by omega⟩ d)) (fun j : Fin 512 => x5 (ix3 b r j)) (fun j => x6 (ix3 b r j)) d := by
  have e : val_main_v4 (F := Ideal) x3 x4 x5 x6 x7 (ix3 b r d) = ∑ j : Fin (512 + 512), val_main_v2 (F := Ideal) x3 x4 x5 x6 (ix3 b r j) * x7 (ix2 j d) := by
    unfold val_main_v4 val_main_v3
    generalize val_main_v2 (F := Ideal) x3 x4 x5 x6 = y
    pointwise
  rw [e, Fin.sum_univ_add]
  unfold gated
  refine congrArg₂ (· + ·) (Finset.sum_congr rfl fun j _ => ?_) (Finset.sum_congr rfl fun j _ => ?_)
  · rw [cat_lo]; rfl
  · rw [cat_hi]; rfl

theorem out_at (d : Fin 1024) : val_main_v12 (F := Ideal) x0 x1 x2 x3 x4 x5 x6 x7 (ix3 b r d) = spec x0 x1 x2 x3 x4 x5 x6 x7 b r d := by
  unfold spec
  rw [← scale_at, ← dot_at]
  unfold val_main_v12 val_main_v11
  generalize val_main_v4 (F := Ideal) x3 x4 x5 x6 x7 = y1
  generalize val_main_v10 (F := Ideal) x1 x2 = y2
  pointwise

end
end Cert.Reference4Ideal.Rows
-- ==== Proof.C4.lean ====
/-
  The claims of the even layers' gated residual.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.R4

@[expose] public section

set_option maxRecDepth 16384

noncomputable section

open Idealize.ShloMosaic Idealize.ShloMosaic.TcCoe Idealize.SL.Sem Cert.Rows

namespace Cert.Proof

/-- A finished device, its semaphores at zero and its arguments kept: the translated program and the idealized one. -/
theorem quiescent_kernel4 : Cert.quiescent_Kernel4 := fun m ρ _ => Cert.Kernel4.Gen.frame m ρ
theorem quiescent_kernel4Ideal : Cert.quiescent_Kernel4Ideal := fun m ρ _ => Cert.Kernel4Ideal.Gen.frame m ρ
theorem quiescent_reference4Ideal : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run (F := Ideal) m ρ)

theorem algebraic4 : Cert.algebraic_Kernel4Ideal_Reference4Ideal := by
  intro m g m' g' _ hm
  refine ⟨fun c => Cert.Kernel4Ideal.Final.G8 m c, ?_, ?_⟩
  · exact (θ_run Cert.Kernel4Ideal.defs _ _).mono
      (fun r h c => ⟨(h c).1.trans (Cert.Kernel4Ideal.Final.final_eq8 m c), (h c).2⟩)
      (Cert.Kernel4Ideal.Value.run_blocks m g)
  · refine (θ_run Cert.Reference4Ideal.defs _ _).mono (fun r h c => ⟨?_, (h c).2⟩)
      (Cert.Reference4Ideal.Value.run (F := Ideal) m' g')
    · refine ((h c).1.trans (Cert.Reference4Ideal.Read.val_main_v12_eq _ _ _ _ _ _ _ _)).trans ?_
      obtain ⟨e0, e1, e2, e3, e4, e5, e6, e7⟩ := hm c
      rw [e0, e1, e2, e3, e4, e5, e6, e7]
      refine funext fun i => ?_
      rw [eq_ix3 i]
      exact Cert.Reference4Ideal.Rows.out_at _ _ _ _ _ _ _ _ _ _ _

end Cert.Proof
-- ==== Proof.K5.lean ====
/-
  The odd layers' gated residual: what each tile's body leaves, in terms of the whole arrays.
-/
module

public import proofs.«01_k».proof.Proof.Gen.Kernel5Ideal.Value
public import proofs.«01_k».proof.Proof.Rows
public import Idealize.ShloMosaic.Lib.Pointwise

@[expose] public section

set_option maxRecDepth 16384

noncomputable section

open Idealize.ShloMosaic Idealize.ShloMosaic.TcCoe Idealize.SL.Sem Cert.Rows

namespace Cert.Kernel5Ideal.Final

open Cert.Kernel5Ideal Cert.Kernel5Ideal.Gen
open Idealize.ShloMosaic.Pipeline (Dat)

/-- The stream after the gated residual. -/
def spec (x : X3 4 8448 1024) (mb : X3 4 1 3072) (mc : X3 1 1 3072) (o g : X3 4 8448 1024) (w : X2 1024 1024) (b : Fin 4) (r : Fin 8448) (d : Fin 1024) : EReal :=
  x (ix3 b r d) + md mb mc 2048 (by omega) b r d * gated (fun j d => w (ix2 j d)) (fun j => o (ix3 b r j)) (fun j => g (ix3 b r j)) d

theorem hz : (![0, 0, 0] : Fin 3 → Nat) = fun _ => 0 := by decide
theorem hz2 : (![0, 0] : Fin 2 → Nat) = fun _ => 0 := by decide

theorem ldmd (x1 : Vec Ideal S1x1x3072 .f32) (d : Fin 1024) : View.ld x1 r0_2 (ix3 0 0 d) = x1 (ix3 0 0 ⟨2048 + d.val, by omega⟩) := by
  rw [View.ld_unit]
  pointwise

theorem pay1_at (i : grid0.Coords) (v6 v8 : Vec Ideal S1x768x1024 .f32) (v12 : Vec Ideal S1024x1024 .bf16) (v14 v16 : Vec Ideal S1x1x1024 .f32) (v25 : Vec Ideal S1x768x1024 .f32) (r : Fin 768) (d : Fin 1024) :
    k0_pay1 (F := Ideal) i v6 v8 v12 v14 v16 v25 (ix3 0 r d)
      = v25 (ix3 0 r d) + sel (768 * (i 1).val + r.val) (v14 (ix3 0 0 d)) (v16 (ix3 0 0 d)) * gated (fun j d => v12 (ix2 j d)) (fun j => v6 (ix3 0 r j)) (fun j => v8 (ix3 0 r j)) d := by
  unfold sel gated
  rw [← word_row 768 (i 1).val r.val]
  unfold k0_pay1
  pointwise
  rfl

section
variable (i : grid0.Coords) (x0 : Vec Ideal S1x768x1024 .f32) (x1 : Vec Ideal S1x1x3072 .f32) (x2 : Vec Ideal S1x1x3072 .f32) (x3 x4 : Vec Ideal S1x768x1024 .f32) (x5 : Vec Ideal S1024x1024 .bf16) (x6 : Vec Ideal S1x1024 .f32)
  (x : X3 4 8448 1024) (mb : X3 4 1 3072) (mc : X3 1 1 3072) (o g : X3 4 8448 1024) (w : X2 1024 1024) (b : Fin 4) (T : Nat) (hT : T < 11) (hi : (i 1).val = T)
  (hx0 : ∀ (r : Fin 768) (d : Fin 1024), x0 (ix3 0 r d) = x (ix3 b ⟨768 * T + r.val, by omega⟩ d))
  (hx1 : ∀ d : Fin 3072, x1 (ix3 0 0 d) = mb (ix3 b 0 d))
  (hx2 : ∀ (u : Fin 1) (v : Fin 1) (d : Fin 3072), x2 (ix3 u v d) = mc (ix3 u v d))
  (hx3 : ∀ (r : Fin 768) (d : Fin 1024), x3 (ix3 0 r d) = o (ix3 b ⟨768 * T + r.val, by omega⟩ d))
  (hx4 : ∀ (r : Fin 768) (d : Fin 1024), x4 (ix3 0 r d) = g (ix3 b ⟨768 * T + r.val, by omega⟩ d))
  (hx5 : ∀ (d : Fin 1024) (o : Fin 1024), x5 (ix2 d o) = w (ix2 d o))

include hi hx0 hx1 hx2 hx3 hx4 hx5 in
theorem out7_at (r : Fin 768) (d : Fin 1024) :
    out0_7 (F := Ideal) i x0 x1 x2 x3 x4 x5 x6 (ix3 0 r d) = spec x mb mc o g w b ⟨768 * T + r.val, by omega⟩ d := by
  have e0 : View.ld x0 r0_0 = x0 := View.ld_unit_zero hz _ x0
  have e3 : View.ld x3 r0_0 = x3 := View.ld_unit_zero hz _ x3
  have e4 : View.ld x4 r0_0 = x4 := View.ld_unit_zero hz _ x4
  have e5 : View.ld x5 r0_1 = x5 := View.ld_unit_zero hz2 _ x5
  have e6 : x5 = w := by funext j; rw [eq_ix2 j]; exact hx5 _ _
  unfold out0_7
  rw [View.canon_unit_zero hz, pay1_at, ldmd, ldmd, e0, e3, e4, e5, hx1, hx2, hi, hx0, e6]
  simp only [hx3, hx4]
  rfl

end

variable (m : (ℓ : Loc nD τ sig) → Buf (Elt Ideal) ℓ)

theorem coords1 : ∀ t : Fin cfg0.N, (grid0.coords t 1).val = t.val % 11 := by decide +kernel

theorem lt_N (t : Fin cfg0.N) : t.val < 44 := lt_of_lt_of_eq t.isLt N_0

/-- The sample and the row of row `r` of point `t`'s tile. -/
abbrev bOf (t : Fin cfg0.N) : Fin 4 := ⟨t.val / 11, by have := lt_N t; omega⟩
abbrev rOf (t : Fin cfg0.N) (r : Fin 768) : Fin 8448 := ⟨768 * (t.val % 11) + r.val, by omega⟩

abbrev a0 (c : Dev nD) : X3 4 8448 1024 := m ((c : Thread nD τ).loc main_arg0)
abbrev a1 (c : Dev nD) : X3 4 1 3072 := m ((c : Thread nD τ).loc main_arg1)
abbrev a2 (c : Dev nD) : X3 1 1 3072 := m ((c : Thread nD τ).loc main_arg2)
abbrev a3 (c : Dev nD) : X3 4 8448 1024 := m ((c : Thread nD τ).loc main_arg3)
abbrev a4 (c : Dev nD) : X3 4 8448 1024 := m ((c : Thread nD τ).loc main_arg4)
abbrev a5 (c : Dev nD) : X2 1024 1024 := m ((c : Thread nD τ).loc main_arg5)
abbrev a6 (c : Dev nD) : X2 1 1024 := m ((c : Thread nD τ).loc main_arg6)

theorem index0 : ∀ t : Fin cfg0.N, win0_0.index t = ![t.val / 11, t.val % 11, 0] := by decide +kernel

theorem x0_apply (c : Dev nD) (t : Fin cfg0.N) (r : Fin 768) (d : Fin 1024) : (iblk m c 0 t : S1x768x1024.Idx → EReal) (ix3 0 r d) = a0 m c (ix3 (bOf t) (rOf t r) d) := by
  unfold iblk
  rw [View.read_apply]
  show V m c main_arg0 _ = m (c.tc.loc main_arg0) _
  unfold V
  congr 1
  have i0 : win0_0.index t 0 = t.val / 11 := congrFun (index0 t) 0
  have i1 : win0_0.index t 1 = t.val % 11 := congrFun (index0 t) 1
  have i2 : win0_0.index t 2 = 0 := congrFun (index0 t) 2
  funext a
  apply Fin.ext
  match a with
  | ⟨0, _⟩ => show win0_0.index t 0 * 1 + 1 * 0 = t.val / 11; omega
  | ⟨1, _⟩ => show win0_0.index t 1 * 768 + 1 * r.val = 768 * (t.val % 11) + r.val; omega
  | ⟨2, _⟩ => show win0_0.index t 2 * 1024 + 1 * d.val = d.val; omega

theorem index1 : ∀ t : Fin cfg0.N, win0_1.index t = ![t.val / 11, 0, 0] := by decide +kernel

theorem x1_apply (c : Dev nD) (t : Fin cfg0.N) (d : Fin 3072) : (iblk m c 1 t : S1x1x3072.Idx → EReal) (ix3 0 0 d) = a1 m c (ix3 (bOf t) 0 d) := by
  unfold iblk
  rw [View.read_apply]
  show V m c main_arg1 _ = m (c.tc.loc main_arg1) _
  unfold V
  congr 1
  have i0 : win0_1.index t 0 = t.val / 11 := congrFun (index1 t) 0
  have i1 : win0_1.index t 1 = 0 := congrFun (index1 t) 1
  have i2 : win0_1.index t 2 = 0 := congrFun (index1 t) 2
  funext a
  apply Fin.ext
  match a with
  | ⟨0, _⟩ => show win0_1.index t 0 * 1 + 1 * 0 = t.val / 11; omega
  | ⟨1, _⟩ => show win0_1.index t 1 * 1 + 1 * 0 = 0; omega
  | ⟨2, _⟩ => show win0_1.index t 2 * 3072 + 1 * d.val = d.val; omega

theorem index2 : ∀ t : Fin cfg0.N, win0_2.index t = ![0, 0, 0] := by decide +kernel

theorem x2_apply (c : Dev nD) (t : Fin cfg0.N) (x : Fin 1) (y : Fin 1) (z : Fin 3072) : (iblk m c 2 t : S1x1x3072.Idx → EReal) (ix3 x y z) = a2 m c (ix3 x y z) := by
  unfold iblk
  rw [View.read_apply]
  show V m c main_arg2 _ = m (c.tc.loc main_arg2) _
  unfold V
  congr 1
  have i0 : win0_2.index t 0 = 0 := congrFun (index2 t) 0
  have i1 : win0_2.index t 1 = 0 := congrFun (index2 t) 1
  have i2 : win0_2.index t 2 = 0 := congrFun (index2 t) 2
  funext a
  apply Fin.ext
  match a with
  | ⟨0, _⟩ => show win0_2.index t 0 * 1 + 1 * x.val = x.val; omega
  | ⟨1, _⟩ => show win0_2.index t 1 * 1 + 1 * y.val = y.val; omega
  | ⟨2, _⟩ => show win0_2.index t 2 * 3072 + 1 * z.val = z.val; omega

theorem index3 : ∀ t : Fin cfg0.N, win0_3.index t = ![t.val / 11, t.val % 11, 0] := by decide +kernel

theorem x3_apply (c : Dev nD) (t : Fin cfg0.N) (r : Fin 768) (d : Fin 1024) : (iblk m c 3 t : S1x768x1024.Idx → EReal) (ix3 0 r d) = a3 m c (ix3 (bOf t) (rOf t r) d) := by
  unfold iblk
  rw [View.read_apply]
  show V m c main_arg3 _ = m (c.tc.loc main_arg3) _
  unfold V
  congr 1
  have i0 : win0_3.index t 0 = t.val / 11 := congrFun (index3 t) 0
  have i1 : win0_3.index t 1 = t.val % 11 := congrFun (index3 t) 1
  have i2 : win0_3.index t 2 = 0 := congrFun (index3 t) 2
  funext a
  apply Fin.ext
  match a with
  | ⟨0, _⟩ => show win0_3.index t 0 * 1 + 1 * 0 = t.val / 11; omega
  | ⟨1, _⟩ => show win0_3.index t 1 * 768 + 1 * r.val = 768 * (t.val % 11) + r.val; omega
  | ⟨2, _⟩ => show win0_3.index t 2 * 1024 + 1 * d.val = d.val; omega

theorem index4 : ∀ t : Fin cfg0.N, win0_4.index t = ![t.val / 11, t.val % 11, 0] := by decide +kernel

theorem x4_apply (c : Dev nD) (t : Fin cfg0.N) (r : Fin 768) (d : Fin 1024) : (iblk m c 4 t : S1x768x1024.Idx → EReal) (ix3 0 r d) = a4 m c (ix3 (bOf t) (rOf t r) d) := by
  unfold iblk
  rw [View.read_apply]
  show V m c main_arg4 _ = m (c.tc.loc main_arg4) _
  unfold V
  congr 1
  have i0 : win0_4.index t 0 = t.val / 11 := congrFun (index4 t) 0
  have i1 : win0_4.index t 1 = t.val % 11 := congrFun (index4 t) 1
  have i2 : win0_4.index t 2 = 0 := congrFun (index4 t) 2
  funext a
  apply Fin.ext
  match a with
  | ⟨0, _⟩ => show win0_4.index t 0 * 1 + 1 * 0 = t.val / 11; omega
  | ⟨1, _⟩ => show win0_4.index t 1 * 768 + 1 * r.val = 768 * (t.val % 11) + r.val; omega
  | ⟨2, _⟩ => show win0_4.index t 2 * 1024 + 1 * d.val = d.val; omega

theorem index5 : ∀ t : Fin cfg0.N, win0_5.index t = ![0, 0] := by decide +kernel

theorem x5_apply (c : Dev nD) (t : Fin cfg0.N) (x : Fin 1024) (y : Fin 1024) : (iblk m c 5 t : S1024x1024.Idx → EReal) (ix2 x y) = a5 m c (ix2 x y) := by
  unfold iblk
  rw [View.read_apply]
  show V m c main_arg5 _ = m (c.tc.loc main_arg5) _
  unfold V
  congr 1
  have i0 : win0_5.index t 0 = 0 := congrFun (index5 t) 0
  have i1 : win0_5.index t 1 = 0 := congrFun (index5 t) 1
  funext a
  apply Fin.ext
  match a with
  | ⟨0, _⟩ => show win0_5.index t 0 * 1024 + 1 * x.val = x.val; omega
  | ⟨1, _⟩ => show win0_5.index t 1 * 1024 + 1 * y.val = y.val; omega

theorem index6 : ∀ t : Fin cfg0.N, win0_6.index t = ![0, 0] := by decide +kernel

theorem x6_apply (c : Dev nD) (t : Fin cfg0.N) (x : Fin 1) (y : Fin 1024) : (iblk m c 6 t : S1x1024.Idx → EReal) (ix2 x y) = a6 m c (ix2 x y) := by
  unfold iblk
  rw [View.read_apply]
  show V m c main_arg6 _ = m (c.tc.loc main_arg6) _
  unfold V
  congr 1
  have i0 : win0_6.index t 0 = 0 := congrFun (index6 t) 0
  have i1 : win0_6.index t 1 = 0 := congrFun (index6 t) 1
  funext a
  apply Fin.ext
  match a with
  | ⟨0, _⟩ => show win0_6.index t 0 * 1 + 1 * x.val = x.val; omega
  | ⟨1, _⟩ => show win0_6.index t 1 * 1024 + 1 * y.val = y.val; omega

theorem index7 : ∀ t : Fin cfg0.N, win0_7.index t = ![t.val / 11, t.val % 11, 0] := by decide +kernel
theorem xsize7 : ∀ t : Fin cfg0.N, ∀ a, win0_7.xsize (grid0.coords t) a = S1x768x1024.size a := by decide +kernel

/-- Result 0 as a whole array. -/
abbrev G7 (c : Dev nD) : X3 4 8448 1024 := fun i => spec (a0 m c) (a1 m c) (a2 m c) (a3 m c) (a4 m c) (a5 m c) (i 0) (i 1) (i 2)

/-- What point `t` writes back is its block of it. -/
theorem flushed_eq7 (c : Dev nD) (t : Fin cfg0.N) :
    (dats m 0 c).flushed 7 t = ((cfg0.win 7).blk t).view.read (Elt Ideal) (G7 m c) := by
  rw [Value.flushed7]
  funext y
  have h0 : (y 0).val < 1 := lt_of_lt_of_eq (y 0).isLt (xsize7 t 0)
  have h1 : (y 1).val < 768 := lt_of_lt_of_eq (y 1).isLt (xsize7 t 1)
  have h2 : (y 2).val < 1024 := lt_of_lt_of_eq (y 2).isLt (xsize7 t 2)
  have i0 : win0_7.index t 0 = t.val / 11 := congrFun (index7 t) 0
  have i1 : win0_7.index t 1 = t.val % 11 := congrFun (index7 t) 1
  have i2 : win0_7.index t 2 = 0 := congrFun (index7 t) 2
  have e : ((cfg0.win 7).blk t).view.emb y = (ix3 (bOf t) (rOf t ⟨(y 1).val, h1⟩) (⟨(y 2).val, h2⟩ : Fin 1024) : (⟨3, ![4, 8448, 1024]⟩ : Shape).Idx) := by
    funext a
    apply Fin.ext
    match a with
    | ⟨0, _⟩ => show win0_7.index t 0 * 1 + 1 * (y 0).val = t.val / 11; omega
    | ⟨1, _⟩ => show win0_7.index t 1 * 768 + 1 * (y 1).val = 768 * (t.val % 11) + (y 1).val; omega
    | ⟨2, _⟩ => show win0_7.index t 2 * 1024 + 1 * (y 2).val = (y 2).val; omega
  rw [View.read_apply]
  show _ = G7 m c (((cfg0.win 7).blk t).view.emb y)
  rw [e]
  have ey : ∀ X : S1x768x1024.Idx → EReal, (cfg0.win 7).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out7_at (grid0.coords t) _ _ _ _ _ _ _ (a0 m c) (a1 m c) (a2 m c) (a3 m c) (a4 m c) (a5 m c) (bOf t) (t.val % 11) (by omega) (coords1 t)
    (fun r d => x0_apply m c t r d) (fun d => x1_apply m c t d) (fun x y z => x2_apply m c t x y z) (fun r d => x3_apply m c t r d) (fun r d => x4_apply m c t r d) (fun x y => x5_apply m c t x y) ⟨(y 1).val, h1⟩ ⟨(y 2).val, h2⟩

theorem final_eq7 (c : Dev nD) : (dats m 0 c).arrAt 7 cfg0.N = G7 m c := by
  refine funext fun (i : (⟨3, ![4, 8448, 1024]⟩ : Shape).Idx) => ((dats m 0 c).arrAt_eq_piecewise 7 (G7 m c) (fun t _ => flushed_eq7 m c t) i).trans (if_pos ?_)
  have b0 : (i 0).val < 4 := (i 0).isLt
  have b1 : (i 1).val < 8448 := (i 1).isLt
  have b2 : (i 2).val < 1024 := (i 2).isLt
  have hN : cfg0.N = 44 := N_0
  refine ⟨⟨11 * (i 0).val + (i 1).val / 768, by omega⟩, flush0_7 _, ?_⟩
  generalize ht : (⟨11 * (i 0).val + (i 1).val / 768, by omega⟩ : Fin cfg0.N) = t
  have htv : t.val = 11 * (i 0).val + (i 1).val / 768 := by rw [← ht]
  show i ∈ ((View.whole main_v0).slice (win0_7.rect t)).set
  rw [View.set_slice_whole, Rect.mem_set_unit]
  have i0 : win0_7.index t 0 = t.val / 11 := congrFun (index7 t) 0
  have i1 : win0_7.index t 1 = t.val % 11 := congrFun (index7 t) 1
  have i2 : win0_7.index t 2 = 0 := congrFun (index7 t) 2
  have s0 : win0_7.xsize (grid0.coords t) 0 = 1 := xsize7 t 0
  have s1 : win0_7.xsize (grid0.coords t) 1 = 768 := xsize7 t 1
  have s2 : win0_7.xsize (grid0.coords t) 2 = 1024 := xsize7 t 2
  intro a
  match a with
  | ⟨0, _⟩ => show win0_7.index t 0 * 1 ≤ (i 0 : Nat) ∧ (i 0 : Nat) < win0_7.index t 0 * 1 + win0_7.xsize (grid0.coords t) 0; omega
  | ⟨1, _⟩ => show win0_7.index t 1 * 768 ≤ (i 1 : Nat) ∧ (i 1 : Nat) < win0_7.index t 1 * 768 + win0_7.xsize (grid0.coords t) 1; omega
  | ⟨2, _⟩ => show win0_7.index t 2 * 1024 ≤ (i 2 : Nat) ∧ (i 2 : Nat) < win0_7.index t 2 * 1024 + win0_7.xsize (grid0.coords t) 2; omega

end Cert.Kernel5Ideal.Final
-- ==== Proof.R5.lean ====
/-
  The odd layers' gated residual: the reference's value, row by row.
-/
module

public import proofs.«01_k».proof.Proof.Gen.Reference5Ideal.Read
public import proofs.«01_k».proof.Proof.K5

@[expose] public section

set_option maxRecDepth 16384

noncomputable section

open Idealize.ShloMosaic Idealize.ShloMosaic.TcCoe Idealize.SL.Sem Cert.Rows

namespace Cert.Reference5Ideal.Rows

open Cert.Reference5Ideal Cert.Reference5Ideal.Gen Cert.Reference5Ideal.Read Cert.Kernel5Ideal.Final

section
variable (x0 : X3 4 8448 1024) (x1 : X3 4 1 3072) (x2 : X3 1 1 3072) (x3 x4 : X3 4 8448 1024) (x5 : X2 1024 1024) (b : Fin 4) (r : Fin 8448)

theorem scale_at (d : Fin 1024) : val_main_v5 (F := Ideal) x1 x2 (ix3 b r d) = md x1 x2 2048 (by omega) b r d := by
  unfold val_main_v5 val_main_v2 val_main_v0 val_main_v1 val_main_c val_main_call0_v0 val_main_v3 val_main_call0_v1 val_main_v4
  unfold md sel
  pointwise

theorem dot_at (d : Fin 1024) : val_main_v8 (F := Ideal) x3 x4 x5 (ix3 b r d) = gated (fun j d => x5 (ix2 j d)) (fun j => x3 (ix3 b r j)) (fun j => x4 (ix3 b r j)) d := by
  unfold val_main_v8 val_main_v6 val_main_v7
  unfold gated
  pointwise

theorem out_at (d : Fin 1024) : val_main_v10 (F := Ideal) x0 x1 x2 x3 x4 x5 (ix3 b r d) = spec x0 x1 x2 x3 x4 x5 b r d := by
  unfold spec
  rw [← scale_at, ← dot_at]
  unfold val_main_v10 val_main_v9
  generalize val_main_v5 (F := Ideal) x1 x2 = y1
  generalize val_main_v8 (F := Ideal) x3 x4 x5 = y2
  pointwise

end
end Cert.Reference5Ideal.Rows
-- ==== Proof.C5.lean ====
/-
  The claims of the odd layers' gated residual.
-/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.R5

@[expose] public section

set_option maxRecDepth 16384

noncomputable section

open Idealize.ShloMosaic Idealize.ShloMosaic.TcCoe Idealize.SL.Sem Cert.Rows

namespace Cert.Proof

/-- A finished device, its semaphores at zero and its arguments kept: the translated program and the idealized one. -/
theorem quiescent_kernel5 : Cert.quiescent_Kernel5 := fun m ρ _ => Cert.Kernel5.Gen.frame m ρ
theorem quiescent_kernel5Ideal : Cert.quiescent_Kernel5Ideal := fun m ρ _ => Cert.Kernel5Ideal.Gen.frame m ρ
theorem quiescent_reference5Ideal : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)

theorem algebraic5 : Cert.algebraic_Kernel5Ideal_Reference5Ideal := by
  intro m g m' g' _ hm
  refine ⟨fun c => Cert.Kernel5Ideal.Final.G7 m c, ?_, ?_⟩
  · exact (θ_run Cert.Kernel5Ideal.defs _ _).mono
      (fun r h c => ⟨(h c).1.trans (Cert.Kernel5Ideal.Final.final_eq7 m c), (h c).2⟩)
      (Cert.Kernel5Ideal.Value.run_blocks m g)
  · refine (θ_run Cert.Reference5Ideal.defs _ _).mono (fun r h c => ⟨?_, (h c).2⟩)
      (Cert.Reference5Ideal.Value.run (F := Ideal) m' g')
    · refine ((h c).1.trans (Cert.Reference5Ideal.Read.val_main_v10_eq _ _ _ _ _ _)).trans ?_
      obtain ⟨e0, e1, e2, e3, e4, e5, e6⟩ := hm c
      rw [e0, e1, e2, e3, e4, e5]
      refine funext fun i => ?_
      rw [eq_ix3 i]
      exact Cert.Reference5Ideal.Rows.out_at _ _ _ _ _ _ _ _ _

end Cert.Proof
-- ==== Proof.K6.lean ====
/-
  The last layer's gated residual and final norm: what each tile's body leaves, in terms of the whole arrays.
-/
module

public import proofs.«01_k».proof.Proof.Gen.Kernel6Ideal.Value
public import proofs.«01_k».proof.Proof.Rows
public import Idealize.ShloMosaic.Lib.Pointwise
public import Idealize.ShloMosaic.Lib.WholeRead

@[expose] public section

set_option maxRecDepth 16384

noncomputable section

open Idealize.ShloMosaic Idealize.ShloMosaic.TcCoe Idealize.SL.Sem Cert.Rows

namespace Cert.Kernel6Ideal.Final

open Cert.Kernel6Ideal Cert.Kernel6Ideal.Gen
open Idealize.ShloMosaic.Pipeline (Dat)

/-- A latent row of the stream after the gated residual. -/
def res (x : X3 4 8448 1024) (mb : X3 4 1 3072) (o : X3 4 8192 1024) (g : X3 4 8448 1024) (w : X2 1024 1024) (b : Fin 4) (r : Fin 8192) (d : Fin 1024) : EReal :=
  x (ix3 b ⟨r.val, by omega⟩ d) + mb (ix3 b 0 ⟨2048 + d.val, by omega⟩)
    * gated (fun j d => w (ix2 j d)) (fun j => o (ix3 b r j)) (fun j => g (ix3 b ⟨r.val, by omega⟩ j)) d

/-- Its norm. -/
def spec (x : X3 4 8448 1024) (mb : X3 4 1 3072) (o : X3 4 8192 1024) (g : X3 4 8448 1024) (w : X2 1024 1024) (f : X2 1 1024) (b : Fin 4) (r : Fin 8192) (d : Fin 1024) : EReal :=
  rnorm 1149239296#32 (res x mb o g w b r) (fun j => f (ix2 0 j)) d

theorem hz : (![0, 0, 0] : Fin 3 → Nat) = fun _ => 0 := by decide
theorem hz2 : (![0, 0] : Fin 2 → Nat) = fun _ => 0 := by decide

theorem pay1_at (v28 : FVec Ideal S512x1024 .f32) (v29 : Vec Ideal S1x1024 .f32) (v32 v33 : FVec Ideal S512x1 .f32) (r : Fin 512) (d : Fin 1024) :
    k0_pay1 (F := Ideal) v28 v29 v32 v33 (ix3 0 r d)
      = v28 (ix2 r d) * Ideal.rsqrt (Ideal.div (v32 (ix2 r 0)) (v33 (ix2 r 0)) + Ideal.ofBits .f32 897988541#32) * v29 (ix2 0 d) := by
  unfold k0_pay1
  pointwise

theorem pay2_at (i : grid0.Coords) (v6 v8 : Vec Ideal S1x512x1024 .f32) (v12 : Vec Ideal S1024x1024 .bf16) (v14 v16 : Vec Ideal S1x1x1024 .f32) (v25 : Vec Ideal S1x512x1024 .f32) (r : Fin 512) (d : Fin 1024) :
    k0_pay2 (F := Ideal) i v6 v8 v12 v14 v16 v25 (ix2 r d)
      = v25 (ix3 0 r d) + sel (512 * (i 1).val + r.val) (v14 (ix3 0 0 d)) (v16 (ix3 0 0 d)) * gated (fun j d => v12 (ix2 j d)) (fun j => v6 (ix3 0 r j)) (fun j => v8 (ix3 0 r j)) d := by
  unfold sel gated
  rw [← word_row 512 (i 1).val r.val]
  unfold k0_pay2
  pointwise
  rfl

theorem pay3_at (i : grid0.Coords) (v6 v8 : Vec Ideal S1x512x1024 .f32) (v12 : Vec Ideal S1024x1024 .bf16) (v14 v16 : Vec Ideal S1x1x1024 .f32) (v25 : Vec Ideal S1x512x1024 .f32) (r : Fin 512) :
    k0_pay3 (F := Ideal) i v6 v8 v12 v14 v16 v25 (ix2 r 0)
      = ∑ d, k0_pay2 (F := Ideal) i v6 v8 v12 v14 v16 v25 (ix2 r d) * k0_pay2 (F := Ideal) i v6 v8 v12 v14 v16 v25 (ix2 r d) := by
  unfold k0_pay3
  generalize k0_pay2 (F := Ideal) i v6 v8 v12 v14 v16 v25 = y
  pointwise

theorem pay4_at (r : Fin 512) : k0_pay4 (F := Ideal) (ix2 r 0) = Ideal.ofBits .f32 1149239296#32 := by
  unfold k0_pay4
  pointwise

theorem tile_at (i : grid0.Coords) (v6 v8 : Vec Ideal S1x512x1024 .f32) (v12 : Vec Ideal S1024x1024 .bf16) (v14 v16 : Vec Ideal S1x1x1024 .f32) (v25 : Vec Ideal S1x512x1024 .f32) (v29 : Vec Ideal S1x1024 .f32)
    (x : X3 4 8448 1024) (mb : X3 4 1 3072) (o : X3 4 8192 1024) (g : X3 4 8448 1024) (w : X2 1024 1024) (f : X2 1 1024) (b : Fin 4) (r : Fin 512) (d : Fin 1024) (R : Fin 8192) (hR : 512 * (i 1).val + r.val = R.val)
    (h25 : ∀ d : Fin 1024, v25 (ix3 0 r d) = x (ix3 b ⟨R.val, by omega⟩ d))
    (h16 : ∀ d : Fin 1024, v16 (ix3 0 0 d) = mb (ix3 b 0 ⟨2048 + d.val, by omega⟩))
    (h6 : ∀ d : Fin 1024, v6 (ix3 0 r d) = o (ix3 b R d))
    (h8 : ∀ d : Fin 1024, v8 (ix3 0 r d) = g (ix3 b ⟨R.val, by omega⟩ d))
    (h12 : ∀ j d : Fin 1024, v12 (ix2 j d) = w (ix2 j d))
    (h29 : ∀ d : Fin 1024, v29 (ix2 0 d) = f (ix2 0 d)) :
    k0_pay1 (F := Ideal) (k0_pay2 i v6 v8 v12 v14 v16 v25) v29 (k0_pay3 i v6 v8 v12 v14 v16 v25) k0_pay4 (ix3 0 r d) = spec x mb o g w f b R d := by
  have e (d : Fin 1024) : k0_pay2 (F := Ideal) i v6 v8 v12 v14 v16 v25 (ix2 r d) = res x mb o g w b R d := by
    rw [pay2_at, hR, sel_lt R.isLt, h25, h16]
    unfold res
    simp only [h6, h8, h12]
  rw [pay1_at, pay3_at, pay4_at, h29]
  simp only [e]
  rfl

section
variable (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1x3072 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole)
  (x0 : Vec Ideal S1x512x1024 .f32) (x1 : Vec Ideal S1x1x3072 .f32) (x2 : Vec Ideal S1x1x3072 .f32) (x3 x4 : Vec Ideal S1x512x1024 .f32) (x5 : Vec Ideal S1024x1024 .bf16) (x6 : Vec Ideal S1x1024 .f32)
  (x : X3 4 8448 1024) (mb : X3 4 1 3072) (o : X3 4 8192 1024) (g : X3 4 8448 1024) (w : X2 1024 1024) (f : X2 1 1024) (b : Fin 4) (T : Nat) (hT : T < 16) (hi : (i 1).val = T)
  (hx0 : ∀ (r : Fin 512) (d : Fin 1024), x0 (ix3 0 r d) = x (ix3 b ⟨512 * T + r.val, by omega⟩ d))
  (hx1 : ∀ d : Fin 3072, x1 (ix3 0 0 d) = mb (ix3 b 0 d))
  (hx3 : ∀ (r : Fin 512) (d : Fin 1024), x3 (ix3 0 r d) = o (ix3 b ⟨512 * T + r.val, by omega⟩ d))
  (hx4 : ∀ (r : Fin 512) (d : Fin 1024), x4 (ix3 0 r d) = g (ix3 b ⟨512 * T + r.val, by omega⟩ d))
  (hx5 : ∀ (d : Fin 1024) (o : Fin 1024), x5 (ix2 d o) = w (ix2 d o))
  (hx6 : ∀ (u : Fin 1) (d : Fin 1024), x6 (ix2 u d) = f (ix2 u d))

include hT hi hx0 hx1 hx3 hx4 hx5 hx6 in
theorem out7_at (r : Fin 512) (d : Fin 1024) :
    out0_A_7 (F := Ideal) c i arg2 harg2 arg3 harg3 arg4 harg4 arg5 harg5 arg6 harg6 arg7 harg7 arg8 harg8 arg9 harg9 x0 x1 x2 x3 x4 x5 x6 (ix3 0 r d) = spec x mb o g w f b ⟨512 * T + r.val, by omega⟩ d := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  unfold kernelRun0_A
  dsimp only
  unfold kernelRun0_A.sl.r kernelRun0_A.sl.r_1 kernelRun0_A.sl.r_2
  rw [View.canon_unit_zero hz]
  refine tile_at i _ _ _ _ _ _ _ x mb o g w f b r d ⟨512 * T + r.val, by omega⟩ (by rw [hi]) (fun d => ?_) (fun d => ?_) (fun d => ?_) (fun d => ?_) (fun j d => ?_) (fun d => ?_)
  · refine (harg2.readAt_unread x0 _ _).trans ?_
    rw [← hx0]
    congr 1
    funext a
    apply Fin.ext
    match a with
    | ⟨0, _⟩ => rfl
    | ⟨1, _⟩ => show 0 + 1 * r.val = r.val; omega
    | ⟨2, _⟩ => show 0 + 1 * d.val = d.val; omega
  · refine (harg3.readAt_unread x1 _ _).trans ?_
    rw [← hx1]
    congr 1
    funext a
    apply Fin.ext
    match a with
    | ⟨0, _⟩ => rfl
    | ⟨1, _⟩ => rfl
    | ⟨2, _⟩ => show 2048 + 1 * d.val = 2048 + d.val; omega
  · refine (harg5.readAt_unread x3 _ _).trans ?_
    rw [← hx3]
    congr 1
    funext a
    apply Fin.ext
    match a with
    | ⟨0, _⟩ => rfl
    | ⟨1, _⟩ => show 0 + 1 * r.val = r.val; omega
    | ⟨2, _⟩ => show 0 + 1 * d.val = d.val; omega
  · refine (harg6.readAt_unread x4 _ _).trans ?_
    rw [← hx4]
    congr 1
    funext a
    apply Fin.ext
    match a with
    | ⟨0, _⟩ => rfl
    | ⟨1, _⟩ => show 0 + 1 * r.val = r.val; omega
    | ⟨2, _⟩ => show 0 + 1 * d.val = d.val; omega
  · refine (harg7.readAt_unread x5 _ _).trans ?_
    rw [← hx5]
    congr 1
    funext a
    apply Fin.ext
    match a with
    | ⟨0, _⟩ => show 0 + 1 * j.val = j.val; omega
    | ⟨1, _⟩ => show 0 + 1 * d.val = d.val; omega
  · refine (harg8.readAt_unread x6 _ _).trans ?_
    rw [← hx6]
    congr 1
    funext a
    apply Fin.ext
    match a with
    | ⟨0, _⟩ => rfl
    | ⟨1, _⟩ => show 0 + 1 * d.val = d.val; omega

end

variable (m : (ℓ : Loc nD τ sig) → Buf (Elt Ideal) ℓ)

theorem coords1 : ∀ t : Fin cfg0.N, (grid0.coords t 1).val = t.val % 16 := by decide +kernel

theorem lt_N (t : Fin cfg0.N) : t.val < 64 := lt_of_lt_of_eq t.isLt N_0

/-- The sample and the row of row `r` of point `t`'s tile. -/
abbrev bOf (t : Fin cfg0.N) : Fin 4 := ⟨t.val / 16, by have := lt_N t; omega⟩
abbrev rOf (t : Fin cfg0.N) (r : Fin 512) : Fin 8192 := ⟨512 * (t.val % 16) + r.val, by omega⟩

abbrev a0 (c : Dev nD) : X3 4 8448 1024 := m ((c : Thread nD τ).loc main_arg0)
abbrev a1 (c : Dev nD) : X3 4 1 3072 := m ((c : Thread nD τ).loc main_arg1)
abbrev a2 (c : Dev nD) : X3 1 1 3072 := m ((c : Thread nD τ).loc main_arg2)
abbrev a3 (c : Dev nD) : X3 4 8192 1024 := m ((c : Thread nD τ).loc main_arg3)
abbrev a4 (c : Dev nD) : X3 4 8448 1024 := m ((c : Thread nD τ).loc main_arg4)
abbrev a5 (c : Dev nD) : X2 1024 1024 := m ((c : Thread nD τ).loc main_arg5)
abbrev a6 (c : Dev nD) : X2 1 1024 := m ((c : Thread nD τ).loc main_arg6)

theorem index0 : ∀ t : Fin cfg0.N, win0_0.index t = ![t.val / 16, t.val % 16, 0] := by decide +kernel

theorem x0_apply (c : Dev nD) (t : Fin cfg0.N) (r : Fin 512) (d : Fin 1024) : (X0_0 m c t : S1x512x1024.Idx → EReal) (ix3 0 r d) = a0 m c (ix3 (bOf t) ⟨512 * (t.val % 16) + r.val, by omega⟩ d) := by
  unfold X0_0 Pipeline.Window.fill
  rw [dif_pos (moved0_0 t _)]
  unfold iblk
  rw [View.read_apply]
  show V m c main_arg0 _ = m (c.tc.loc main_arg0) _
  unfold V
  congr 1
  have i0 : win0_0.index t 0 = t.val / 16 := congrFun (index0 t) 0
  have i1 : win0_0.index t 1 = t.val % 16 := congrFun (index0 t) 1
  have i2 : win0_0.index t 2 = 0 := congrFun (index0 t) 2
  funext a
  apply Fin.ext
  match a with
  | ⟨0, _⟩ => show win0_0.index t 0 * 1 + 1 * 0 = t.val / 16; omega
  | ⟨1, _⟩ => show win0_0.index t 1 * 512 + 1 * r.val = 512 * (t.val % 16) + r.val; omega
  | ⟨2, _⟩ => show win0_0.index t 2 * 1024 + 1 * d.val = d.val; omega

theorem index1 : ∀ t : Fin cfg0.N, win0_1.index t = ![t.val / 16, 0, 0] := by decide +kernel

theorem x1_apply (c : Dev nD) (t : Fin cfg0.N) (d : Fin 3072) : (iblk m c 1 t : S1x1x3072.Idx → EReal) (ix3 0 0 d) = a1 m c (ix3 (bOf t) 0 d) := by
  unfold iblk
  rw [View.read_apply]
  show V m c main_arg1 _ = m (c.tc.loc main_arg1) _
  unfold V
  congr 1
  have i0 : win0_1.index t 0 = t.val / 16 := congrFun (index1 t) 0
  have i1 : win0_1.index t 1 = 0 := congrFun (index1 t) 1
  have i2 : win0_1.index t 2 = 0 := congrFun (index1 t) 2
  funext a
  apply Fin.ext
  match a with
  | ⟨0, _⟩ => show win0_1.index t 0 * 1 + 1 * 0 = t.val / 16; omega
  | ⟨1, _⟩ => show win0_1.index t 1 * 1 + 1 * 0 = 0; omega
  | ⟨2, _⟩ => show win0_1.index t 2 * 3072 + 1 * d.val = d.val; omega

theorem index2 : ∀ t : Fin cfg0.N, win0_2.index t = ![0, 0, 0] := by decide +kernel

theorem x2_apply (c : Dev nD) (t : Fin cfg0.N) (x : Fin 1) (y : Fin 1) (z : Fin 3072) : (iblk m c 2 t : S1x1x3072.Idx → EReal) (ix3 x y z) = a2 m c (ix3 x y z) := by
  unfold iblk
  rw [View.read_apply]
  show V m c main_arg2 _ = m (c.tc.loc main_arg2) _
  unfold V
  congr 1
  have i0 : win0_2.index t 0 = 0 := congrFun (index2 t) 0
  have i1 : win0_2.index t 1 = 0 := congrFun (index2 t) 1
  have i2 : win0_2.index t 2 = 0 := congrFun (index2 t) 2
  funext a
  apply Fin.ext
  match a with
  | ⟨0, _⟩ => show win0_2.index t 0 * 1 + 1 * x.val = x.val; omega
  | ⟨1, _⟩ => show win0_2.index t 1 * 1 + 1 * y.val = y.val; omega
  | ⟨2, _⟩ => show win0_2.index t 2 * 3072 + 1 * z.val = z.val; omega

theorem index3 : ∀ t : Fin cfg0.N, win0_3.index t = ![t.val / 16, t.val % 16, 0] := by decide +kernel

theorem x3_apply (c : Dev nD) (t : Fin cfg0.N) (r : Fin 512) (d : Fin 1024) : (iblk m c 3 t : S1x512x1024.Idx → EReal) (ix3 0 r d) = a3 m c (ix3 (bOf t) (rOf t r) d) := by
  unfold iblk
  rw [View.read_apply]
  show V m c main_arg3 _ = m (c.tc.loc main_arg3) _
  unfold V
  congr 1
  have i0 : win0_3.index t 0 = t.val / 16 := congrFun (index3 t) 0
  have i1 : win0_3.index t 1 = t.val % 16 := congrFun (index3 t) 1
  have i2 : win0_3.index t 2 = 0 := congrFun (index3 t) 2
  funext a
  apply Fin.ext
  match a with
  | ⟨0, _⟩ => show win0_3.index t 0 * 1 + 1 * 0 = t.val / 16; omega
  | ⟨1, _⟩ => show win0_3.index t 1 * 512 + 1 * r.val = 512 * (t.val % 16) + r.val; omega
  | ⟨2, _⟩ => show win0_3.index t 2 * 1024 + 1 * d.val = d.val; omega

theorem index4 : ∀ t : Fin cfg0.N, win0_4.index t = ![t.val / 16, t.val % 16, 0] := by decide +kernel

theorem x4_apply (c : Dev nD) (t : Fin cfg0.N) (r : Fin 512) (d : Fin 1024) : (X0_4 m c t : S1x512x1024.Idx → EReal) (ix3 0 r d) = a4 m c (ix3 (bOf t) ⟨512 * (t.val % 16) + r.val, by omega⟩ d) := by
  unfold X0_4 Pipeline.Window.fill
  rw [dif_pos (moved0_4 t _)]
  unfold iblk
  rw [View.read_apply]
  show V m c main_arg4 _ = m (c.tc.loc main_arg4) _
  unfold V
  congr 1
  have i0 : win0_4.index t 0 = t.val / 16 := congrFun (index4 t) 0
  have i1 : win0_4.index t 1 = t.val % 16 := congrFun (index4 t) 1
  have i2 : win0_4.index t 2 = 0 := congrFun (index4 t) 2
  funext a
  apply Fin.ext
  match a with
  | ⟨0, _⟩ => show win0_4.index t 0 * 1 + 1 * 0 = t.val / 16; omega
  | ⟨1, _⟩ => show win0_4.index t 1 * 512 + 1 * r.val = 512 * (t.val % 16) + r.val; omega
  | ⟨2, _⟩ => show win0_4.index t 2 * 1024 + 1 * d.val = d.val; omega

theorem index5 : ∀ t : Fin cfg0.N, win0_5.index t = ![0, 0] := by decide +kernel

theorem x5_apply (c : Dev nD) (t : Fin cfg0.N) (x : Fin 1024) (y : Fin 1024) : (iblk m c 5 t : S1024x1024.Idx → EReal) (ix2 x y) = a5 m c (ix2 x y) := by
  unfold iblk
  rw [View.read_apply]
  show V m c main_arg5 _ = m (c.tc.loc main_arg5) _
  unfold V
  congr 1
  have i0 : win0_5.index t 0 = 0 := congrFun (index5 t) 0
  have i1 : win0_5.index t 1 = 0 := congrFun (index5 t) 1
  funext a
  apply Fin.ext
  match a with
  | ⟨0, _⟩ => show win0_5.index t 0 * 1024 + 1 * x.val = x.val; omega
  | ⟨1, _⟩ => show win0_5.index t 1 * 1024 + 1 * y.val = y.val; omega

theorem index6 : ∀ t : Fin cfg0.N, win0_6.index t = ![0, 0] := by decide +kernel

theorem x6_apply (c : Dev nD) (t : Fin cfg0.N) (x : Fin 1) (y : Fin 1024) : (iblk m c 6 t : S1x1024.Idx → EReal) (ix2 x y) = a6 m c (ix2 x y) := by
  unfold iblk
  rw [View.read_apply]
  show V m c main_arg6 _ = m (c.tc.loc main_arg6) _
  unfold V
  congr 1
  have i0 : win0_6.index t 0 = 0 := congrFun (index6 t) 0
  have i1 : win0_6.index t 1 = 0 := congrFun (index6 t) 1
  funext a
  apply Fin.ext
  match a with
  | ⟨0, _⟩ => show win0_6.index t 0 * 1 + 1 * x.val = x.val; omega
  | ⟨1, _⟩ => show win0_6.index t 1 * 1024 + 1 * y.val = y.val; omega

theorem index7 : ∀ t : Fin cfg0.N, win0_7.index t = ![t.val / 16, t.val % 16, 0] := by decide +kernel
theorem xsize7 : ∀ t : Fin cfg0.N, ∀ a, win0_7.xsize (grid0.coords t) a = S1x512x1024.size a := by decide +kernel

/-- Result 0 as a whole array. -/
abbrev G7 (c : Dev nD) : X3 4 8192 1024 := fun i => spec (a0 m c) (a1 m c) (a3 m c) (a4 m c) (a5 m c) (a6 m c) (i 0) (i 1) (i 2)

/-- What point `t` writes back is its block of it. -/
theorem flushed_eq7 (c : Dev nD) (t : Fin cfg0.N) :
    (dats m 0 c).flushed 7 t = ((cfg0.win 7).blk t).view.read (Elt Ideal) (G7 m c) := by
  rw [Value.flushed7_A]
  funext y
  have h0 : (y 0).val < 1 := lt_of_lt_of_eq (y 0).isLt (xsize7 t 0)
  have h1 : (y 1).val < 512 := lt_of_lt_of_eq (y 1).isLt (xsize7 t 1)
  have h2 : (y 2).val < 1024 := lt_of_lt_of_eq (y 2).isLt (xsize7 t 2)
  have i0 : win0_7.index t 0 = t.val / 16 := congrFun (index7 t) 0
  have i1 : win0_7.index t 1 = t.val % 16 := congrFun (index7 t) 1
  have i2 : win0_7.index t 2 = 0 := congrFun (index7 t) 2
  have e : ((cfg0.win 7).blk t).view.emb y = (ix3 (bOf t) (rOf t ⟨(y 1).val, h1⟩) (⟨(y 2).val, h2⟩ : Fin 1024) : (⟨3, ![4, 8192, 1024]⟩ : Shape).Idx) := by
    funext a
    apply Fin.ext
    match a with
    | ⟨0, _⟩ => show win0_7.index t 0 * 1 + 1 * (y 0).val = t.val / 16; omega
    | ⟨1, _⟩ => show win0_7.index t 1 * 512 + 1 * (y 1).val = 512 * (t.val % 16) + (y 1).val; omega
    | ⟨2, _⟩ => show win0_7.index t 2 * 1024 + 1 * (y 2).val = (y 2).val; omega
  rw [View.read_apply]
  show _ = G7 m c (((cfg0.win 7).blk t).view.emb y)
  rw [e]
  have ey : ∀ X : S1x512x1024.Idx → EReal, (cfg0.win 7).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  exact out7_at c (grid0.coords t) _ _ _ _ _ _ _ _ _ _ _ _ _ _ _ _ _ _ _ _ _ _ _ (a0 m c) (a1 m c) (a3 m c) (a4 m c) (a5 m c) (a6 m c) (bOf t) (t.val % 16) (by omega) (coords1 t)
    (fun r d => x0_apply m c t r d) (fun d => x1_apply m c t d) (fun r d => x3_apply m c t r d) (fun r d => x4_apply m c t r d) (fun x y => x5_apply m c t x y) (fun x y => x6_apply m c t x y) ⟨(y 1).val, h1⟩ ⟨(y 2).val, h2⟩

theorem final_eq7 (c : Dev nD) : (dats m 0 c).arrAt 7 cfg0.N = G7 m c := by
  refine funext fun (i : (⟨3, ![4, 8192, 1024]⟩ : Shape).Idx) => ((dats m 0 c).arrAt_eq_piecewise 7 (G7 m c) (fun t _ => flushed_eq7 m c t) i).trans (if_pos ?_)
  have b0 : (i 0).val < 4 := (i 0).isLt
  have b1 : (i 1).val < 8192 := (i 1).isLt
  have b2 : (i 2).val < 1024 := (i 2).isLt
  have hN : cfg0.N = 64 := N_0
  refine ⟨⟨16 * (i 0).val + (i 1).val / 512, by omega⟩, flush0_7 _, ?_⟩
  generalize ht : (⟨16 * (i 0).val + (i 1).val / 512, by omega⟩ : Fin cfg0.N) = t
  have htv : t.val = 16 * (i 0).val + (i 1).val / 512 := by rw [← ht]
  show i ∈ ((View.whole main_v0).slice (win0_7.rect t)).set
  rw [View.set_slice_whole, Rect.mem_set_unit]
  have i0 : win0_7.index t 0 = t.val / 16 := congrFun (index7 t) 0
  have i1 : win0_7.index t 1 = t.val % 16 := congrFun (index7 t) 1
  have i2 : win0_7.index t 2 = 0 := congrFun (index7 t) 2
  have s0 : win0_7.xsize (grid0.coords t) 0 = 1 := xsize7 t 0
  have s1 : win0_7.xsize (grid0.coords t) 1 = 512 := xsize7 t 1
  have s2 : win0_7.xsize (grid0.coords t) 2 = 1024 := xsize7 t 2
  intro a
  match a with
  | ⟨0, _⟩ => show win0_7.index t 0 * 1 ≤ (i 0 : Nat) ∧ (i 0 : Nat) < win0_7.index t 0 * 1 + win0_7.xsize (grid0.coords t) 0; omega
  | ⟨1, _⟩ => show win0_7.index t 1 * 512 ≤ (i 1 : Nat) ∧ (i 1 : Nat) < win0_7.index t 1 * 512 + win0_7.xsize (grid0.coords t) 1; omega
  | ⟨2, _⟩ => show win0_7.index t 2 * 1024 ≤ (i 2 : Nat) ∧ (i 2 : Nat) < win0_7.index t 2 * 1024 + win0_7.xsize (grid0.coords t) 2; omega

end Cert.Kernel6Ideal.Final
-- ==== Proof.R6.lean ====
/-
  The last layer's gated residual and final norm: the reference's value, row by row.
-/
module

public import proofs.«01_k».proof.Proof.Gen.Reference6Ideal.Read
public import proofs.«01_k».proof.Proof.K6

@[expose] public section

set_option maxRecDepth 16384

noncomputable section

open Idealize.ShloMosaic Idealize.ShloMosaic.TcCoe Idealize.SL.Sem Cert.Rows

namespace Cert.Reference6Ideal.Rows

open Cert.Reference6Ideal Cert.Reference6Ideal.Gen Cert.Reference6Ideal.Read Cert.Kernel6Ideal.Final

section
variable (x0 : X3 4 8448 1024) (x1 : X3 4 1 3072) (x3 : X3 4 8192 1024) (x4 : X3 4 8448 1024) (x5 : X2 1024 1024) (x6 : X2 1 1024) (b : Fin 4) (r : Fin 8192)

theorem dot_at (d : Fin 1024) : val_main_v5 (F := Ideal) x3 x4 x5 (ix3 b r d) = gated (fun j d => x5 (ix2 j d)) (fun j => x3 (ix3 b r j)) (fun j => x4 (ix3 b ⟨r.val, by omega⟩ j)) d := by
  unfold val_main_v5 val_main_v3 val_main_v2 val_main_v4
  unfold gated
  pointwise

theorem res_at (d : Fin 1024) : val_main_v8 (F := Ideal) x0 x1 x3 x4 x5 (ix3 b r d) = res x0 x1 x3 x4 x5 b r d := by
  unfold res
  rw [← dot_at]
  unfold val_main_v8 val_main_v0 val_main_v7 val_main_v6 val_main_v1
  generalize val_main_v5 (F := Ideal) x3 x4 x5 = y
  pointwise

theorem out_at (d : Fin 1024) : val_main_v21 (F := Ideal) x0 x1 x3 x4 x5 x6 (ix3 b r d) = spec x0 x1 x3 x4 x5 x6 b r d := by
  unfold spec rnorm
  simp only [← res_at]
  unfold val_main_v21 val_main_v18 val_main_v17 val_main_v16 val_main_v15 val_main_v13 val_main_v11 val_main_v10 val_main_v9 val_main_cst val_main_v12 val_main_cst_0 val_main_v14 val_main_cst_1 val_main_v20 val_main_v19
  generalize val_main_v8 (F := Ideal) x0 x1 x3 x4 x5 = y
  pointwise

end
end Cert.Reference6Ideal.Rows
-- ==== Proof.C6.lean ====
/-
  The claims of the last layer's gated residual and final norm.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.R6

@[expose] public section

set_option maxRecDepth 16384

noncomputable section

open Idealize.ShloMosaic Idealize.ShloMosaic.TcCoe Idealize.SL.Sem Cert.Rows

namespace Cert.Proof

/-- A finished device, its semaphores at zero and its arguments kept: the translated program and the idealized one. -/
theorem quiescent_kernel6 : Cert.quiescent_Kernel6 := fun m ρ _ => Cert.Kernel6.Gen.frame m ρ
theorem quiescent_kernel6Ideal : Cert.quiescent_Kernel6Ideal := fun m ρ _ => Cert.Kernel6Ideal.Gen.frame m ρ
theorem quiescent_reference6Ideal : Cert.quiescent_Reference6Ideal := fun m ρ _ =>
  (θ_run Cert.Reference6Ideal.defs _ _).mono
    (fun r h => ⟨fun c => (h c).2, Idealize.ShloMosaic.sem_eq_zero_of_no_sems (by decide) r.2⟩) (Cert.Reference6Ideal.Value.run (F := Ideal) m ρ)

theorem algebraic6 : Cert.algebraic_Kernel6Ideal_Reference6Ideal := by
  intro m g m' g' _ hm
  refine ⟨fun c => Cert.Kernel6Ideal.Final.G7 m c, ?_, ?_⟩
  · exact (θ_run Cert.Kernel6Ideal.defs _ _).mono
      (fun r h c => ⟨(h c).1.trans (Cert.Kernel6Ideal.Final.final_eq7 m c), (h c).2⟩)
      (Cert.Kernel6Ideal.Value.run_blocks m g)
  · refine (θ_run Cert.Reference6Ideal.defs _ _).mono (fun r h c => ⟨?_, (h c).2⟩)
      (Cert.Reference6Ideal.Value.run (F := Ideal) m' g')
    · refine ((h c).1.trans (Cert.Reference6Ideal.Read.val_main_v21_eq _ _ _ _ _ _)).trans ?_
      obtain ⟨e0, e1, e2, e3, e4, e5, e6⟩ := hm c
      rw [e0, e1, e3, e4, e5, e6]
      refine funext fun i => ?_
      rw [eq_ix3 i]
      exact Cert.Reference6Ideal.Rows.out_at _ _ _ _ _ _ _ _ _

end Cert.Proof
-- ==== Proof.T7.lean ====
/-
  The near-window kernel's payloads at an index, and one head's block: the softmax's weighted mean over the 768 near keys and
  the 256 context keys.
-/
module

public import proofs.«01_k».proof.Proof.Gen.Kernel7Ideal.Value
public import proofs.«01_k».proof.Proof.Softmax
public import proofs.«01_k».proof.Proof.Fold
public import Idealize.ShloMosaic.Lib.Pointwise

@[expose] public section

set_option maxRecDepth 16384

noncomputable section

open Idealize.ShloMosaic Idealize.ShloMosaic.TcCoe

namespace Cert.Softmax

/-- A weighted sum by powers of two, shifted by `μ`, over the sum of the weights: the softmax's weighted mean, its exponents shifted by any
    real `M`. -/
theorem mean {ι : Type} [Fintype ι] [Nonempty ι] (s : ι → ℝ) (v : ι → EReal) (μ M : ℝ) :
    Ideal.div (∑ i, ((pow2 (s i - μ) : ℝ) : EReal) * v i) ((∑ i, pow2 (s i - μ) : ℝ) : EReal)
      = ∑ i, Ideal.div ((Real.exp (s i * Real.log 2 - M) : ℝ) : EReal) ((∑ j, Real.exp (s j * Real.log 2 - M) : ℝ) : EReal) * v i := by
  have hz : 0 < ∑ i, pow2 (s i - μ) := Finset.sum_pos (fun k _ => pow2_pos _) Finset.univ_nonempty
  have hsum : ∑ j, Real.exp (s j * Real.log 2 - M) = (pow2 μ * Real.exp (-M)) * ∑ k, pow2 (s k - μ) := by
    rw [Finset.mul_sum]
    refine Finset.sum_congr rfl fun k _ => ?_
    rw [exp_log2, mul_right_comm, pow2_add]; congr 2; ring
  have hz' : 0 < ∑ j, Real.exp (s j * Real.log 2 - M) := by
    rw [hsum]; exact mul_pos (mul_pos (pow2_pos _) (Real.exp_pos _)) hz
  rw [div_coe_pos _ _ hz, mul_comm, coe_mul_sum _ _ (inv_nonneg.mpr hz.le)]
  refine Finset.sum_congr rfl fun k _ => ?_
  rw [div_coe_pos _ _ hz', ← mul_assoc, ← EReal.coe_mul, ← EReal.coe_mul, hsum]
  congr 2
  have e : pow2 (s k) = pow2 (s k - μ) * pow2 μ := by rw [pow2_add]; congr 1; ring
  rw [exp_log2, e]
  have h1 := (pow2_pos μ).ne'
  have h2 := (Real.exp_pos (-M)).ne'
  field_simp

/-- The sum of all the weights, of two families of scores. -/
def mass {m n : ℕ} (s : Fin m → ℝ) (s' : Fin n → ℝ) (M : ℝ) : ℝ :=
  ∑ j, Real.exp (s j * Real.log 2 - M) + ∑ j, Real.exp (s' j * Real.log 2 - M)

/-- The softmax's weighted mean over two families of scores. -/
def mean2 {m n : ℕ} (s : Fin m → ℝ) (s' : Fin n → ℝ) (v : Fin m → EReal) (v' : Fin n → EReal) (M : ℝ) : EReal :=
  ∑ i, Ideal.div ((Real.exp (s i * Real.log 2 - M) : ℝ) : EReal) ((mass s s' M : ℝ) : EReal) * v i
    + ∑ i, Ideal.div ((Real.exp (s' i * Real.log 2 - M) : ℝ) : EReal) ((mass s s' M : ℝ) : EReal) * v' i

theorem mean2_of {m n : ℕ} (hm : m ≠ 0) (s : Fin m → ℝ) (s' : Fin n → ℝ) (v : Fin m → EReal) (v' : Fin n → EReal) (μ M : ℝ) :
    Ideal.div (∑ i, ((pow2 (s i - μ) : ℝ) : EReal) * v i + ∑ i, ((pow2 (s' i - μ) : ℝ) : EReal) * v' i)
      ((∑ i, pow2 (s i - μ) + ∑ i, pow2 (s' i - μ) : ℝ) : EReal) = mean2 s s' v v' M := by
  haveI : Nonempty (Fin m ⊕ Fin n) := ⟨Sum.inl ⟨0, Nat.pos_of_ne_zero hm⟩⟩
  have h := mean (Sum.elim s s') (Sum.elim v v') μ M
  simp only [Fintype.sum_sum_type, Sum.elim_inl, Sum.elim_inr] at h
  exact h

/-- The same from extended reals that are the scores: the shift is the greatest score, or anything real. -/
theorem mean2_at {m n : ℕ} (hm : m ≠ 0) (s : Fin m → ℝ) (s' : Fin n → ℝ) (v : Fin m → EReal) (v' : Fin n → EReal) (M : ℝ)
    (a : Fin m → EReal) (a' : Fin n → EReal) (x : EReal) (ha : ∀ j, a j = s j) (ha' : ∀ j, a' j = s' j) (hx : ∃ μ : ℝ, x = μ) :
    Ideal.div (∑ i, Ideal.exp2 (a i - x) * v i + ∑ i, Ideal.exp2 (a' i - x) * v' i) (∑ i, Ideal.exp2 (a i - x) + ∑ i, Ideal.exp2 (a' i - x))
      = mean2 s s' v v' M := by
  obtain ⟨μ, rfl⟩ := hx
  rw [← mean2_of hm s s' v v' μ M, EReal.coe_add, coe_sum, coe_sum]
  simp only [ha, ha', ← EReal.coe_sub, exp2_coe]

/-- The greater of the greatest of two nonempty families of reals is real. -/
theorem max2_coe {m n : ℕ} (hm : m ≠ 0) (hn : n ≠ 0) (a : Fin m → EReal) (a' : Fin n → EReal) (s : Fin m → ℝ) (s' : Fin n → ℝ)
    (ha : ∀ j, a j = s j) (ha' : ∀ j, a' j = s' j) :
    ∃ μ : ℝ, max (Finset.univ.fold max ⊥ a) (Finset.univ.fold max ⊥ a') = μ := by
  haveI : Nonempty (Fin n) := ⟨⟨0, Nat.pos_of_ne_zero hn⟩⟩
  haveI : Nonempty (Fin m) := ⟨⟨0, Nat.pos_of_ne_zero hm⟩⟩
  obtain ⟨p, hp⟩ := (Cert.KernelIdeal.Fold.fold_max_coe a (fun j => ⟨_, ha j⟩) Finset.univ).resolve_left (Finset.univ_nonempty.ne_empty)
  obtain ⟨q, hq⟩ := (Cert.KernelIdeal.Fold.fold_max_coe a' (fun j => ⟨_, ha' j⟩) Finset.univ).resolve_left (Finset.univ_nonempty.ne_empty)
  rw [hp, hq]
  exact exists_max_coe _ (Or.inr ⟨p, rfl⟩) q

end Cert.Softmax

namespace Cert.Kernel7Ideal.Trip

open Cert.Kernel7Ideal Cert.Kernel7Ideal.Gen Cert.Softmax

theorem ofBits_negInf : Ideal.ofBits .f32 0xFF800000#32 = ⊥ := by
  simp [Ideal.ofBits, Ideal.ieee]

theorem lane_lt (l : Fin 128) : IntOp.cmpi .slt (BitVec.ofNat 32 l.val) 64#32 = if l.val < 64 then 1#1 else 0#1 := by
  revert l; decide

theorem lane_ge (l : Fin 128) : IntOp.cmpi .sge (BitVec.ofNat 32 l.val) 64#32 = if l.val < 64 then 0#1 else 1#1 := by
  revert l; decide

/-- The lane numbers. -/
abbrev lanes : IVec S256x128 32 := iota .tc S256x128 32 [1] iota_S256x128_d1_w32

variable (v6 : Vec Ideal S1x256x128 .bf16) (v10 : Vec Ideal S1x768x128 .bf16) (v13 : Vec Ideal S1x768x128 .bf16)
  (v15 v17 : Vec Ideal S1x256x128 .bf16) (v24 v56 : Vec Ideal S1x1x1x256x768 .f32)

theorem pay2_apply (r : Fin 256) (d : Fin 128) : k0_pay2 v6 (ix2 r d) = v6 (ix3 0 r d) := by
  unfold k0_pay2; pointwise
theorem pay3_apply (j : Fin 768) (d : Fin 128) : k0_pay3 v10 (ix2 j d) = v10 (ix3 0 j d) := by
  unfold k0_pay3; pointwise
theorem pay4_apply (j : Fin 768) (d : Fin 128) : k0_pay4 v13 (ix2 j d) = v13 (ix3 0 j d) := by
  unfold k0_pay4; pointwise
theorem pay5_apply (j : Fin 256) (d : Fin 128) : k0_pay5 v15 (ix2 j d) = v15 (ix3 0 j d) := by
  unfold k0_pay5; pointwise
theorem pay6_apply (j : Fin 256) (d : Fin 128) : k0_pay6 v17 (ix2 j d) = v17 (ix3 0 j d) := by
  unfold k0_pay6; pointwise

/-- The queries on the lower 64 lanes. -/
theorem pay7_apply (r : Fin 256) (d : Fin 128) : k0_pay7 v6 (ix2 r d) = if d.val < 64 then v6 (ix3 0 r d) else 0 := by
  have h := pay2_apply v6 r d
  unfold k0_pay7
  generalize k0_pay2 v6 = y at h
  pointwise
  rw [lane_lt, ← h]
  split <;> rfl

/-- The queries on the upper 64 lanes. -/
theorem pay12_apply (r : Fin 256) (d : Fin 128) :
    k0_pay12 (F := Ideal) (k0_pay2 v6) lanes (ix2 r d) = if d.val < 64 then 0 else v6 (ix3 0 r d) := by
  have h := pay2_apply v6 r d
  unfold k0_pay12 lanes
  generalize k0_pay2 v6 = y at h
  pointwise
  rw [lane_ge, ← h]
  split <;> rfl

theorem pay8_apply (r : Fin 256) (j : Fin 768) :
    k0_pay8 v6 v10 v24 (ix2 r j) = ∑ d : Fin 128, k0_pay7 v6 (ix2 r d) * k0_pay3 v10 (ix2 j d) + v24 (ix5 0 0 0 r j) := by
  unfold k0_pay8
  generalize k0_pay7 v6 = y
  generalize k0_pay3 v10 = z
  pointwise

theorem pay9_apply (r j : Fin 256) :
    k0_pay9 v6 v15 (ix2 r j) = ∑ d : Fin 128, k0_pay7 v6 (ix2 r d) * k0_pay5 v15 (ix2 j d) := by
  unfold k0_pay9
  generalize k0_pay7 v6 = y
  generalize k0_pay5 v15 = z
  pointwise

theorem pay10_apply (r : Fin 256) :
    k0_pay10 v6 v10 v24 (ix1 r) = Finset.univ.fold max ⊥ fun j : Fin 768 => k0_pay8 v6 v10 v24 (ix2 r j) := by
  unfold k0_pay10
  generalize k0_pay8 v6 v10 v24 = y
  pointwise
  rw [ofBits_negInf]

section Head0

variable (v14 : FVec Ideal S768x128 .bf16) (v18 : FVec Ideal S256x128 .bf16) (v26 : FVec Ideal S256x768 .f32) (v27 : FVec Ideal S256x256 .f32)
  (v28 : FVec Ideal S256 .f32)

/-- Row `r`'s shift. -/
abbrev shift (r : Fin 256) : EReal := max (v28 (ix1 r)) (Finset.univ.fold max ⊥ fun j : Fin 256 => v27 (ix2 r j))

theorem pay11_apply (r : Fin 256) (l : Fin 128) :
    k0_pay11 v14 v18 v26 v27 v28 (ix2 r l) = Ideal.div
      (∑ j : Fin 768, Ideal.exp2 (v26 (ix2 r j) - shift v27 v28 r) * v14 (ix2 j l)
        + ∑ j : Fin 256, Ideal.exp2 (v27 (ix2 r j) - shift v27 v28 r) * v18 (ix2 j l))
      (∑ j : Fin 768, Ideal.exp2 (v26 (ix2 r j) - shift v27 v28 r) + ∑ j : Fin 256, Ideal.exp2 (v27 (ix2 r j) - shift v27 v28 r)) := by
  unfold k0_pay11 shift
  pointwise
  rw [ofBits_negInf]
  rfl

end Head0

section Head1

variable (v7 : FVec Ideal S256x128 .bf16) (v8 : IVec S256x128 32) (v11 : FVec Ideal S768x128 .bf16) (v16 : FVec Ideal S256x128 .bf16)
  (v14 : FVec Ideal S768x128 .bf16) (v18 : FVec Ideal S256x128 .bf16) (v50 : FVec Ideal S256x128 .f32)

theorem pay13_apply (r : Fin 256) (j : Fin 768) :
    k0_pay13 v7 v8 v11 v56 (ix2 r j) = ∑ d : Fin 128, k0_pay12 v7 v8 (ix2 r d) * v11 (ix2 j d) + v56 (ix5 0 0 0 r j) := by
  unfold k0_pay13
  generalize k0_pay12 v7 v8 = y
  pointwise

theorem pay14_apply (r j : Fin 256) :
    k0_pay14 v7 v8 v16 (ix2 r j) = ∑ d : Fin 128, k0_pay12 v7 v8 (ix2 r d) * v16 (ix2 j d) := by
  unfold k0_pay14
  generalize k0_pay12 v7 v8 = y
  pointwise

theorem pay15_apply (r : Fin 256) :
    k0_pay15 v7 v8 v11 v16 v56 (ix2 r 0) = max (Finset.univ.fold max ⊥ fun j : Fin 768 => k0_pay13 v7 v8 v11 v56 (ix2 r j))
      (Finset.univ.fold max ⊥ fun j : Fin 256 => k0_pay14 v7 v8 v16 (ix2 r j)) := by
  unfold k0_pay15
  generalize k0_pay13 v7 v8 v11 v56 = y
  generalize k0_pay14 v7 v8 v16 = z
  pointwise
  rw [ofBits_negInf]

theorem pay16_apply (r : Fin 256) (j : Fin 768) :
    k0_pay16 v7 v8 v11 v16 v56 (ix2 r j) = Ideal.exp2 (k0_pay13 v7 v8 v11 v56 (ix2 r j) - k0_pay15 v7 v8 v11 v16 v56 (ix2 r 0)) := by
  unfold k0_pay16
  generalize k0_pay13 v7 v8 v11 v56 = y
  generalize k0_pay15 v7 v8 v11 v16 v56 = z
  pointwise
  rfl

theorem pay17_apply (r j : Fin 256) :
    k0_pay17 v7 v8 v11 v16 v56 (ix2 r j) = Ideal.exp2 (k0_pay14 v7 v8 v16 (ix2 r j) - k0_pay15 v7 v8 v11 v16 v56 (ix2 r 0)) := by
  unfold k0_pay17
  generalize k0_pay14 v7 v8 v16 = y
  generalize k0_pay15 v7 v8 v11 v16 v56 = z
  pointwise
  rfl

theorem pay18_apply (r : Fin 256) :
    k0_pay18 v7 v8 v11 v16 v56 (ix1 r) = ∑ j : Fin 768, k0_pay16 v7 v8 v11 v16 v56 (ix2 r j) := by
  unfold k0_pay18
  generalize k0_pay16 v7 v8 v11 v16 v56 = y
  pointwise

/-- The stored block: head 0's quotient on the lower lanes, head 1's on the upper. -/
theorem pay1_apply (v67 : FVec Ideal S256x768 .f32) (v70 : FVec Ideal S256x256 .f32) (v71 : FVec Ideal S256 .f32) (r : Fin 256) (l : Fin 128) :
    k0_pay1 lanes v14 v18 v50 v67 v70 v71 (ix3 0 r l) = if l.val < 64 then v50 (ix2 r l) else Ideal.div
      (∑ j : Fin 768, v67 (ix2 r j) * v14 (ix2 j l) + ∑ j : Fin 256, v70 (ix2 r j) * v18 (ix2 j l))
      (v71 (ix1 r) + ∑ j : Fin 256, v70 (ix2 r j)) := by
  unfold k0_pay1 lanes
  pointwise
  rw [lane_lt]
  split <;> rfl

end Head1

end Cert.Kernel7Ideal.Trip

end
-- ==== Proof.F7.lean ====
/-
  The near-window kernel's block at one grid point: row `r`, lane `l` is the softmax's weighted mean of the value lane over the
  768 near keys and the 256 context keys, by the scores of the head whose lanes `l` is on.
-/
module

public import proofs.«01_k».proof.Proof.T7
public import Idealize.ShloMosaic.Lib.Pipeline.Value

@[expose] public section

set_option maxRecDepth 16384

noncomputable section

open Idealize.ShloMosaic Idealize.ShloMosaic.TcCoe

namespace Cert.Kernel7Ideal.Block

open Cert.Kernel7Ideal Cert.Kernel7Ideal.Gen Cert.Kernel7Ideal.Trip Cert.Softmax

/-- A sum over 128 lanes of which the upper 64 are masked. -/
theorem sum_low (f g : Fin 128 → EReal) :
    ∑ d : Fin 128, (if d.val < 64 then f d else 0) * g d = ∑ d : Fin 64, f ⟨64 * 0 + d.val, by omega⟩ * g ⟨64 * 0 + d.val, by omega⟩ := by
  rw [Fin.sum_univ_add (a := 64) (b := 64) (fun d : Fin 128 => (if d.val < 64 then f d else 0) * g d)]
  have h1 : ∑ i : Fin 64, (if (Fin.natAdd 64 i : Fin 128).val < 64 then f (Fin.natAdd 64 i) else 0) * g (Fin.natAdd 64 i) = 0 := by
    refine Finset.sum_eq_zero fun i _ => ?_
    rw [if_neg (by show ¬ 64 + i.val < 64; omega), zero_mul]
  refine (congrArg₂ (· + ·) (Finset.sum_congr rfl fun i _ => ?_) h1).trans (add_zero _)
  have e : (⟨64 * 0 + i.val, by omega⟩ : Fin 128) = Fin.castAdd 64 i := Fin.ext (by show 64 * 0 + i.val = i.val; omega)
  rw [e, if_pos (by show i.val < 64; omega)]

/-- A sum over 128 lanes of which the lower 64 are masked. -/
theorem sum_high (f g : Fin 128 → EReal) :
    ∑ d : Fin 128, (if d.val < 64 then 0 else f d) * g d = ∑ d : Fin 64, f ⟨64 * 1 + d.val, by omega⟩ * g ⟨64 * 1 + d.val, by omega⟩ := by
  rw [Fin.sum_univ_add (a := 64) (b := 64) (fun d : Fin 128 => (if d.val < 64 then 0 else f d) * g d)]
  have h1 : ∑ i : Fin 64, (if (Fin.castAdd 64 i : Fin 128).val < 64 then 0 else f (Fin.castAdd 64 i)) * g (Fin.castAdd 64 i) = 0 := by
    refine Finset.sum_eq_zero fun i _ => ?_
    rw [if_pos (by show i.val < 64; omega), zero_mul]
  refine (congrArg₂ (· + ·) h1 (Finset.sum_congr rfl fun i _ => ?_)).trans (zero_add _)
  have e : (⟨64 * 1 + i.val, by omega⟩ : Fin 128) = Fin.natAdd 64 i := Fin.ext (by show 64 * 1 + i.val = 64 + i.val; omega)
  rw [e, if_neg (by show ¬ 64 + i.val < 64; omega)]

/-- Near key `j` of those from `base` on. -/
abbrev nearRow (base : ℕ) (hb : base ≤ 7424) (j : Fin 768) : Fin 8448 := ⟨base + j.val, by omega⟩

/-- Context key `j`. -/
abbrev ctxRow (j : Fin 256) : Fin 8448 := ⟨8192 + j.val, by omega⟩

/-- Which of the two heads lane `l` is on. -/
abbrev half (l : Fin 128) : Fin 2 := ⟨l.val / 64, by omega⟩

/-- Lane `d` of head `h`'s 64. -/
abbrev lane (h : Fin 2) (d : Fin 64) : Fin 128 := ⟨64 * h.val + d.val, by omega⟩

variable (Q : Fin 256 → Fin 128 → ℝ) (K : Fin 8448 → Fin 128 → ℝ) (B : Fin 2 → Fin 256 → Fin 768 → ℝ)

/-- Row `r`'s score against near key `j` of those from `base` on, for head `h` of the two. -/
def near (base : ℕ) (hb : base ≤ 7424) (h : Fin 2) (r : Fin 256) (j : Fin 768) : ℝ :=
  ∑ d : Fin 64, Q r (lane h d) * K (nearRow base hb j) (lane h d) + B h r j

/-- Row `r`'s score against context key `j`. -/
def ctx (h : Fin 2) (r j : Fin 256) : ℝ :=
  ∑ d : Fin 64, Q r (lane h d) * K (ctxRow j) (lane h d)

section Scores

variable (v6 : Vec Ideal S1x256x128 .bf16) (v10 : Vec Ideal S1x768x128 .bf16) (v15 : Vec Ideal S1x256x128 .bf16)
  (v24 v56 : Vec Ideal S1x1x1x256x768 .f32) (base : ℕ) (hb : base ≤ 7424)
  (hQ : ∀ r d, v6 (ix3 0 r d) = ((Q r d : ℝ) : EReal)) (hK : ∀ (j : Fin 768) d, v10 (ix3 0 j d) = ((K (nearRow base hb j) d : ℝ) : EReal))
  (hC : ∀ (j : Fin 256) d, v15 (ix3 0 j d) = ((K (ctxRow j) d : ℝ) : EReal))
  (hB0 : ∀ r j, v24 (ix5 0 0 0 r j) = ((B 0 r j : ℝ) : EReal)) (hB1 : ∀ r j, v56 (ix5 0 0 0 r j) = ((B 1 r j : ℝ) : EReal))

include hQ hK hB0 in
theorem near0 (r : Fin 256) (j : Fin 768) : k0_pay8 v6 v10 v24 (ix2 r j) = ((near Q K B base hb 0 r j : ℝ) : EReal) := by
  rw [pay8_apply]
  simp only [pay7_apply, pay3_apply]
  rw [sum_low (fun d => v6 (ix3 0 r d)) (fun d => v10 (ix3 0 j d))]
  unfold near
  rw [EReal.coe_add, coe_sum, hB0]
  simp only [hQ, hK, EReal.coe_mul]
  rfl

include hQ hC in
theorem ctx0 (r j : Fin 256) : k0_pay9 v6 v15 (ix2 r j) = ((ctx Q K 0 r j : ℝ) : EReal) := by
  rw [pay9_apply]
  simp only [pay7_apply, pay5_apply]
  rw [sum_low (fun d => v6 (ix3 0 r d)) (fun d => v15 (ix3 0 j d))]
  unfold ctx
  rw [coe_sum]
  simp only [hQ, hC, EReal.coe_mul]
  rfl

include hQ hK hB1 in
theorem near1 (r : Fin 256) (j : Fin 768) :
    k0_pay13 (k0_pay2 v6) lanes (k0_pay3 v10) v56 (ix2 r j) = ((near Q K B base hb 1 r j : ℝ) : EReal) := by
  rw [pay13_apply]
  simp only [pay12_apply, pay3_apply]
  rw [sum_high (fun d => v6 (ix3 0 r d)) (fun d => v10 (ix3 0 j d))]
  unfold near
  rw [EReal.coe_add, coe_sum, hB1]
  simp only [hQ, hK, EReal.coe_mul]
  rfl

include hQ hC in
theorem ctx1 (r j : Fin 256) : k0_pay14 (k0_pay2 v6) lanes (k0_pay5 v15) (ix2 r j) = ((ctx Q K 1 r j : ℝ) : EReal) := by
  rw [pay14_apply]
  simp only [pay12_apply, pay5_apply]
  rw [sum_high (fun d => v6 (ix3 0 r d)) (fun d => v15 (ix3 0 j d))]
  unfold ctx
  rw [coe_sum]
  simp only [hQ, hC, EReal.coe_mul]
  rfl

variable (v13 : Vec Ideal S1x768x128 .bf16) (v17 : Vec Ideal S1x256x128 .bf16) (M : ℝ)

include hQ hK hC hB0 in
/-- Head 0's quotient. -/
theorem head0 (r : Fin 256) (l : Fin 128) :
    k0_pay11 (k0_pay4 v13) (k0_pay6 v17) (k0_pay8 v6 v10 v24) (k0_pay9 v6 v15) (k0_pay10 v6 v10 v24) (ix2 r l)
      = mean2 (near Q K B base hb 0 r) (ctx Q K 0 r) (fun j => v13 (ix3 0 j l)) (fun j => v17 (ix3 0 j l)) M := by
  have hn := near0 Q K B v6 v10 v24 base hb hQ hK hB0 r
  have hc := ctx0 Q K v6 v15 hQ hC r
  have hx : ∃ μ : ℝ, shift (k0_pay9 v6 v15) (k0_pay10 v6 v10 v24) r = μ := by
    unfold shift
    rw [pay10_apply]
    exact max2_coe (by omega) (by omega) _ _ _ _ hn hc
  rw [pay11_apply]
  simp only [pay4_apply, pay6_apply]
  exact mean2_at (by omega) _ _ _ _ M _ _ _ hn hc hx

include hQ hK hC hB1 in
/-- Head 1's quotient. -/
theorem head1 (r : Fin 256) (l : Fin 128) :
    Ideal.div
      (∑ j : Fin 768, k0_pay16 (k0_pay2 v6) lanes (k0_pay3 v10) (k0_pay5 v15) v56 (ix2 r j) * k0_pay4 v13 (ix2 j l)
        + ∑ j : Fin 256, k0_pay17 (k0_pay2 v6) lanes (k0_pay3 v10) (k0_pay5 v15) v56 (ix2 r j) * k0_pay6 v17 (ix2 j l))
      (k0_pay18 (k0_pay2 v6) lanes (k0_pay3 v10) (k0_pay5 v15) v56 (ix1 r)
        + ∑ j : Fin 256, k0_pay17 (k0_pay2 v6) lanes (k0_pay3 v10) (k0_pay5 v15) v56 (ix2 r j))
      = mean2 (near Q K B base hb 1 r) (ctx Q K 1 r) (fun j => v13 (ix3 0 j l)) (fun j => v17 (ix3 0 j l)) M := by
  have hn := near1 Q K B v6 v10 v56 base hb hQ hK hB1 r
  have hc := ctx1 Q K v6 v15 hQ hC r
  have hx : ∃ μ : ℝ, k0_pay15 (k0_pay2 v6) lanes (k0_pay3 v10) (k0_pay5 v15) v56 (ix2 r 0) = μ := by
    rw [pay15_apply]
    exact max2_coe (by omega) (by omega) _ _ _ _ hn hc
  rw [pay18_apply]
  simp only [pay4_apply, pay6_apply, pay16_apply, pay17_apply]
  exact mean2_at (by omega) _ _ _ _ M _ _ _ hn hc hx

include hQ hK hC hB0 hB1 in
/-- The stored block. -/
theorem stored (r : Fin 256) (l : Fin 128) :
    k0_pay1 lanes (k0_pay4 v13) (k0_pay6 v17)
        (k0_pay11 (k0_pay4 v13) (k0_pay6 v17) (k0_pay8 v6 v10 v24) (k0_pay9 v6 v15) (k0_pay10 v6 v10 v24))
        (k0_pay16 (k0_pay2 v6) lanes (k0_pay3 v10) (k0_pay5 v15) v56) (k0_pay17 (k0_pay2 v6) lanes (k0_pay3 v10) (k0_pay5 v15) v56)
        (k0_pay18 (k0_pay2 v6) lanes (k0_pay3 v10) (k0_pay5 v15) v56) (ix3 0 r l)
      = mean2 (near Q K B base hb (half l) r) (ctx Q K (half l) r) (fun j => v13 (ix3 0 j l)) (fun j => v17 (ix3 0 j l)) M := by
  rw [pay1_apply]
  split
  · next h =>
    have e : half l = 0 := Fin.ext (by show l.val / 64 = 0; omega)
    rw [e]
    exact head0 Q K B v6 v10 v15 v24 base hb hQ hK hC hB0 v13 v17 M r l
  · next h =>
    have e : half l = 1 := Fin.ext (by show l.val / 64 = 1; omega)
    rw [e]
    exact head1 Q K B v6 v10 v15 v56 base hb hQ hK hC hB1 v13 v17 M r l

end Scores

/-- What one grid point stores, at row `r` and lane `l`. -/
theorem out_apply (c : Dev nD) (i : grid0.Coords) (arg3 : Memref sig .tc .vmem S1x256x128 .bf16) (harg3 : arg3.IsWhole)
    (arg4 : Memref sig .tc .vmem S1x8448x128 .bf16) (harg4 : arg4.IsWhole) (arg5 : Memref sig .tc .vmem S1x8448x128 .bf16) (harg5 : arg5.IsWhole)
    (arg6 : Memref sig .tc .vmem S1x1x2x256x768 .f32) (harg6 : arg6.IsWhole) (arg7 : Memref sig .tc .vmem S1x256x128 .f32) (harg7 : arg7.IsWhole)
    (x0 : Vec Ideal S1x256x128 .bf16) (x1 x2 : Vec Ideal S1x8448x128 .bf16) (x3 : Vec Ideal S1x1x2x256x768 .f32)
    (base : ℕ) (hb : base ≤ 7424) (hoff : k0_off1 i = ![0, base, 0])
    (hQ : ∀ r d, x0 (ix3 0 r d) = ((Q r d : ℝ) : EReal)) (hK : ∀ n d, x1 (ix3 0 n d) = ((K n d : ℝ) : EReal))
    (hB : ∀ h r j, x3 (ix5 0 0 h r j) = ((B h r j : ℝ) : EReal)) (M : ℝ) (r : Fin 256) (l : Fin 128) :
    out0_A_4 (F := Ideal) c i arg3 harg3 arg4 harg4 arg5 harg5 arg6 harg6 arg7 harg7 x0 x1 x2 x3 (ix3 0 r l)
      = mean2 (near Q K B base hb (half l) r) (ctx Q K (half l) r)
          (fun j => x2 (ix3 0 (nearRow base hb j) l)) (fun j => x2 (ix3 0 (ctxRow j) l)) M := by
  have hz : (![0, 0, 0] : Fin 3 → Nat) = fun _ => 0 := funext fun a => by fin_cases a <;> rfl
  have o0 : k0_off1 i 0 = 0 := congrFun hoff 0
  have o1 : k0_off1 i 1 = base := congrFun hoff 1
  have o2 : k0_off1 i 2 = 0 := congrFun hoff 2
  unfold out0_A_4
  rw [View.read_writes_eq_canon _ _ _ (cover0_A_4 c i arg3 harg3 arg4 harg4 arg5 harg5 arg6 harg6 arg7 harg7 x0 x1 x2 x3)]
  unfold kernelRun0_A
  dsimp only
  rw [View.canon_unit_zero hz]
  refine (stored Q K B _ _ _ _ _ base hb ?_ ?_ ?_ ?_ ?_ _ _ M r l).trans ?_
  · intro r d
    refine (harg3.readAt_unread x0 _ _).trans ?_
    rw [← hQ]
    congr 1
    funext a
    apply Fin.ext
    match a with
    | ⟨0, _⟩ => rfl
    | ⟨1, _⟩ => show 0 + 1 * r.val = r.val; omega
    | ⟨2, _⟩ => show 0 + 1 * d.val = d.val; omega
  · intro j d
    refine (harg4.readAt_unread x1 _ _).trans ?_
    rw [← hK]
    congr 1
    funext a
    apply Fin.ext
    match a with
    | ⟨0, _⟩ => show k0_off1 i 0 + 1 * 0 = 0; omega
    | ⟨1, _⟩ => show k0_off1 i 1 + 1 * j.val = base + j.val; omega
    | ⟨2, _⟩ => show k0_off1 i 2 + 1 * d.val = d.val; omega
  · intro j d
    refine (harg4.readAt_unread x1 _ _).trans ?_
    rw [← hK]
    congr 1
    funext a
    apply Fin.ext
    match a with
    | ⟨0, _⟩ => rfl
    | ⟨1, _⟩ => show 8192 + 1 * j.val = 8192 + j.val; omega
    | ⟨2, _⟩ => show 0 + 1 * d.val = d.val; omega
  · intro r j
    refine (harg6.readAt_unread x3 _ _).trans ?_
    rw [← hB]
    congr 1
    funext a
    apply Fin.ext
    match a with
    | ⟨0, _⟩ => rfl
    | ⟨1, _⟩ => rfl
    | ⟨2, _⟩ => rfl
    | ⟨3, _⟩ => show 0 + 1 * r.val = r.val; omega
    | ⟨4, _⟩ => show 0 + 1 * j.val = j.val; omega
  · intro r j
    refine (harg6.readAt_unread x3 _ _).trans ?_
    rw [← hB]
    congr 1
    funext a
    apply Fin.ext
    match a with
    | ⟨0, _⟩ => rfl
    | ⟨1, _⟩ => rfl
    | ⟨2, _⟩ => rfl
    | ⟨3, _⟩ => show 0 + 1 * r.val = r.val; omega
    | ⟨4, _⟩ => show 0 + 1 * j.val = j.val; omega
  · congr 1
    · funext j
      refine (harg5.readAt_unread x2 _ _).trans ?_
      congr 1
      funext a
      apply Fin.ext
      match a with
      | ⟨0, _⟩ => show k0_off1 i 0 + 1 * 0 = 0; omega
      | ⟨1, _⟩ => show k0_off1 i 1 + 1 * j.val = base + j.val; omega
      | ⟨2, _⟩ => show k0_off1 i 2 + 1 * l.val = l.val; omega
    · funext j
      refine (harg5.readAt_unread x2 _ _).trans ?_
      congr 1
      funext a
      apply Fin.ext
      match a with
      | ⟨0, _⟩ => rfl
      | ⟨1, _⟩ => show 8192 + 1 * j.val = 8192 + j.val; omega
      | ⟨2, _⟩ => show 0 + 1 * l.val = l.val; omega

end Cert.Kernel7Ideal.Block

end
-- ==== Proof.A7.lean ====
/-
  The near-window attention as a function of its arguments, and the kernel's result array, which is it.
-/
module

public import proofs.«01_k».proof.Proof.F7

@[expose] public section

set_option maxRecDepth 16384

noncomputable section

open Idealize.ShloMosaic Idealize.ShloMosaic.TcCoe Idealize.SL.Sem Cert.Softmax
open Idealize.ShloMosaic.Pipeline (Dat)

namespace Cert.Near

abbrev A : Shape := ⟨3, ![4, 8448, 1024]⟩
abbrev O : Shape := ⟨3, ![4, 8192, 1024]⟩
abbrev B : Shape := ⟨5, ![8, 4, 2, 256, 768]⟩

/-- The kind of bias of block `n`: the first block's, the last block's, or the one between. -/
def kind (n : ℕ) : Fin 4 := if n = 0 then 0 else if n = 31 then 2 else 1

/-- Row `r`'s score against its near key `j`, for head `h`. -/
def near (q k : A.Idx → EReal) (bs : B.Idx → EReal) (b : Fin 4) (h : Fin 16) (r : Fin 8192) (j : Fin 768) : ℝ :=
  ∑ d : Fin 64, (q (ix3 b ⟨r.val, by omega⟩ ⟨64 * h.val + d.val, by omega⟩)).toReal
      * (k (ix3 b ⟨256 * min (r.val / 256 - 1) 29 + j.val, by omega⟩ ⟨64 * h.val + d.val, by omega⟩)).toReal
    + (bs (ix5 ⟨h.val / 2, by omega⟩ (kind (r.val / 256)) ⟨h.val % 2, by omega⟩ ⟨r.val % 256, by omega⟩ j)).toReal

/-- Row `r`'s score against context key `j`, for head `h`. -/
def ctx (q k : A.Idx → EReal) (b : Fin 4) (h : Fin 16) (r : Fin 8192) (j : Fin 256) : ℝ :=
  ∑ d : Fin 64, (q (ix3 b ⟨r.val, by omega⟩ ⟨64 * h.val + d.val, by omega⟩)).toReal
      * (k (ix3 b ⟨8192 + j.val, by omega⟩ ⟨64 * h.val + d.val, by omega⟩)).toReal

/-- The attention at one index, the exponents shifted by any real `M`. -/
def attn (q k v : A.Idx → EReal) (bs : B.Idx → EReal) (M : ℝ) (b : Fin 4) (r : Fin 8192) (o : Fin 1024) : EReal :=
  mean2 (near q k bs b ⟨o.val / 64, by omega⟩ r) (ctx q k b ⟨o.val / 64, by omega⟩ r)
    (fun j => v (ix3 b ⟨256 * min (r.val / 256 - 1) 29 + j.val, by omega⟩ o)) (fun j => v (ix3 b ⟨8192 + j.val, by omega⟩ o)) M

end Cert.Near

namespace Cert.Kernel7Ideal.Final

open Cert.Kernel7Ideal Cert.Kernel7Ideal.Gen Cert.Near

variable (m : (ℓ : Loc nD τ sig) → Buf (Elt Ideal) ℓ) (ρ : Dev nD → PrngReg)

theorem off1 : ∀ t : Fin cfg0.N, k0_off1 (grid0.coords t) = ![0, 256 * min (t.val % 32 - 1) 29, 0] := by decide +kernel
theorem index0 : ∀ t : Fin cfg0.N, win0_0.index t = ![t.val / 32 % 4, t.val % 32, t.val / 128] := by decide +kernel
theorem index1 : ∀ t : Fin cfg0.N, win0_1.index t = ![t.val / 32 % 4, 0, t.val / 128] := by decide +kernel
theorem index2 : ∀ t : Fin cfg0.N, win0_2.index t = ![t.val / 32 % 4, 0, t.val / 128] := by decide +kernel
theorem index3 : ∀ t : Fin cfg0.N, win0_3.index t = ![t.val / 128, (kind (t.val % 32)).val, 0, 0, 0] := by decide +kernel
theorem index4 : ∀ t : Fin cfg0.N, win0_4.index t = ![t.val / 32 % 4, t.val % 32, t.val / 128] := by decide +kernel
theorem xsize4 : ∀ t : Fin cfg0.N, ∀ a, win0_4.xsize (grid0.coords t) a = S1x256x128.size a := by decide +kernel

theorem lt_N (t : Fin cfg0.N) : t.val < 1024 := lt_of_lt_of_eq t.isLt N_0

abbrev q (c : Dev nD) : A.Idx → EReal := m ((c : Thread nD τ).loc main_arg0)
abbrev k (c : Dev nD) : A.Idx → EReal := m ((c : Thread nD τ).loc main_arg1)
abbrev v (c : Dev nD) : A.Idx → EReal := m ((c : Thread nD τ).loc main_arg2)
abbrev bs (c : Dev nD) : B.Idx → EReal := m ((c : Thread nD τ).loc main_arg3)

/-- Point `t`'s query block. -/
theorem x0_apply (c : Dev nD) (t : Fin cfg0.N) (r : Fin 256) (d : Fin 128) :
    (iblk m c 0 t : S1x256x128.Idx → EReal) (ix3 0 r d)
      = q m c (ix3 ⟨t.val / 32 % 4, by omega⟩ ⟨256 * (t.val % 32) + r.val, by omega⟩ ⟨128 * (t.val / 128) + d.val, by have := lt_N t; omega⟩) := by
  unfold iblk
  rw [View.read_apply]
  show V m c main_arg0 _ = m (c.tc.loc main_arg0) _
  unfold V
  congr 1
  have i0 : win0_0.index t 0 = t.val / 32 % 4 := congrFun (index0 t) 0
  have i1 : win0_0.index t 1 = t.val % 32 := congrFun (index0 t) 1
  have i2 : win0_0.index t 2 = t.val / 128 := congrFun (index0 t) 2
  funext a
  apply Fin.ext
  match a with
  | ⟨0, _⟩ => show win0_0.index t 0 * 1 + 1 * 0 = t.val / 32 % 4; omega
  | ⟨1, _⟩ => show win0_0.index t 1 * 256 + 1 * r.val = 256 * (t.val % 32) + r.val; omega
  | ⟨2, _⟩ => show win0_0.index t 2 * 128 + 1 * d.val = 128 * (t.val / 128) + d.val; omega

/-- Point `t`'s keys. -/
theorem x1_apply (c : Dev nD) (t : Fin cfg0.N) (n : Fin 8448) (d : Fin 128) :
    (iblk m c 1 t : S1x8448x128.Idx → EReal) (ix3 0 n d)
      = k m c (ix3 ⟨t.val / 32 % 4, by omega⟩ n ⟨128 * (t.val / 128) + d.val, by have := lt_N t; omega⟩) := by
  unfold iblk
  rw [View.read_apply]
  show V m c main_arg1 _ = m (c.tc.loc main_arg1) _
  unfold V
  congr 1
  have i0 : win0_1.index t 0 = t.val / 32 % 4 := congrFun (index1 t) 0
  have i1 : win0_1.index t 1 = 0 := congrFun (index1 t) 1
  have i2 : win0_1.index t 2 = t.val / 128 := congrFun (index1 t) 2
  funext a
  apply Fin.ext
  match a with
  | ⟨0, _⟩ => show win0_1.index t 0 * 1 + 1 * 0 = t.val / 32 % 4; omega
  | ⟨1, _⟩ => show win0_1.index t 1 * 8448 + 1 * n.val = n.val; omega
  | ⟨2, _⟩ => show win0_1.index t 2 * 128 + 1 * d.val = 128 * (t.val / 128) + d.val; omega

/-- Point `t`'s values. -/
theorem x2_apply (c : Dev nD) (t : Fin cfg0.N) (n : Fin 8448) (d : Fin 128) :
    (iblk m c 2 t : S1x8448x128.Idx → EReal) (ix3 0 n d)
      = v m c (ix3 ⟨t.val / 32 % 4, by omega⟩ n ⟨128 * (t.val / 128) + d.val, by have := lt_N t; omega⟩) := by
  unfold iblk
  rw [View.read_apply]
  show V m c main_arg2 _ = m (c.tc.loc main_arg2) _
  unfold V
  congr 1
  have i0 : win0_2.index t 0 = t.val / 32 % 4 := congrFun (index2 t) 0
  have i1 : win0_2.index t 1 = 0 := congrFun (index2 t) 1
  have i2 : win0_2.index t 2 = t.val / 128 := congrFun (index2 t) 2
  funext a
  apply Fin.ext
  match a with
  | ⟨0, _⟩ => show win0_2.index t 0 * 1 + 1 * 0 = t.val / 32 % 4; omega
  | ⟨1, _⟩ => show win0_2.index t 1 * 8448 + 1 * n.val = n.val; omega
  | ⟨2, _⟩ => show win0_2.index t 2 * 128 + 1 * d.val = 128 * (t.val / 128) + d.val; omega

/-- Point `t`'s biases. -/
theorem x3_apply (c : Dev nD) (t : Fin cfg0.N) (h : Fin 2) (r : Fin 256) (j : Fin 768) :
    (iblk m c 3 t : S1x1x2x256x768.Idx → EReal) (ix5 0 0 h r j)
      = bs m c (ix5 ⟨t.val / 128, by have := lt_N t; omega⟩ (kind (t.val % 32)) h r j) := by
  unfold iblk
  rw [View.read_apply]
  show V m c main_arg3 _ = m (c.tc.loc main_arg3) _
  unfold V
  congr 1
  have i0 : win0_3.index t 0 = t.val / 128 := congrFun (index3 t) 0
  have i1 : win0_3.index t 1 = (kind (t.val % 32)).val := congrFun (index3 t) 1
  have i2 : win0_3.index t 2 = 0 := congrFun (index3 t) 2
  have i3 : win0_3.index t 3 = 0 := congrFun (index3 t) 3
  have i4 : win0_3.index t 4 = 0 := congrFun (index3 t) 4
  funext a
  apply Fin.ext
  match a with
  | ⟨0, _⟩ => show win0_3.index t 0 * 1 + 1 * 0 = t.val / 128; omega
  | ⟨1, _⟩ => show win0_3.index t 1 * 1 + 1 * 0 = (kind (t.val % 32)).val; omega
  | ⟨2, _⟩ => show win0_3.index t 2 * 2 + 1 * h.val = h.val; omega
  | ⟨3, _⟩ => show win0_3.index t 3 * 256 + 1 * r.val = r.val; omega
  | ⟨4, _⟩ => show win0_3.index t 4 * 768 + 1 * j.val = j.val; omega

/-- The attention as a whole array. -/
abbrev G (M : O.Idx → ℝ) (c : Dev nD) : O.Idx → EReal := fun i => attn (q m c) (k m c) (v m c) (bs m c) (M i) (i 0) (i 1) (i 2)

variable (hq : ∀ c i, q m c i = (((q m c i).toReal : ℝ) : EReal)) (hk : ∀ c i, k m c i = (((k m c i).toReal : ℝ) : EReal))
  (hb : ∀ c i, bs m c i = (((bs m c i).toReal : ℝ) : EReal))

include hq hk hb in
/-- What point `t` writes back is its block of the attention. -/
theorem flushed_eq (M : O.Idx → ℝ) (c : Dev nD) (t : Fin cfg0.N) :
    (dats m 0 c).flushed 4 t = ((cfg0.win 4).blk t).view.read (Elt Ideal) (G m M c) := by
  rw [Value.flushed4_A]
  funext y
  have h0 : (y 0).val < 1 := lt_of_lt_of_eq (y 0).isLt (xsize4 t 0)
  have h1 : (y 1).val < 256 := lt_of_lt_of_eq (y 1).isLt (xsize4 t 1)
  have h2 : (y 2).val < 128 := lt_of_lt_of_eq (y 2).isLt (xsize4 t 2)
  have i0 : win0_4.index t 0 = t.val / 32 % 4 := congrFun (index4 t) 0
  have i1 : win0_4.index t 1 = t.val % 32 := congrFun (index4 t) 1
  have i2 : win0_4.index t 2 = t.val / 128 := congrFun (index4 t) 2
  have ht := lt_N t
  have e : ((cfg0.win 4).blk t).view.emb y = (ix3 (⟨t.val / 32 % 4, by omega⟩ : Fin 4) (⟨256 * (t.val % 32) + (y 1).val, by omega⟩ : Fin 8192)
      (⟨128 * (t.val / 128) + (y 2).val, by omega⟩ : Fin 1024) : O.Idx) := by
    funext a
    apply Fin.ext
    match a with
    | ⟨0, _⟩ => show win0_4.index t 0 * 1 + 1 * (y 0).val = t.val / 32 % 4; omega
    | ⟨1, _⟩ => show win0_4.index t 1 * 256 + 1 * (y 1).val = 256 * (t.val % 32) + (y 1).val; omega
    | ⟨2, _⟩ => show win0_4.index t 2 * 128 + 1 * (y 2).val = 128 * (t.val / 128) + (y 2).val; omega
  rw [View.read_apply]
  show _ = G m M c (((cfg0.win 4).blk t).view.emb y)
  rw [e]
  have ey : ∀ X : S1x256x128.Idx → EReal, (cfg0.win 4).cut (grid0.coords t) X y = X (ix3 0 ⟨(y 1).val, h1⟩ ⟨(y 2).val, h2⟩) := by
    intro X
    show X _ = X _
    congr 1
    funext a
    apply Fin.ext
    match a with
    | ⟨0, _⟩ => show (y 0).val = 0; omega
    | ⟨1, _⟩ => rfl
    | ⟨2, _⟩ => rfl
  refine (ey _).trans ?_
  rw [Block.out_apply
    (fun r d => (q m c (ix3 ⟨t.val / 32 % 4, by omega⟩ ⟨256 * (t.val % 32) + r.val, by omega⟩ ⟨128 * (t.val / 128) + d.val, by omega⟩)).toReal)
    (fun n d => (k m c (ix3 ⟨t.val / 32 % 4, by omega⟩ n ⟨128 * (t.val / 128) + d.val, by omega⟩)).toReal)
    (fun h r j => (bs m c (ix5 ⟨t.val / 128, by omega⟩ (kind (t.val % 32)) h r j)).toReal)
    c (grid0.coords t) _ _ _ _ _ _ _ _ _ _ _ _ _ _ (256 * min (t.val % 32 - 1) 29) (by omega) (off1 t)
    (fun r d => (x0_apply m c t r d).trans (hq c _)) (fun n d => (x1_apply m c t n d).trans (hk c _))
    (fun h r j => (x3_apply m c t h r j).trans (hb c _))
    (M (ix3 (⟨t.val / 32 % 4, by omega⟩ : Fin 4) (⟨256 * (t.val % 32) + (y 1).val, by omega⟩ : Fin 8192)
      (⟨128 * (t.val / 128) + (y 2).val, by omega⟩ : Fin 1024)))]
  show _ = attn (q m c) (k m c) (v m c) (bs m c) (M (ix3 (⟨t.val / 32 % 4, by omega⟩ : Fin 4) (⟨256 * (t.val % 32) + (y 1).val, by omega⟩ : Fin 8192)
      (⟨128 * (t.val / 128) + (y 2).val, by omega⟩ : Fin 1024))) ⟨t.val / 32 % 4, by omega⟩ ⟨256 * (t.val % 32) + (y 1).val, by omega⟩
      ⟨128 * (t.val / 128) + (y 2).val, by omega⟩
  unfold attn
  have er : (256 * (t.val % 32) + (y 1).val) / 256 = t.val % 32 := by omega
  have em : (256 * (t.val % 32) + (y 1).val) % 256 = (y 1).val := by omega
  have eh : (128 * (t.val / 128) + (y 2).val) / 64 / 2 = t.val / 128 := by omega
  have eg : (128 * (t.val / 128) + (y 2).val) / 64 % 2 = (y 2).val / 64 := by omega
  have ed (d : ℕ) : 128 * (t.val / 128) + (64 * ((y 2).val / 64) + d) = 64 * ((128 * (t.val / 128) + (y 2).val) / 64) + d := by omega
  congr 1
  · funext j
    unfold Block.near near
    simp only [Block.lane, Block.nearRow, Block.half, er, em, eh, eg, ed]
  · funext j
    unfold Block.ctx ctx
    simp only [Block.lane, Block.ctxRow, Block.half, ed]
  · funext j
    refine (x2_apply m c t _ _).trans ?_
    simp only [Block.nearRow, er]
  · funext j
    exact x2_apply m c t _ _

/-- Every index is in the block of some point. -/
theorem cover (i : O.Idx) : ∃ t : Fin cfg0.N, (cfg0.win 4).flush t = true ∧ i ∈ ((cfg0.win 4).blk t).view.set := by
  have b0 : (i 0).val < 4 := (i 0).isLt
  have b1 : (i 1).val < 8192 := (i 1).isLt
  have b2 : (i 2).val < 1024 := (i 2).isLt
  have hN : cfg0.N = 1024 := N_0
  refine ⟨⟨128 * ((i 2).val / 128) + 32 * (i 0).val + (i 1).val / 256, by omega⟩, flush0_4 _, ?_⟩
  generalize ht : (⟨128 * ((i 2).val / 128) + 32 * (i 0).val + (i 1).val / 256, by omega⟩ : Fin cfg0.N) = t
  have htv : t.val = 128 * ((i 2).val / 128) + 32 * (i 0).val + (i 1).val / 256 := by rw [← ht]
  show i ∈ ((View.whole main_v0).slice (win0_4.rect t)).set
  rw [View.set_slice_whole, Rect.mem_set_unit]
  have i0 : win0_4.index t 0 = t.val / 32 % 4 := congrFun (index4 t) 0
  have i1 : win0_4.index t 1 = t.val % 32 := congrFun (index4 t) 1
  have i2 : win0_4.index t 2 = t.val / 128 := congrFun (index4 t) 2
  have s0 : win0_4.xsize (grid0.coords t) 0 = 1 := xsize4 t 0
  have s1 : win0_4.xsize (grid0.coords t) 1 = 256 := xsize4 t 1
  have s2 : win0_4.xsize (grid0.coords t) 2 = 128 := xsize4 t 2
  intro a
  match a with
  | ⟨0, _⟩ => show win0_4.index t 0 * 1 ≤ (i 0 : Nat) ∧ (i 0 : Nat) < win0_4.index t 0 * 1 + win0_4.xsize (grid0.coords t) 0; omega
  | ⟨1, _⟩ => show win0_4.index t 1 * 256 ≤ (i 1 : Nat) ∧ (i 1 : Nat) < win0_4.index t 1 * 256 + win0_4.xsize (grid0.coords t) 1; omega
  | ⟨2, _⟩ => show win0_4.index t 2 * 128 ≤ (i 2 : Nat) ∧ (i 2 : Nat) < win0_4.index t 2 * 128 + win0_4.xsize (grid0.coords t) 2; omega

include hq hk hb in
/-- The result array. -/
theorem final_apply (M : O.Idx → ℝ) (c : Dev nD) (i : O.Idx) : (dats m 0 c).arrAt 4 cfg0.N i = G m M c i :=
  ((dats m 0 c).arrAt_eq_piecewise 4 (G m M c) (fun t _ => flushed_eq m hq hk hb M c t) i).trans (if_pos (cover i))

end Cert.Kernel7Ideal.Final

end
-- ==== Proof.R7.lean ====
/-
  The near-window attention's reference at an index: queries and keys in blocks of 256 rows, three neighbouring blocks of keys side by
  side, the biases by kind of block.
-/
module

public import proofs.«01_k».proof.Proof.A7
public import proofs.«01_k».proof.Proof.Gen.Reference7Ideal.Read

@[expose] public section

set_option maxRecDepth 16384

noncomputable section

open Idealize.ShloMosaic Idealize.ShloMosaic.TcCoe Cert.Softmax Cert.Near

namespace Cert.Reference7Ideal.Final

open Cert.Reference7Ideal Cert.Reference7Ideal.Gen Cert.Reference7Ideal.Read

/-- Row `r` of block `n`, among the latent rows and among all. -/
abbrev row (n : Fin 32) (r : Fin 256) : Fin 8192 := ⟨256 * n.val + r.val, by omega⟩
abbrev rowA (n : Fin 32) (r : Fin 256) : Fin 8448 := ⟨256 * n.val + r.val, by omega⟩

/-- Lane `e` of head `h`. -/
abbrev lane (h : Fin 16) (e : Fin 64) : Fin 1024 := ⟨64 * h.val + e.val, by omega⟩

/-- Near key `j` of block `n`. -/
abbrev nearRow (n : Fin 32) (j : Fin 768) : Fin 8448 := ⟨256 * min (n.val - 1) 29 + j.val, by omega⟩

/-- Context key `j`. -/
abbrev ctxRow (j : Fin 256) : Fin 8448 := ⟨8192 + j.val, by omega⟩

/-- The pair of head `h`, and its place in it. -/
abbrev pair (h : Fin 16) : Fin 8 := ⟨h.val / 2, by omega⟩
abbrev half (h : Fin 16) : Fin 2 := ⟨h.val % 2, by omega⟩

/-- The block's first near block, `d` blocks on. -/
abbrev block (n : Fin 30) (d : Fin 3) : Fin 32 := ⟨n.val + d.val, by omega⟩

/-- Near key `j`'s block among the three, and its row there. -/
abbrev third (j : Fin 768) : Fin 3 := ⟨j.val / 256, by omega⟩
abbrev inner (j : Fin 768) : Fin 256 := ⟨j.val % 256, by omega⟩

/-- The first near block of block `n`. -/
abbrev base (n : Fin 32) : Fin 30 := ⟨min (n.val - 1) 29, by omega⟩

variable (x0 x1 x2 : (⟨S4x8448x1024, .bf16⟩ : BufTy).Contents (Elt Ideal)) (x3 : (⟨S8x4x2x256x768, .f32⟩ : BufTy).Contents (Elt Ideal))

/-- A block's queries. -/
theorem v2_at (b : Fin 4) (n : Fin 32) (r : Fin 256) (h : Fin 16) (e : Fin 64) :
    val_main_v2 (F := Ideal) x0 (ix5 b n r h e) = x0 (ix3 b (rowA n r) (lane h e)) := by
  rw [val_main_v2_apply, val_main_v1_apply]
  show x0 _ = x0 _
  congr 1
  funext a
  apply Fin.ext
  match a with
  | ⟨0, _⟩ => show ((((b.val * 32 + n.val) * 256 + r.val) * 16 + h.val) * 64 + e.val) / 8388608 = b.val; omega
  | ⟨1, _⟩ => show ((((b.val * 32 + n.val) * 256 + r.val) * 16 + h.val) * 64 + e.val) / 1024 % 8192 = 256 * n.val + r.val; omega
  | ⟨2, _⟩ => show ((((b.val * 32 + n.val) * 256 + r.val) * 16 + h.val) * 64 + e.val) % 1024 = 64 * h.val + e.val; omega

/-- A block's keys. -/
theorem v6_eq : val_main_v6 (F := Ideal) x1 = val_main_v2 (F := Ideal) x1 := rfl

/-- Three neighbouring blocks side by side. -/
theorem v10_at (b : Fin 4) (n : Fin 30) (j : Fin 768) (h : Fin 16) (e : Fin 64) :
    val_main_v10 (F := Ideal) x1 (ix5 b n j h e) = val_main_v6 (F := Ideal) x1 (ix5 b (block n (third j)) (inner j) h e) := by
  unfold val_main_v10 val_main_v7 val_main_v8 val_main_v9
  generalize val_main_v6 (F := Ideal) x1 = y
  pointwise
  split
  · next h1 => simp only [show third j = 0 from Fin.ext (by show j.val / 256 = 0; omega), show inner j = ⟨j.val, by omega⟩ from Fin.ext (by show j.val % 256 = j.val; omega)]; rfl
  · split
    · next h1 h2 =>
      rw [show third j = 1 from Fin.ext (by show j.val / 256 = 1; omega), show inner j = ⟨j.val - 256, by omega⟩ from Fin.ext (by show j.val % 256 = j.val - 256; omega),
        show block n 1 = ⟨1 + n.val, by omega⟩ from Fin.ext (by show n.val + 1 = 1 + n.val; omega)]
    · next h1 h2 =>
      rw [show third j = 2 from Fin.ext (by show j.val / 256 = 2; omega), show inner j = ⟨j.val - 256 - 256, by omega⟩ from Fin.ext (by show j.val % 256 = j.val - 256 - 256; omega),
        show block n 2 = ⟨2 + n.val, by omega⟩ from Fin.ext (by show n.val + 2 = 2 + n.val; omega)]

/-- The blocks at the ends look where the next block in does. -/
theorem v13_at (b : Fin 4) (n : Fin 32) (j : Fin 768) (h : Fin 16) (e : Fin 64) :
    val_main_v13 (F := Ideal) x1 (ix5 b n j h e) = val_main_v10 (F := Ideal) x1 (ix5 b (base n) j h e) := by
  unfold val_main_v13 val_main_v11 val_main_v12
  generalize val_main_v10 (F := Ideal) x1 = y
  pointwise
  split
  · next h1 => rw [show base n = ⟨n.val, by omega⟩ from Fin.ext (by show min (n.val - 1) 29 = n.val; omega)]
  · split
    · next h1 h2 => rw [show base n = ⟨n.val - 1, by omega⟩ from Fin.ext (by show min (n.val - 1) 29 = n.val - 1; omega)]
    · next h1 h2 => rw [show base n = ⟨29 + (n.val - 1 - 30), by omega⟩ from Fin.ext (by show min (n.val - 1) 29 = 29 + (n.val - 1 - 30); omega)]

theorem k_at (b : Fin 4) (n : Fin 32) (j : Fin 768) (h : Fin 16) (e : Fin 64) :
    val_main_v13 (F := Ideal) x1 (ix5 b n j h e) = x1 (ix3 b (nearRow n j) (lane h e)) := by
  rw [v13_at, v10_at, v6_eq, v2_at]
  congr 2
  apply Fin.ext
  show 256 * (min (n.val - 1) 29 + j.val / 256) + j.val % 256 = 256 * min (n.val - 1) 29 + j.val
  omega

theorem v22_eq : val_main_v22 (F := Ideal) x2 = val_main_v13 (F := Ideal) x2 := rfl

/-- The context keys. -/
theorem v24_at (b : Fin 4) (j : Fin 256) (h : Fin 16) (e : Fin 64) :
    val_main_v24 (F := Ideal) x1 (ix4 b j h e) = x1 (ix3 b (ctxRow j) (lane h e)) := by
  rw [val_main_v24_apply, val_main_v23_apply]
  show x1 _ = x1 _
  congr 1
  funext a
  apply Fin.ext
  match a with
  | ⟨0, _⟩ => show (((b.val * 256 + j.val) * 16 + h.val) * 64 + e.val) / 262144 = b.val; omega
  | ⟨1, _⟩ => show 8192 + (((b.val * 256 + j.val) * 16 + h.val) * 64 + e.val) / 1024 % 256 = 8192 + j.val; omega
  | ⟨2, _⟩ => show (((b.val * 256 + j.val) * 16 + h.val) * 64 + e.val) % 1024 = 64 * h.val + e.val; omega

theorem v26_eq : val_main_v26 (F := Ideal) x2 = val_main_v24 (F := Ideal) x2 := rfl

/-- A bias's place, from its head's, its row's and its key's. -/
theorem bias_idx (k : Fin 4) (h : Fin 16) (r : Fin 256) (j : Fin 768) (i : S8x1x2x256x768.Idx) (x : S8x4x2x256x768.Idx)
    (e : i = idx_main_v28 (idx_main_v29 (ix4 0 h r j)))
    (h0 : (x 0).val = (i 0).val) (h1 : (x 1).val = k.val) (h2 : (x 2).val = (i 2).val) (h3 : (x 3).val = (i 3).val) (h4 : (x 4).val = (i 4).val) :
    x = ix5 (pair h) k (half h) r j := by
  subst e
  have a0 : ((0 * 16 + h.val) * 256 + r.val) * 768 + j.val = (h.val * 256 + r.val) * 768 + j.val := by omega
  have b0 : ((0 * 16 + h.val) * 256 + r.val) * 768 + j.val = 393216 * (h.val / 2) + 196608 * (h.val % 2) + 768 * r.val + j.val := by omega
  have c0 : (((0 * 16 + h.val) * 256 + r.val) * 768 + j.val) / 393216 = h.val / 2 := by omega
  have c1 : (((0 * 16 + h.val) * 256 + r.val) * 768 + j.val) / 196608 % 2 = h.val % 2 := by omega
  have c2 : (((0 * 16 + h.val) * 256 + r.val) * 768 + j.val) / 768 % 256 = r.val := by omega
  have c3 : (((0 * 16 + h.val) * 256 + r.val) * 768 + j.val) % 768 = j.val := by omega
  have f0 : (x 0).val = ((((((0 * 16 + h.val) * 256 + r.val) * 768 + j.val) / 393216 * 2 + (((0 * 16 + h.val) * 256 + r.val) * 768 + j.val) / 196608 % 2) * 256
      + (((0 * 16 + h.val) * 256 + r.val) * 768 + j.val) / 768 % 256) * 768 + (((0 * 16 + h.val) * 256 + r.val) * 768 + j.val) % 768) / 393216 := h0
  have f2 : (x 2).val = ((((((0 * 16 + h.val) * 256 + r.val) * 768 + j.val) / 393216 * 2 + (((0 * 16 + h.val) * 256 + r.val) * 768 + j.val) / 196608 % 2) * 256
      + (((0 * 16 + h.val) * 256 + r.val) * 768 + j.val) / 768 % 256) * 768 + (((0 * 16 + h.val) * 256 + r.val) * 768 + j.val) % 768) / 196608 % 2 := h2
  have f3 : (x 3).val = ((((((0 * 16 + h.val) * 256 + r.val) * 768 + j.val) / 393216 * 2 + (((0 * 16 + h.val) * 256 + r.val) * 768 + j.val) / 196608 % 2) * 256
      + (((0 * 16 + h.val) * 256 + r.val) * 768 + j.val) / 768 % 256) * 768 + (((0 * 16 + h.val) * 256 + r.val) * 768 + j.val) % 768) / 768 % 256 := h3
  have f4 : (x 4).val = ((((((0 * 16 + h.val) * 256 + r.val) * 768 + j.val) / 393216 * 2 + (((0 * 16 + h.val) * 256 + r.val) * 768 + j.val) / 196608 % 2) * 256
      + (((0 * 16 + h.val) * 256 + r.val) * 768 + j.val) / 768 % 256) * 768 + (((0 * 16 + h.val) * 256 + r.val) * 768 + j.val) % 768) % 768 := h4
  rw [c0, c1, c2, c3] at f0 f2 f3 f4
  funext a
  apply Fin.ext
  match a with
  | ⟨0, _⟩ => exact f0.trans (show _ = h.val / 2 by omega)
  | ⟨1, _⟩ => exact h1
  | ⟨2, _⟩ => exact f2.trans (show _ = h.val % 2 by omega)
  | ⟨3, _⟩ => exact f3.trans (show _ = r.val by omega)
  | ⟨4, _⟩ => exact f4.trans (show _ = j.val by omega)

/-- The biases of the three kinds of block. -/
theorem v29_at (h : Fin 16) (r : Fin 256) (j : Fin 768) :
    val_main_v29 (F := Ideal) x3 (ix4 0 h r j) = x3 (ix5 (pair h) 0 (half h) r j) := by
  rw [val_main_v29_apply, val_main_v28_apply, val_main_v27_apply]
  exact congrArg x3 (bias_idx 0 h r j (idx_main_v28 (idx_main_v29 (ix4 0 h r j))) _ rfl rfl rfl rfl rfl rfl)

theorem v32_at (h : Fin 16) (r : Fin 256) (j : Fin 768) :
    val_main_v32 (F := Ideal) x3 (ix4 0 h r j) = x3 (ix5 (pair h) 1 (half h) r j) := by
  rw [val_main_v32_apply, val_main_v31_apply, val_main_v30_apply]
  exact congrArg x3 (bias_idx 1 h r j (idx_main_v31 (idx_main_v32 (ix4 0 h r j))) _ rfl rfl rfl rfl rfl rfl)

theorem v35_at (h : Fin 16) (r : Fin 256) (j : Fin 768) :
    val_main_v35 (F := Ideal) x3 (ix4 0 h r j) = x3 (ix5 (pair h) 2 (half h) r j) := by
  rw [val_main_v35_apply, val_main_v34_apply, val_main_v33_apply]
  exact congrArg x3 (bias_idx 2 h r j (idx_main_v34 (idx_main_v35 (ix4 0 h r j))) _ rfl rfl rfl rfl rfl rfl)

theorem v37_at (n : Fin 32) (h : Fin 16) (r : Fin 256) (j : Fin 768) :
    val_main_v37 (F := Ideal) x3 (ix4 n h r j) = x3 (ix5 (pair h) (kind n.val) (half h) r j) := by
  have e : val_main_v37 (F := Ideal) x3 (ix4 n h r j) = if n.val < 1 then val_main_v29 (F := Ideal) x3 (ix4 0 h r j)
      else if n.val - 1 < 30 then val_main_v32 (F := Ideal) x3 (ix4 0 h r j) else val_main_v35 (F := Ideal) x3 (ix4 0 h r j) := by
    unfold val_main_v37 val_main_v36
    generalize val_main_v29 (F := Ideal) x3 = y0
    generalize val_main_v32 (F := Ideal) x3 = y1
    generalize val_main_v35 (F := Ideal) x3 = y2
    pointwise
    split
    · next h1 => exact congrArg (fun u => y0 (ix4 u h r j)) (Fin.ext (by show n.val = 0; omega))
    · split
      · rfl
      · next h1 h2 => exact congrArg (fun u => y2 (ix4 u h r j)) (Fin.ext (by show n.val - 1 - 30 = 0; omega))
  rw [e, v29_at, v32_at, v35_at]
  unfold kind
  by_cases h0 : n.val = 0
  · rw [if_pos (by omega), if_pos h0]
  · by_cases h1 : n.val = 31
    · rw [if_neg (by omega), if_neg (by omega), if_neg h0, if_pos h1]
    · rw [if_neg (by omega), if_pos (by omega), if_neg h0, if_neg h1]

theorem v40_at (b : Fin 4) (n : Fin 32) (h : Fin 16) (r : Fin 256) (j : Fin 768) :
    val_main_v40 (F := Ideal) x3 (ix5 b n h r j) = val_main_v37 (F := Ideal) x3 (ix4 n h r j) := by
  unfold val_main_v40 val_main_v39
  generalize val_main_v37 (F := Ideal) x3 = y
  pointwise

theorem v38_at (b : Fin 4) (n : Fin 32) (h : Fin 16) (r : Fin 256) (j : Fin 768) :
    val_main_v38 (F := Ideal) x0 x1 (ix5 b n h r j) = ∑ d : Fin 64, val_main_v2 (F := Ideal) x0 (ix5 b n r h d) * val_main_v13 (F := Ideal) x1 (ix5 b n j h d) := by
  rw [val_main_v38_apply]
  refine Finset.sum_congr rfl fun d _ => ?_
  congr 2 <;> funext a <;> apply Fin.ext
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

theorem v42_at (b : Fin 4) (h : Fin 16) (j : Fin 256) (n : Fin 32) (r : Fin 256) :
    val_main_v42 (F := Ideal) x0 x1 (ix5 b h j n r) = ∑ d : Fin 64, val_main_v24 (F := Ideal) x1 (ix4 b j h d) * val_main_v2 (F := Ideal) x0 (ix5 b n r h d) := by
  rw [val_main_v42_apply]
  refine Finset.sum_congr rfl fun d _ => ?_
  congr 2 <;> funext a <;> apply Fin.ext
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl
    | ⟨4, _⟩ => rfl

theorem v43_at (b : Fin 4) (n : Fin 32) (h : Fin 16) (r j : Fin 256) :
    val_main_v43 (F := Ideal) x0 x1 (ix5 b n h r j) = val_main_v42 (F := Ideal) x0 x1 (ix5 b h j n r) := by
  rw [val_main_v43_apply]
  congr 1
  funext a
  apply Fin.ext
  match a with
  | ⟨0, _⟩ => rfl
  | ⟨1, _⟩ => rfl
  | ⟨2, _⟩ => rfl
  | ⟨3, _⟩ => rfl
  | ⟨4, _⟩ => rfl

/-- A near score, unscaled. -/
theorem v44_near (b : Fin 4) (n : Fin 32) (h : Fin 16) (r : Fin 256) (j : Fin 768) :
    val_main_v44 (F := Ideal) x0 x1 x3 (ix5 b n h r (Fin.castAdd 256 j : Fin 1024)) = val_main_v41 (F := Ideal) x0 x1 x3 (ix5 b n h r j) := by
  unfold val_main_v44
  generalize val_main_v41 (F := Ideal) x0 x1 x3 = y
  generalize val_main_v43 (F := Ideal) x0 x1 = z
  pointwise
  rw [dif_pos (show (Fin.castAdd 256 j).val < 768 from j.isLt)]
  rfl

/-- A context score, unscaled. -/
theorem v44_ctx (b : Fin 4) (n : Fin 32) (h : Fin 16) (r j : Fin 256) :
    val_main_v44 (F := Ideal) x0 x1 x3 (ix5 b n h r (Fin.natAdd 768 j : Fin 1024)) = val_main_v43 (F := Ideal) x0 x1 (ix5 b n h r j) := by
  unfold val_main_v44
  generalize val_main_v41 (F := Ideal) x0 x1 x3 = y
  generalize val_main_v43 (F := Ideal) x0 x1 = z
  pointwise
  rw [dif_neg (show ¬ (Fin.natAdd 768 j).val < 768 by show ¬ 768 + j.val < 768; omega)]
  exact congrArg z (congrArg (ix5 b n h r) (Fin.ext (by show 768 + j.val - 768 = j.val; omega)))

theorem v52_at (b : Fin 4) (n : Fin 32) (h : Fin 16) (r : Fin 256) (j : Fin 1024) :
    val_main_v52 (F := Ideal) x0 x1 x3 (ix5 b n h r j) = val_main_v50 (F := Ideal) x0 x1 x3 (ix4 b n h r) := by
  unfold val_main_v52 val_main_v51
  generalize val_main_v50 (F := Ideal) x0 x1 x3 = y
  pointwise

theorem v57_at (b : Fin 4) (n : Fin 32) (h : Fin 16) (r : Fin 256) (j : Fin 1024) :
    val_main_v57 (F := Ideal) x0 x1 x3 (ix5 b n h r j) = ∑ i : Fin 1024, val_main_v54 (F := Ideal) x0 x1 x3 (ix5 b n h r i) := by
  unfold val_main_v57 val_main_v56 val_main_v55 val_main_cst_2
  generalize val_main_v54 (F := Ideal) x0 x1 x3 = y
  pointwise

theorem v59_at (b : Fin 4) (n : Fin 32) (h : Fin 16) (r : Fin 256) (j : Fin 768) :
    val_main_v59 (F := Ideal) x0 x1 x3 (ix5 b n h r j) = val_main_v58 (F := Ideal) x0 x1 x3 (ix5 b n h r (Fin.castAdd 256 j : Fin 1024)) := by
  rw [val_main_v59_apply]
  congr 1
  funext a
  apply Fin.ext
  match a with
  | ⟨0, _⟩ => rfl
  | ⟨1, _⟩ => rfl
  | ⟨2, _⟩ => rfl
  | ⟨3, _⟩ => rfl
  | ⟨4, _⟩ => rfl

theorem v62_at (b : Fin 4) (n : Fin 32) (h : Fin 16) (r j : Fin 256) :
    val_main_v62 (F := Ideal) x0 x1 x3 (ix5 b n h r j) = val_main_v58 (F := Ideal) x0 x1 x3 (ix5 b n h r (Fin.natAdd 768 j : Fin 1024)) := by
  rw [val_main_v62_apply]
  congr 1
  funext a
  apply Fin.ext
  match a with
  | ⟨0, _⟩ => rfl
  | ⟨1, _⟩ => rfl
  | ⟨2, _⟩ => rfl
  | ⟨3, _⟩ => rfl
  | ⟨4, _⟩ => rfl

theorem v60_at (b : Fin 4) (n : Fin 32) (h : Fin 16) (e : Fin 64) (r : Fin 256) :
    val_main_v60 (F := Ideal) x0 x1 x2 x3 (ix5 b n h e r) = ∑ j : Fin 768, val_main_v22 (F := Ideal) x2 (ix5 b n j h e) * val_main_v59 (F := Ideal) x0 x1 x3 (ix5 b n h r j) := by
  rw [val_main_v60_apply]
  refine Finset.sum_congr rfl fun d _ => ?_
  congr 2 <;> funext a <;> apply Fin.ext
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

theorem v63_at (b : Fin 4) (h : Fin 16) (e : Fin 64) (n : Fin 32) (r : Fin 256) :
    val_main_v63 (F := Ideal) x0 x1 x2 x3 (ix5 b h e n r) = ∑ j : Fin 256, val_main_v26 (F := Ideal) x2 (ix4 b j h e) * val_main_v62 (F := Ideal) x0 x1 x3 (ix5 b n h r j) := by
  rw [val_main_v63_apply]
  refine Finset.sum_congr rfl fun d _ => ?_
  congr 2 <;> funext a <;> apply Fin.ext
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl
    | ⟨4, _⟩ => rfl

/-- The result's parts, at a block's row and a head's lane. -/
theorem v61_at (b : Fin 4) (n : Fin 32) (r : Fin 256) (h : Fin 16) (e : Fin 64) :
    val_main_v61 (F := Ideal) x0 x1 x2 x3 (ix5 b n r h e) = val_main_v60 (F := Ideal) x0 x1 x2 x3 (ix5 b n h e r) := by
  rw [val_main_v61_apply]
  congr 1
  funext a
  apply Fin.ext
  match a with
  | ⟨0, _⟩ => rfl
  | ⟨1, _⟩ => rfl
  | ⟨2, _⟩ => rfl
  | ⟨3, _⟩ => rfl
  | ⟨4, _⟩ => rfl

theorem v64_at (b : Fin 4) (n : Fin 32) (r : Fin 256) (h : Fin 16) (e : Fin 64) :
    val_main_v64 (F := Ideal) x0 x1 x2 x3 (ix5 b n r h e) = val_main_v63 (F := Ideal) x0 x1 x2 x3 (ix5 b h e n r) := by
  rw [val_main_v64_apply]
  congr 1
  funext a
  apply Fin.ext
  match a with
  | ⟨0, _⟩ => rfl
  | ⟨1, _⟩ => rfl
  | ⟨2, _⟩ => rfl
  | ⟨3, _⟩ => rfl
  | ⟨4, _⟩ => rfl

/-- Row `r`'s block, its row there, lane `o`'s head and its lane there. -/
abbrev blockOf (r : Fin 8192) : Fin 32 := ⟨r.val / 256, by omega⟩
abbrev rowOf (r : Fin 8192) : Fin 256 := ⟨r.val % 256, by omega⟩
abbrev headOf (o : Fin 1024) : Fin 16 := ⟨o.val / 64, by omega⟩
abbrev laneOf (o : Fin 1024) : Fin 64 := ⟨o.val % 64, by omega⟩

theorem v66_at (b : Fin 4) (r : Fin 8192) (o : Fin 1024) :
    val_main_v66 (F := Ideal) x0 x1 x2 x3 (ix3 b r o) = val_main_v65 (F := Ideal) x0 x1 x2 x3 (ix5 b (blockOf r) (rowOf r) (headOf o) (laneOf o)) := by
  rw [val_main_v66_apply]
  congr 1
  funext a
  apply Fin.ext
  match a with
  | ⟨0, _⟩ => show ((b.val * 8192 + r.val) * 1024 + o.val) / 8388608 = b.val; omega
  | ⟨1, _⟩ => show ((b.val * 8192 + r.val) * 1024 + o.val) / 262144 % 32 = r.val / 256; omega
  | ⟨2, _⟩ => show ((b.val * 8192 + r.val) * 1024 + o.val) / 1024 % 256 = r.val % 256; omega
  | ⟨3, _⟩ => show ((b.val * 8192 + r.val) * 1024 + o.val) / 64 % 16 = o.val / 64; omega
  | ⟨4, _⟩ => show ((b.val * 8192 + r.val) * 1024 + o.val) % 64 = o.val % 64; omega

theorem ofBits_two : Ideal.ofBits .f32 0x40000000#32 = ((2 : ℝ) : EReal) := by
  simp [Ideal.ofBits, Ideal.ieee, -EReal.coe_mul]; norm_num

theorem log_two : val_main_v45 (F := Ideal) ix0 = ((Real.log 2 : ℝ) : EReal) := by
  show Ideal.log (Ideal.ofBits .f32 0x40000000#32) = _
  rw [ofBits_two, Ideal.log_coe, if_neg (by norm_num)]

/-- Row `r` of block `n`'s block, row and scores. -/
theorem near_row (b : Fin 4) (n : Fin 32) (h : Fin 16) (r : Fin 256) (j : Fin 768) :
    near x0 x1 x3 b h (row n r) j = ∑ d : Fin 64, (x0 (ix3 b (rowA n r) (lane h d))).toReal * (x1 (ix3 b (nearRow n j) (lane h d))).toReal
      + (x3 (ix5 (pair h) (kind n.val) (half h) r j)).toReal := by
  have hn : (256 * n.val + r.val) / 256 = n.val := by omega
  have hr : (256 * n.val + r.val) % 256 = r.val := by omega
  unfold near
  simp only [hn, hr]

theorem ctx_row (b : Fin 4) (n : Fin 32) (h : Fin 16) (r j : Fin 256) :
    ctx x0 x1 b h (row n r) j = ∑ d : Fin 64, (x0 (ix3 b (rowA n r) (lane h d))).toReal * (x1 (ix3 b (ctxRow j) (lane h d))).toReal := rfl

/-- A row's scores, near and of the context. -/
def scores (b : Fin 4) (n : Fin 32) (h : Fin 16) (r : Fin 256) : Fin (768 + 256) → ℝ :=
  Fin.addCases (near x0 x1 x3 b h (row n r)) (ctx x0 x1 b h (row n r))

theorem mass_eq (b : Fin 4) (n : Fin 32) (h : Fin 16) (r : Fin 256) (M : ℝ) :
    ∑ i : Fin (768 + 256), Real.exp (scores x0 x1 x3 b n h r i * Real.log 2 - M) = mass (near x0 x1 x3 b h (row n r)) (ctx x0 x1 b h (row n r)) M := by
  rw [Fin.sum_univ_add]
  unfold mass scores
  simp only [Fin.addCases_left, Fin.addCases_right]

variable (hq : ∀ i, x0 i = (((x0 i).toReal : ℝ) : EReal)) (hk : ∀ i, x1 i = (((x1 i).toReal : ℝ) : EReal))
  (hb : ∀ i, x3 i = (((x3 i).toReal : ℝ) : EReal))

include hq hk hb in
theorem v41_at (b : Fin 4) (n : Fin 32) (h : Fin 16) (r : Fin 256) (j : Fin 768) :
    val_main_v41 (F := Ideal) x0 x1 x3 (ix5 b n h r j) = ((near x0 x1 x3 b h (row n r) j : ℝ) : EReal) := by
  rw [val_main_v41_apply, v38_at, v40_at, v37_at, near_row, EReal.coe_add, coe_sum, ← hb]
  refine congrArg (· + x3 (ix5 (pair h) (kind n.val) (half h) r j)) (Finset.sum_congr rfl fun d _ => ?_)
  rw [v2_at, k_at, EReal.coe_mul, ← hq, ← hk]

include hq hk in
theorem v43_coe (b : Fin 4) (n : Fin 32) (h : Fin 16) (r j : Fin 256) :
    val_main_v43 (F := Ideal) x0 x1 (ix5 b n h r j) = ((ctx x0 x1 b h (row n r) j : ℝ) : EReal) := by
  rw [v43_at, v42_at, ctx_row, coe_sum]
  refine Finset.sum_congr rfl fun d _ => ?_
  rw [v2_at, v24_at, EReal.coe_mul, ← hq, ← hk, mul_comm]

include hq hk hb in
theorem v47_at (b : Fin 4) (n : Fin 32) (h : Fin 16) (r : Fin 256) (j : Fin (768 + 256)) :
    val_main_v47 (F := Ideal) x0 x1 x3 (ix5 b n h r (j : Fin 1024)) = ((scores x0 x1 x3 b n h r j * Real.log 2 : ℝ) : EReal) := by
  have e : val_main_v46 (F := Ideal) (ix5 b n h r (j : Fin 1024)) = ((Real.log 2 : ℝ) : EReal) := by
    rw [val_main_v46_apply, ← log_two]
    rfl
  have e' : val_main_v44 (F := Ideal) x0 x1 x3 (ix5 b n h r (j : Fin 1024)) = ((scores x0 x1 x3 b n h r j : ℝ) : EReal) := by
    unfold scores
    refine Fin.addCases (fun i => ?_) (fun i => ?_) j
    · rw [v44_near, v41_at x0 x1 x3 hq hk hb, Fin.addCases_left]
    · rw [v44_ctx, v43_coe x0 x1 hq hk, Fin.addCases_right]
  rw [val_main_v47_apply, e, e', EReal.coe_mul]
  rfl

include hq hk hb in
/-- The row's greatest score is a real. -/
theorem v50_at (b : Fin 4) (n : Fin 32) (h : Fin 16) (r : Fin 256) : ∃ M : ℝ, val_main_v50 (F := Ideal) x0 x1 x3 (ix4 b n h r) = (M : EReal) := by
  have hinit : val_main_cst_0 (F := Ideal) (Shape.Idx.first h_S_) = (⊥ : EReal) := Kernel7Ideal.Trip.ofBits_negInf
  have h49 : val_main_v49 (F := Ideal) (ix4 b n h r) = (⊥ : EReal) := by
    rw [val_main_v49_apply]; exact Kernel7Ideal.Trip.ofBits_negInf
  have hne : (Finset.univ.filter fun i => reducesTo_S4x32x16x256x1024_S4x32x16x256_d4.drop i = ix4 b n h r).Nonempty :=
    ⟨ix5 b n h r 0, Finset.mem_filter.mpr ⟨Finset.mem_univ _, funext fun a => match a with | ⟨0, _⟩ => rfl | ⟨1, _⟩ => rfl | ⟨2, _⟩ => rfl | ⟨3, _⟩ => rfl⟩⟩
  have hreal : ∀ i, ∃ M : ℝ, val_main_v47 (F := Ideal) x0 x1 x3 i = (M : EReal) := fun i => by
    rw [eq_ix5 i]
    exact ⟨_, v47_at x0 x1 x3 hq hk hb (i 0) (i 1) (i 2) (i 3) (i 4)⟩
  obtain ⟨M, hM⟩ := (KernelIdeal.Fold.fold_max_coe (val_main_v47 (F := Ideal) x0 x1 x3) hreal _).resolve_left hne.ne_empty
  refine ⟨M, ?_⟩
  rw [val_main_v50_apply, h49]
  unfold val_main_v48
  generalize val_main_v47 (F := Ideal) x0 x1 x3 = y at hM ⊢
  rw [Host.reduce_eq_fold, hinit]
  exact (bot_sup_eq _).trans hM

include hq hk hb in
theorem v54_at (b : Fin 4) (n : Fin 32) (h : Fin 16) (r : Fin 256) (j : Fin (768 + 256)) (M : ℝ)
    (hM : val_main_v50 (F := Ideal) x0 x1 x3 (ix4 b n h r) = (M : EReal)) :
    val_main_v54 (F := Ideal) x0 x1 x3 (ix5 b n h r (j : Fin 1024)) = ((Real.exp (scores x0 x1 x3 b n h r j * Real.log 2 - M) : ℝ) : EReal) := by
  rw [val_main_v54_apply, val_main_v53_apply, v52_at, hM, v47_at x0 x1 x3 hq hk hb]
  show Ideal.exp (((scores x0 x1 x3 b n h r j * Real.log 2 : ℝ) : EReal) - (M : EReal)) = _
  rw [← EReal.coe_sub]
  rfl

include hq hk hb in
theorem v58_at (b : Fin 4) (n : Fin 32) (h : Fin 16) (r : Fin 256) (j : Fin (768 + 256)) (M : ℝ)
    (hM : val_main_v50 (F := Ideal) x0 x1 x3 (ix4 b n h r) = (M : EReal)) :
    val_main_v58 (F := Ideal) x0 x1 x3 (ix5 b n h r (j : Fin 1024)) = Ideal.div ((Real.exp (scores x0 x1 x3 b n h r j * Real.log 2 - M) : ℝ) : EReal)
      ((mass (near x0 x1 x3 b h (row n r)) (ctx x0 x1 b h (row n r)) M : ℝ) : EReal) := by
  have e : val_main_v57 (F := Ideal) x0 x1 x3 (ix5 b n h r (j : Fin 1024)) = ((mass (near x0 x1 x3 b h (row n r)) (ctx x0 x1 b h (row n r)) M : ℝ) : EReal) := by
    rw [v57_at, ← mass_eq, coe_sum]
    exact Finset.sum_congr rfl fun i _ => v54_at x0 x1 x3 hq hk hb b n h r i M hM
  rw [val_main_v58_apply, v54_at x0 x1 x3 hq hk hb b n h r j M hM, e]
  rfl

include hq hk hb in
/-- The result at a block's row and a head's lane. -/
theorem v65_at (b : Fin 4) (n : Fin 32) (r : Fin 256) (h : Fin 16) (e : Fin 64) (M : ℝ)
    (hM : val_main_v50 (F := Ideal) x0 x1 x3 (ix4 b n h r) = (M : EReal)) :
    val_main_v65 (F := Ideal) x0 x1 x2 x3 (ix5 b n r h e) = mean2 (near x0 x1 x3 b h (row n r)) (ctx x0 x1 b h (row n r))
      (fun j => x2 (ix3 b (nearRow n j) (lane h e))) (fun j => x2 (ix3 b (ctxRow j) (lane h e))) M := by
  rw [val_main_v65_apply, v61_at, v64_at, v60_at, v63_at, v22_eq, v26_eq]
  unfold mean2
  refine congrArg₂ (· + ·) (Finset.sum_congr rfl fun j _ => ?_) (Finset.sum_congr rfl fun j _ => ?_)
  · rw [k_at, v59_at, v58_at x0 x1 x3 hq hk hb b n h r (Fin.castAdd 256 j) M hM, mul_comm]
    unfold scores
    rw [Fin.addCases_left]
  · rw [v24_at, v62_at, v58_at x0 x1 x3 hq hk hb b n h r (Fin.natAdd 768 j) M hM, mul_comm]
    unfold scores
    rw [Fin.addCases_right]

include hq hk hb in
/-- The reference's result at (b, r, o). -/
theorem result_at (b : Fin 4) (r : Fin 8192) (o : Fin 1024) :
    ∃ M : ℝ, val_main_v66 (F := Ideal) x0 x1 x2 x3 (ix3 b r o) = attn x0 x1 x2 x3 M b r o := by
  obtain ⟨M, hM⟩ := v50_at x0 x1 x3 hq hk hb b (blockOf r) (headOf o) (rowOf r)
  refine ⟨M, ?_⟩
  rw [v66_at, v65_at x0 x1 x2 x3 hq hk hb _ _ _ _ _ M hM]
  have hr : row (blockOf r) (rowOf r) = r := Fin.ext (by show 256 * (r.val / 256) + r.val % 256 = r.val; omega)
  have ho : lane (headOf o) (laneOf o) = o := Fin.ext (by show 64 * (o.val / 64) + o.val % 64 = o.val; omega)
  rw [hr, ho]
  rfl

end Cert.Reference7Ideal.Final

end
-- ==== Proof.C7.lean ====
/-
  The claims of the near-window attention.
-/
module

public import proofs.«01_k».proof.Defs
public import proofs.«01_k».proof.Proof.Claims
public import proofs.«01_k».proof.Proof.R7
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Pre_finite_scores

@[expose] public section

set_option maxRecDepth 16384

noncomputable section

open Idealize.ShloMosaic Idealize.ShloMosaic.TcCoe Idealize.SL.Sem Cert.Near

namespace Cert.Pre_finite_scores

variable (x0 x1 x2 : FVec Ideal S4x8448x1024 .bf16) (x3 : FVec Ideal S8x4x2x256x768 .f32)

theorem fn_fst (h : (fn (F := Ideal) x0 x1 x2 x3).1 = fun _ => 1#1) (i : S4x8448x1024.Idx) : x0 i = ((x0 i).toReal : EReal) :=
  Pre_finite_scores_ones_lane.real_of_lt _ (congrFun h i)

theorem fn_snd (h : (fn (F := Ideal) x0 x1 x2 x3).2.1 = fun _ => 1#1) (i : S4x8448x1024.Idx) : x1 i = ((x1 i).toReal : EReal) :=
  Pre_finite_scores_ones_lane.real_of_lt _ (congrFun h i)

theorem fn_thd (h : (fn (F := Ideal) x0 x1 x2 x3).2.2 = fun _ => 1#1) (i : S8x4x2x256x768.Idx) : x3 i = ((x3 i).toReal : EReal) :=
  Pre_finite_scores_ones_lane.real_of_lt _ (congrFun h i)

end Cert.Pre_finite_scores

namespace Cert.Proof

/-- A finished device, its semaphores at zero and its arguments kept: the translated program and the idealized one. -/
theorem quiescent_kernel7 : Cert.quiescent_Kernel7 := fun m ρ _ => Cert.Kernel7.Gen.frame m ρ
theorem quiescent_kernel7Ideal : Cert.quiescent_Kernel7Ideal := fun m ρ _ => Cert.Kernel7Ideal.Gen.frame m ρ
theorem quiescent_kernel7Ideal_pre : Cert.quiescent_Kernel7Ideal_pre_finite_scores := fun m ρ _ => Cert.Kernel7Ideal.Gen.frame m ρ
theorem quiescent_reference7Ideal : Cert.quiescent_Reference7Ideal := fun m ρ _ =>
  (θ_run Cert.Reference7Ideal.defs _ _).mono
    (fun r h => ⟨fun c => (h c).2, Idealize.ShloMosaic.sem_eq_zero_of_no_sems (by decide) r.2⟩) (Cert.Reference7Ideal.Value.run (F := Ideal) m ρ)
theorem quiescent_reference7Ideal_pre : Cert.quiescent_Reference7Ideal_pre_finite_scores := fun m ρ _ => quiescent_reference7Ideal m ρ trivial

theorem algebraic7 : Cert.algebraic_Kernel7Ideal_Reference7Ideal_pre_finite_scores := by
  intro m ρ m' ρ' hpre hm
  have hq : ∀ c i, Kernel7Ideal.Final.q m c i = ((Kernel7Ideal.Final.q m c i).toReal : EReal) := fun c i =>
    Cert.Pre_finite_scores.fn_fst _ _ _ _ (hpre c).1 i
  have hk : ∀ c i, Kernel7Ideal.Final.k m c i = ((Kernel7Ideal.Final.k m c i).toReal : EReal) := fun c i =>
    Cert.Pre_finite_scores.fn_snd _ _ _ _ (hpre c).2.1 i
  have hb : ∀ c i, Kernel7Ideal.Final.bs m c i = ((Kernel7Ideal.Final.bs m c i).toReal : EReal) := fun c i =>
    Cert.Pre_finite_scores.fn_thd _ _ _ _ (hpre c).2.2 i
  have href := fun c (i : O.Idx) => Cert.Reference7Ideal.Final.result_at (Kernel7Ideal.Final.q m c) (Kernel7Ideal.Final.k m c) (Kernel7Ideal.Final.v m c)
    (Kernel7Ideal.Final.bs m c) (hq c) (hk c) (hb c) (i 0) (i 1) (i 2)
  choose M hM using href
  refine ⟨fun c => Kernel7Ideal.Final.G m (M c) c, ?_, ?_⟩
  · exact (θ_run Cert.Kernel7Ideal.defs _ _).mono (fun r h c => ⟨(h c).1.trans (funext fun i =>
        Kernel7Ideal.Final.final_apply m hq hk hb (M c) c i), (h c).2⟩)
      (Cert.Kernel7Ideal.Value.run_blocks m ρ)
  · refine (θ_run Cert.Reference7Ideal.defs _ _).mono (fun r h c => ⟨?_, (h c).2⟩) (Cert.Reference7Ideal.Value.run (F := Ideal) m' ρ')
    obtain ⟨e0, e1, e2, e3⟩ := hm c
    refine ((h c).1.trans (Cert.Reference7Ideal.Read.val_main_v66_eq _ _)).trans ?_
    rw [e0, e1, e2, e3]
    refine funext fun i => Eq.trans ?_ (hM c i)
    exact congrArg _ (eq_ix3 i)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores_ones_lane
public import proofs.«01_k».proof.Proof.Gen.Pre_finite_scores
public import proofs.«01_k».proof.Proof.Gen.On_latent_rows
public import proofs.«01_k».proof.Proof.Claims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.C2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.C3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.C4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.C5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.C6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.C7
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_scores_ones_lane.Gen.facts, Cert.Pre_finite_scores.Gen.facts, Cert.On_latent_rows.Gen.facts,
  quiescent_kernel, quiescent_kernelIdeal, quiescent_kernelIdeal_pre, quiescent_referenceIdeal,
  quiescent_referenceIdeal_pre, quiescent_kernel2, quiescent_kernel2Ideal, quiescent_reference2Ideal,
  quiescent_kernel3, quiescent_kernel3Ideal, quiescent_reference3Ideal, quiescent_kernel4,
  quiescent_kernel4Ideal, quiescent_reference4Ideal, quiescent_kernel5, quiescent_kernel5Ideal,
  quiescent_reference5Ideal, quiescent_kernel6, quiescent_kernel6Ideal, quiescent_reference6Ideal,
  quiescent_kernel7, quiescent_kernel7Ideal, quiescent_kernel7Ideal_pre, quiescent_reference7Ideal,
  quiescent_reference7Ideal_pre,
  trivial, algebraic, trivial, algebraic2, trivial, algebraic3,
  trivial, algebraic4, trivial, algebraic5, trivial, algebraic6,
  trivial, algebraic7⟩

end Cert.Proof

end
